-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decodable [hPre_decodable : Cert.Pre_decodable.Facts] (m : (ℓ : Loc Cert.KernelIdeal.nD Cert.KernelIdeal.τ Cert.KernelIdeal.sig) → Buf (Elt Ideal) ℓ) : Prop :=
  ∀ c : Dev Cert.KernelIdeal.nD,
    (Cert.Pre_decodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_decodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_decodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decodable [hPre_decodable : Cert.Pre_decodable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decodable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_decodable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_decodable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_decodable [hKernelIdeal : Cert.KernelIdeal.Facts] [hPre_decodable : Cert.Pre_decodable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decodable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_decodable [hReferenceIdeal : Cert.ReferenceIdeal.Facts] [hPre_decodable : Cert.Pre_decodable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decodable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S4480x2x1536 Cert.KernelIdeal.S4480x1x1536
  ∧ IdealRules.bf16_pair.BufferStatement Cert.KernelIdeal.S768x2x2048 Cert.KernelIdeal.S768x1x2048
  ∧ IdealRules.bf16_pair.Statement Cert.KernelIdeal.S16x1536 Cert.KernelIdeal.S8x1536
  ∧ IdealRules.bf16_pair.Statement Cert.KernelIdeal.S8x2x1536 Cert.KernelIdeal.S8x1x1536
  ∧ IdealRules.bf16_pair.Statement Cert.KernelIdeal.S16x2048 Cert.KernelIdeal.S8x2048
  ∧ IdealRules.bf16_pair.Statement Cert.KernelIdeal.S8x2x2048 Cert.KernelIdeal.S8x1x2048
  ∧ IdealRules.bf16_pair.Statement Cert.KernelIdeal.S4480x2x1536 Cert.KernelIdeal.S4480x1x1536
  ∧ IdealRules.bf16_pair.Statement Cert.KernelIdeal.S8960x1536 Cert.KernelIdeal.S4480x1536
  ∧ IdealRules.bf16_pair.Statement Cert.KernelIdeal.S768x2x2048 Cert.KernelIdeal.S768x1x2048
  ∧ IdealRules.bf16_pair.Statement Cert.KernelIdeal.S1536x2048 Cert.KernelIdeal.S768x2048
  ∧ IdealRules.bf16_pair.PackStatement Cert.KernelIdeal.S256x128
  ∧ IdealRules.bf16_pair.Statement Cert.KernelIdeal.S256x2x128 Cert.KernelIdeal.S256x1x128

def algebraic_KernelIdeal_ReferenceIdeal_on_covered_pre_decodable [hKernelIdeal : Cert.KernelIdeal.Facts] [hReferenceIdeal : Cert.ReferenceIdeal.Facts] [hPre_decodable : Cert.Pre_decodable.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decodable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v23)) (v5 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 768, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v19) i = v0 c i)
          ∧ (∀ i : (⟨4, ![16, 768, 12, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v20) i = v1 c i)
          ∧ (∀ i : (⟨4, ![16, 768, 2, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v21) i = v2 c i)
          ∧ (∀ i : (⟨4, ![16, 768, 2, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v22) i = v3 c i)
          ∧ (∀ i : (⟨3, ![16, 768, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v23) i = v4 c i)
          ∧ (∀ i : (⟨3, ![16, 768, 48]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.KernelIdeal.nD Cert.KernelIdeal.τ).loc Cert.KernelIdeal.main_v24) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 768, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v11_0) i = v0 c i)
          ∧ (∀ i : (⟨4, ![16, 768, 12, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v11_1) i = v1 c i)
          ∧ (∀ i : (⟨4, ![16, 768, 2, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v11_2) i = v2 c i)
          ∧ (∀ i : (⟨4, ![16, 768, 2, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v11_3) i = v3 c i)
          ∧ (∀ i : (⟨3, ![16, 768, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v11_4) i = v4 c i)
          ∧ (∀ i : (⟨3, ![16, 768, 48]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 i = 1#1 → r.2.mem ((c.tc : Thread Cert.ReferenceIdeal.nD Cert.ReferenceIdeal.τ).loc Cert.ReferenceIdeal.main_v11_5) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_decodable : Cert.Pre_decodable.Facts) (hOn_covered : Cert.On_covered.Facts),
    quiescent_Kernel (hKernel := hKernel)
    ∧ quiescent_KernelIdeal (hKernelIdeal := hKernelIdeal)
    ∧ quiescent_KernelIdeal_pre_decodable (hKernelIdeal := hKernelIdeal) (hPre_decodable := hPre_decodable)
    ∧ quiescent_ReferenceIdeal (hReferenceIdeal := hReferenceIdeal)
    ∧ quiescent_ReferenceIdeal_pre_decodable (hReferenceIdeal := hReferenceIdeal) (hPre_decodable := hPre_decodable)
    ∧ preserves_Kernel_KernelIdeal
    ∧ algebraic_KernelIdeal_ReferenceIdeal_on_covered_pre_decodable (hKernelIdeal := hKernelIdeal) (hReferenceIdeal := hReferenceIdeal) (hPre_decodable := hPre_decodable) (hOn_covered := hOn_covered)
-- ==== On_covered.lean ====
abbrev S16x768x8960 : Shape := ⟨3, ![16, 768, 8960]⟩
abbrev S16x768x280 : Shape := ⟨3, ![16, 768, 280]⟩
abbrev S8960x1536 : Shape := ⟨2, ![8960, 1536]⟩
abbrev S280x1536 : Shape := ⟨2, ![280, 1536]⟩
abbrev S16x768x1536 : Shape := ⟨3, ![16, 768, 1536]⟩
abbrev S1536 : Shape := ⟨1, ![1536]⟩
abbrev S1536x2048 : Shape := ⟨2, ![1536, 2048]⟩
abbrev S48x2048 : Shape := ⟨2, ![48, 2048]⟩
abbrev S16x768 : Shape := ⟨2, ![16, 768]⟩
abbrev S_ : Shape := ⟨0, ![]⟩
abbrev S16x768x12x128 : Shape := ⟨4, ![16, 768, 12, 128]⟩
abbrev S16x768x2x128 : Shape := ⟨4, ![16, 768, 2, 128]⟩
abbrev S16x768x48 : Shape := ⟨3, ![16, 768, 48]⟩

class Facts : Prop where
  bcast_S_S16x768x1536 : S_.BroadcastsInDim S16x768x1536 (![] : Fin 0 → Fin S16x768x1536.rank)
  bcast_S_S16x768x12x128 : S_.BroadcastsInDim S16x768x12x128 (![] : Fin 0 → Fin S16x768x12x128.rank)
  bcast_S_S16x768x2x128 : S_.BroadcastsInDim S16x768x2x128 (![] : Fin 0 → Fin S16x768x2x128.rank)
  bcast_S_S16x768x48 : S_.BroadcastsInDim S16x768x48 (![] : Fin 0 → Fin S16x768x48.rank)

variable [Facts]

def fn {F : FTy → Type} [FloatOps F] (main_arg0 : FVec F S16x768x8960 .fp8e4m3) (main_arg1 : IVec S16x768x280 8) (main_arg2 : FVec F S8960x1536 .fp8e4m3) (main_arg3 : IVec S280x1536 8) (main_arg4 : FVec F S16x768x1536 .bf16) (main_arg5 : FVec F S1536 .f32) (main_arg6 : FVec F S1536x2048 .fp8e4m3) (main_arg7 : IVec S48x2048 8) (main_arg8 : IVec S16x768 32) : IVec S16x768x1536 1 × IVec S16x768x12x128 1 × IVec S16x768x2x128 1 × IVec S16x768x2x128 1 × IVec S16x768x1536 1 × IVec S16x768x48 1 :=
  let main_c : IVec S_ 1 := constantI S_ 1 1#1
  let main_v0 : IVec S16x768x1536 1 := broadcastInDim S16x768x1536 ![] bcast_S_S16x768x1536 main_c
  let main_c_0 : IVec S_ 1 := constantI S_ 1 0#1
  let main_v1 : IVec S16x768x12x128 1 := broadcastInDim S16x768x12x128 ![] bcast_S_S16x768x12x128 main_c_0
  let main_c_1 : IVec S_ 1 := constantI S_ 1 0#1
  let main_v2 : IVec S16x768x2x128 1 := broadcastInDim S16x768x2x128 ![] bcast_S_S16x768x2x128 main_c_1
  let main_c_2 : IVec S_ 1 := constantI S_ 1 0#1
  let main_v3 : IVec S16x768x2x128 1 := broadcastInDim S16x768x2x128 ![] bcast_S_S16x768x2x128 main_c_2
  let main_c_3 : IVec S_ 1 := constantI S_ 1 1#1
  let main_v4 : IVec S16x768x1536 1 := broadcastInDim S16x768x1536 ![] bcast_S_S16x768x1536 main_c_3
  let main_c_4 : IVec S_ 1 := constantI S_ 1 1#1
  let main_v5 : IVec S16x768x48 1 := broadcastInDim S16x768x48 ![] bcast_S_S16x768x48 main_c_4
  (main_v0, main_v1, main_v2, main_v3, main_v4, main_v5)
-- ==== Pre_decodable.lean ====
abbrev S16x768x8960 : Shape := ⟨3, ![16, 768, 8960]⟩
abbrev S16x768x280 : Shape := ⟨3, ![16, 768, 280]⟩
abbrev S8960x1536 : Shape := ⟨2, ![8960, 1536]⟩
abbrev S280x1536 : Shape := ⟨2, ![280, 1536]⟩
abbrev S16x768x1536 : Shape := ⟨3, ![16, 768, 1536]⟩
abbrev S1536 : Shape := ⟨1, ![1536]⟩
abbrev S1536x2048 : Shape := ⟨2, ![1536, 2048]⟩
abbrev S48x2048 : Shape := ⟨2, ![48, 2048]⟩
abbrev S16x768 : Shape := ⟨2, ![16, 768]⟩
abbrev S_ : Shape := ⟨0, ![]⟩

class Facts : Prop where
  bcast_S_S16x768x280 : S_.BroadcastsInDim S16x768x280 (![] : Fin 0 → Fin S16x768x280.rank)
  bcast_S_S280x1536 : S_.BroadcastsInDim S280x1536 (![] : Fin 0 → Fin S280x1536.rank)
  bcast_S_S1536 : S_.BroadcastsInDim S1536 (![] : Fin 0 → Fin S1536.rank)

variable [Facts]

def fn {F : FTy → Type} [FloatOps F] (main_arg0 : FVec F S16x768x8960 .fp8e4m3) (main_arg1 : IVec S16x768x280 8) (main_arg2 : FVec F S8960x1536 .fp8e4m3) (main_arg3 : IVec S280x1536 8) (main_arg4 : FVec F S16x768x1536 .bf16) (main_arg5 : FVec F S1536 .f32) (main_arg6 : FVec F S1536x2048 .fp8e4m3) (main_arg7 : IVec S48x2048 8) (main_arg8 : IVec S16x768 32) : IVec S16x768x280 1 × IVec S280x1536 1 × IVec S1536 1 :=
  let main_c : IVec S_ 8 := constantI S_ 8 1#8
  let main_v0 : IVec S16x768x280 8 := broadcastInDim S16x768x280 ![] bcast_S_S16x768x280 main_c
  let main_v1 : IVec S16x768x280 1 := cmpi .uge main_arg1 main_v0
  let main_c_0 : IVec S_ 8 := constantI S_ 8 254#8
  let main_v2 : IVec S16x768x280 8 := broadcastInDim S16x768x280 ![] bcast_S_S16x768x280 main_c_0
  let main_v3 : IVec S16x768x280 1 := cmpi .ule main_arg1 main_v2
  let main_v4 : IVec S16x768x280 1 := andi main_v1 main_v3
  let main_c_1 : IVec S_ 8 := constantI S_ 8 1#8
  let main_v5 : IVec S280x1536 8 := broadcastInDim S280x1536 ![] bcast_S_S280x1536 main_c_1
  let main_v6 : IVec S280x1536 1 := cmpi .uge main_arg3 main_v5
  let main_c_2 : IVec S_ 8 := constantI S_ 8 254#8
  let main_v7 : IVec S280x1536 8 := broadcastInDim S280x1536 ![] bcast_S_S280x1536 main_c_2
  let main_v8 : IVec S280x1536 1 := cmpi .ule main_arg3 main_v7
  let main_v9 : IVec S280x1536 1 := andi main_v6 main_v8
  let main_v10 : FVec F S1536 .f32 := Host.absf main_arg5
  let main_cst : FVec F S_ .f32 := constant S_ .f32 0x7F7FFFFF#32
  let main_v11 : FVec F S1536 .f32 := broadcastInDim S1536 ![] bcast_S_S1536 main_cst
  let main_v12 : IVec S1536 1 := cmpf .ole main_v10 main_v11
  (main_v4, main_v9, main_v12)
-- ==== Kernel.lean ====
abbrev S16x768x8960 : Shape := ⟨3, ![16, 768, 8960]⟩
abbrev S16x768x280 : Shape := ⟨3, ![16, 768, 280]⟩
abbrev S8960x1536 : Shape := ⟨2, ![8960, 1536]⟩
abbrev S280x1536 : Shape := ⟨2, ![280, 1536]⟩
abbrev S16x768x1536 : Shape := ⟨3, ![16, 768, 1536]⟩
abbrev S1536 : Shape := ⟨1, ![1536]⟩
abbrev S1536x2048 : Shape := ⟨2, ![1536, 2048]⟩
abbrev S48x2048 : Shape := ⟨2, ![48, 2048]⟩
abbrev S16x768 : Shape := ⟨2, ![16, 768]⟩
abbrev S64 : Shape := ⟨1, ![64]⟩
abbrev S_ : Shape := ⟨0, ![]⟩
abbrev S128 : Shape := ⟨1, ![128]⟩
abbrev S1x128 : Shape := ⟨2, ![1, 128]⟩
abbrev S1x1536 : Shape := ⟨2, ![1, 1536]⟩
abbrev S12288x8960 : Shape := ⟨2, ![12288, 8960]⟩
abbrev S16x280x768 : Shape := ⟨3, ![16, 280, 768]⟩
abbrev S12288x1536 : Shape := ⟨2, ![12288, 1536]⟩
abbrev S48x1x256 : Shape := ⟨3, ![48, 1, 256]⟩
abbrev S16x12x768x128 : Shape := ⟨4, ![16, 12, 768, 128]⟩
abbrev S12288x2x128 : Shape := ⟨3, ![12288, 2, 128]⟩
abbrev S16x48x768 : Shape := ⟨3, ![16, 48, 768]⟩
abbrev S256x8960 : Shape := ⟨2, ![256, 8960]⟩
abbrev S1x280x256 : Shape := ⟨3, ![1, 280, 256]⟩
abbrev S256x1536 : Shape := ⟨2, ![256, 1536]⟩
abbrev S1x1x256 : Shape := ⟨3, ![1, 1, 256]⟩
abbrev S1x12x256x128 : Shape := ⟨4, ![1, 12, 256, 128]⟩
abbrev S256x2x128 : Shape := ⟨3, ![256, 2, 128]⟩
abbrev S1x48x256 : Shape := ⟨3, ![1, 48, 256]⟩
abbrev S4480x1536 : Shape := ⟨2, ![4480, 1536]⟩
abbrev S768x2048 : Shape := ⟨2, ![768, 2048]⟩
abbrev S256x2048 : Shape := ⟨2, ![256, 2048]⟩
abbrev S256x384 : Shape := ⟨2, ![256, 384]⟩
abbrev S16x1536 : Shape := ⟨2, ![16, 1536]⟩
abbrev S8x1536 : Shape := ⟨2, ![8, 1536]⟩
abbrev S1x2048 : Shape := ⟨2, ![1, 2048]⟩
abbrev S16x2048 : Shape := ⟨2, ![16, 2048]⟩
abbrev S8x2048 : Shape := ⟨2, ![8, 2048]⟩
abbrev S280x256 : Shape := ⟨2, ![280, 256]⟩
abbrev S104x256 : Shape := ⟨2, ![104, 256]⟩
abbrev S384x256 : Shape := ⟨2, ![384, 256]⟩
abbrev S8x128 : Shape := ⟨2, ![8, 128]⟩
abbrev S8x128x1 : Shape := ⟨3, ![8, 128, 1]⟩
abbrev S16x128 : Shape := ⟨2, ![16, 128]⟩
abbrev S256 : Shape := ⟨1, ![256]⟩
abbrev S256x1 : Shape := ⟨2, ![256, 1]⟩
abbrev S256x128 : Shape := ⟨2, ![256, 128]⟩
abbrev S256x128x1 : Shape := ⟨3, ![256, 128, 1]⟩
abbrev S128x256 : Shape := ⟨2, ![128, 256]⟩
abbrev S48x256 : Shape := ⟨2, ![48, 256]⟩
abbrev S1x256 : Shape := ⟨2, ![1, 256]⟩
abbrev S1x1x256x128 : Shape := ⟨4, ![1, 1, 256, 128]⟩
abbrev S256x1x128 : Shape := ⟨3, ![256, 1, 128]⟩
abbrev S16x768x12x128 : Shape := ⟨4, ![16, 768, 12, 128]⟩
abbrev S16x768x2x128 : Shape := ⟨4, ![16, 768, 2, 128]⟩
abbrev S16x768x48 : Shape := ⟨3, ![16, 768, 48]⟩

abbrev nBuf : Space → Nat
  | .hbm => 44
  | .vmem => 33
  | .smem => 0
  | _ => 0

abbrev bufTy : (tb : Table) → Fin (tcTables nBuf tb) → BufTy
  | .hbm, ⟨0, _⟩ => ⟨S16x768x8960, .fp8e4m3⟩
  | .hbm, ⟨1, _⟩ => ⟨S16x768x280, .i8⟩
  | .hbm, ⟨2, _⟩ => ⟨S8960x1536, .fp8e4m3⟩
  | .hbm, ⟨3, _⟩ => ⟨S280x1536, .i8⟩
  | .hbm, ⟨4, _⟩ => ⟨S16x768x1536, .bf16⟩
  | .hbm, ⟨5, _⟩ => ⟨S1536, .f32⟩
  | .hbm, ⟨6, _⟩ => ⟨S1536x2048, .fp8e4m3⟩
  | .hbm, ⟨7, _⟩ => ⟨S48x2048, .i8⟩
  | .hbm, ⟨8, _⟩ => ⟨S16x768, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S128, .f32⟩
  | .hbm, ⟨26, _⟩ => ⟨S1x128, .f32⟩
  | .hbm, ⟨27, _⟩ => ⟨S1x1536, .f32⟩
  | .hbm, ⟨28, _⟩ => ⟨S12288x8960, .fp8e4m3⟩
  | .hbm, ⟨29, _⟩ => ⟨S16x280x768, .i8⟩
  | .hbm, ⟨30, _⟩ => ⟨S12288x1536, .bf16⟩
  | .hbm, ⟨31, _⟩ => ⟨S48x1x256, .i32⟩
  | .hbm, ⟨32, _⟩ => ⟨S12288x1536, .bf16⟩
  | .hbm, ⟨33, _⟩ => ⟨S16x12x768x128, .bf16⟩
  | .hbm, ⟨34, _⟩ => ⟨S12288x2x128, .bf16⟩
  | .hbm, ⟨35, _⟩ => ⟨S12288x2x128, .bf16⟩
  | .hbm, ⟨36, _⟩ => ⟨S12288x1536, .fp8e4m3⟩
  | .hbm, ⟨37, _⟩ => ⟨S16x48x768, .i8⟩
  | .hbm, ⟨38, _⟩ => ⟨S16x768x1536, .bf16⟩
  | .hbm, ⟨39, _⟩ => ⟨S16x768x12x128, .bf16⟩
  | .hbm, ⟨40, _⟩ => ⟨S16x768x2x128, .bf16⟩
  | .hbm, ⟨41, _⟩ => ⟨S16x768x2x128, .bf16⟩
  | .hbm, ⟨42, _⟩ => ⟨S16x768x1536, .fp8e4m3⟩
  | .hbm, ⟨43, _⟩ => ⟨S16x768x48, .i8⟩
  | .local _ .vmem, ⟨0, _⟩ => ⟨S256x8960, .fp8e4m3⟩
  | .local _ .vmem, ⟨1, _⟩ => ⟨S256x8960, .fp8e4m3⟩
  | .local _ .vmem, ⟨2, _⟩ => ⟨S1x280x256, .i8⟩
  | .local _ .vmem, ⟨3, _⟩ => ⟨S1x280x256, .i8⟩
  | .local _ .vmem, ⟨4, _⟩ => ⟨S280x1536, .i8⟩
  | .local _ .vmem, ⟨5, _⟩ => ⟨S256x1536, .bf16⟩
  | .local _ .vmem, ⟨6, _⟩ => ⟨S256x1536, .bf16⟩
  | .local _ .vmem, ⟨7, _⟩ => ⟨S1x1536, .f32⟩
  | .local _ .vmem, ⟨8, _⟩ => ⟨S48x2048, .i8⟩
  | .local _ .vmem, ⟨9, _⟩ => ⟨S1x1x256, .i32⟩
  | .local _ .vmem, ⟨10, _⟩ => ⟨S1x1x256, .i32⟩
  | .local _ .vmem, ⟨11, _⟩ => ⟨S1x128, .f32⟩
  | .local _ .vmem, ⟨12, _⟩ => ⟨S256x1536, .bf16⟩
  | .local _ .vmem, ⟨13, _⟩ => ⟨S256x1536, .bf16⟩
  | .local _ .vmem, ⟨14, _⟩ => ⟨S1x12x256x128, .bf16⟩
  | .local _ .vmem, ⟨15, _⟩ => ⟨S1x12x256x128, .bf16⟩
  | .local _ .vmem, ⟨16, _⟩ => ⟨S256x2x128, .bf16⟩
  | .local _ .vmem, ⟨17, _⟩ => ⟨S256x2x128, .bf16⟩
  | .local _ .vmem, ⟨18, _⟩ => ⟨S256x2x128, .bf16⟩
  | .local _ .vmem, ⟨19, _⟩ => ⟨S256x2x128, .bf16⟩
  | .local _ .vmem, ⟨20, _⟩ => ⟨S256x1536, .fp8e4m3⟩
  | .local _ .vmem, ⟨21, _⟩ => ⟨S256x1536, .fp8e4m3⟩
  | .local _ .vmem, ⟨22, _⟩ => ⟨S1x48x256, .i8⟩
  | .local _ .vmem, ⟨23, _⟩ => ⟨S1x48x256, .i8⟩
  | .local _ .vmem, ⟨24, _⟩ => ⟨S4480x1536, .i32⟩
  | .local _ .vmem, ⟨25, _⟩ => ⟨S768x2048, .i32⟩
  | .local _ .vmem, ⟨26, _⟩ => ⟨S256x1536, .fp8e4m3⟩
  | .local _ .vmem, ⟨27, _⟩ => ⟨S256x2048, .fp8e4m3⟩
  | .local _ .vmem, ⟨28, _⟩ => ⟨S256x8960, .bf16⟩
  | .local _ .vmem, ⟨29, _⟩ => ⟨S256x384, .f32⟩
  | .local _ .vmem, ⟨30, _⟩ => ⟨S256x1536, .bf16⟩
  | .local _ .vmem, ⟨31, _⟩ => ⟨S256x2048, .f32⟩
  | .local _ .vmem, ⟨32, _⟩ => ⟨S280x1536, .f32⟩
  | _, _ => ⟨S16x768x8960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev main_v18_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [BitOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_940 : BitVec 32 := 0#32
  let c35_i32 : BitVec 32 := 35#32
  let v2626 : BitVec 32 := Scalar.addi c0_i32_940 c35_i32
  let c1_i32_941 : BitVec 32 := 1#32
  ⟨c0_i32_940, v2626, c1_i32_941⟩
def k0_off1 (k0_t1 : Fin k0_t1_loop.trips) : Fin 2 → Nat :=
  let c0_i32_940 : BitVec 32 := 0#32
  let c1_i32_941 : BitVec 32 := 1#32
  let arg27 : BitVec 32 := Scf.iv c0_i32_940 c1_i32_941 k0_t1
  let c256_i32_1260 : BitVec 32 := 256#32
  let v3556 : BitVec 32 := Scalar.muli arg27 c256_i32_1260
  let c0_i32_1261 : BitVec 32 := 0#32
  ![v3556.toNat, 0]
def k0_mult1 (k0_t1 : Fin k0_t1_loop.trips) : BitVec 32 :=
  let c0_i32_940 : BitVec 32 := 0#32
  let c1_i32_941 : BitVec 32 := 1#32
  let arg27 : BitVec 32 := Scf.iv c0_i32_940 c1_i32_941 k0_t1
  let c128_i32_1263 : BitVec 32 := 128#32
  let v3559 : BitVec 32 := Scalar.muli arg27 c128_i32_1263
  v3559
def k0_off2 (k0_t1 : Fin k0_t1_loop.trips) (c0_i32_1265 : BitVec 32) : Fin 2 → Nat :=
  let c0_i32_940 : BitVec 32 := 0#32
  let c1_i32_941 : BitVec 32 := 1#32
  let arg27 : BitVec 32 := Scf.iv c0_i32_940 c1_i32_941 k0_t1
  let c8_i32_1264 : BitVec 32 := 8#32
  let v3561 : BitVec 32 := Scalar.muli arg27 c8_i32_1264
  let v3562 : BitVec 32 := Scalar.addi v3561 c0_i32_1265
  let v3563 : Index := Scalar.indexCast v3562
  let c0_1266 : Index := 0#32
  ![v3563.toNat, 0]
def k0_off3 (k0_t1 : Fin k0_t1_loop.trips) (c0_i32_1269 : BitVec 32) (c0_i32_1270 : BitVec 32) : Fin 2 → Nat :=
  let c0_i32_940 : BitVec 32 := 0#32
  let c1_i32_941 : BitVec 32 := 1#32
  let arg27 : BitVec 32 := Scf.iv c0_i32_940 c1_i32_941 k0_t1
  let c128_i32_1263 : BitVec 32 := 128#32
  let v3559 : BitVec 32 := Scalar.muli arg27 c128_i32_1263
  let v3560 : BitVec 32 := v3559
  let v3571 : BitVec 32 := Scalar.addi v3560 c0_i32_1269
  let v3572 : BitVec 32 := Scalar.addi v3571 c0_i32_1270
  let v3573 : Index := Scalar.indexCast v3572
  let c0_1271 : Index := 0#32
  ![v3573.toNat, 0]
@[reducible] def k0_t2_loop : Scf.Loop 32 :=
  let c0_i32_5 : BitVec 32 := 0#32
  let c16_i32 : BitVec 32 := 16#32
  let v16 : BitVec 32 := Scalar.addi c0_i32_5 c16_i32
  let c1_i32 : BitVec 32 := 1#32
  ⟨c0_i32_5, v16, c1_i32⟩
def k0_mult2 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_943 : BitVec 32 := 16#32
  let v2644 : BitVec 32 := Scalar.muli arg27 c16_i32_943
  let c0_i32_944 : BitVec 32 := 0#32
  let v2645 : BitVec 32 := Scalar.addi v2644 c0_i32_944
  v2645
def k0_off4 (k0_t2 : Fin k0_t2_loop.trips) (c0_i32_944 : BitVec 32) : Fin 2 → Nat :=
  let c0_i32_5 : BitVec 32 := 0#32
  let c1_i32 : BitVec 32 := 1#32
  let arg27 : BitVec 32 := Scf.iv c0_i32_5 c1_i32 k0_t2
  let c16_i32_943 : BitVec 32 := 16#32
  let v2644 : BitVec 32 := Scalar.muli arg27 c16_i32_943
  let v2645 : BitVec 32 := Scalar.addi v2644 c0_i32_944
  let v2646 : BitVec 32 := v2645
  let v2647 : Index := Scalar.indexCast v2646
  let c0_945 : Index := 0#32
  ![v2647.toNat, 0]
def k0_mult3 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_948 : BitVec 32 := 16#32
  let v2657 : BitVec 32 := Scalar.muli arg27 c16_i32_948
  let c8_i32_949 : BitVec 32 := 8#32
  let v2658 : BitVec 32 := Scalar.addi v2657 c8_i32_949
  v2658
def k0_mult4 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_953 : BitVec 32 := 16#32
  let v2671 : BitVec 32 := Scalar.muli arg27 c16_i32_953
  v2671
def k0_off5 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_953 : BitVec 32 := 16#32
  let v2671 : BitVec 32 := Scalar.muli arg27 c16_i32_953
  let v2672 : BitVec 32 := v2671
  let v2673 : Index := Scalar.indexCast v2672
  let c0_954 : Index := 0#32
  ![v2673.toNat, 0]
def k0_mult5 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_955 : BitVec 32 := 16#32
  let v2679 : BitVec 32 := Scalar.muli arg27 c16_i32_955
  v2679
def k0_mult6 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_965 : BitVec 32 := 16#32
  let v2711 : BitVec 32 := Scalar.muli arg27 c16_i32_965
  let c0_i32_966 : BitVec 32 := 0#32
  let v2712 : BitVec 32 := Scalar.addi v2711 c0_i32_966
  v2712
def k0_mult7 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_970 : BitVec 32 := 16#32
  let v2724 : BitVec 32 := Scalar.muli arg27 c16_i32_970
  let c8_i32_971 : BitVec 32 := 8#32
  let v2725 : BitVec 32 := Scalar.addi v2724 c8_i32_971
  v2725
def k0_mult8 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_975 : BitVec 32 := 16#32
  let v2738 : BitVec 32 := Scalar.muli arg27 c16_i32_975
  v2738
def k0_off6 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_975 : BitVec 32 := 16#32
  let v2738 : BitVec 32 := Scalar.muli arg27 c16_i32_975
  let v2739 : BitVec 32 := v2738
  let v2740 : Index := Scalar.indexCast v2739
  let c128_976 : Index := 128#32
  ![v2740.toNat, 128]
def k0_mult9 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_977 : BitVec 32 := 16#32
  let v2746 : BitVec 32 := Scalar.muli arg27 c16_i32_977
  v2746
def k0_mult10 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_987 : BitVec 32 := 16#32
  let v2778 : BitVec 32 := Scalar.muli arg27 c16_i32_987
  let c0_i32_988 : BitVec 32 := 0#32
  let v2779 : BitVec 32 := Scalar.addi v2778 c0_i32_988
  v2779
def k0_mult11 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_992 : BitVec 32 := 16#32
  let v2791 : BitVec 32 := Scalar.muli arg27 c16_i32_992
  let c8_i32_993 : BitVec 32 := 8#32
  let v2792 : BitVec 32 := Scalar.addi v2791 c8_i32_993
  v2792
def k0_mult12 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_997 : BitVec 32 := 16#32
  let v2805 : BitVec 32 := Scalar.muli arg27 c16_i32_997
  v2805
def k0_off7 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_997 : BitVec 32 := 16#32
  let v2805 : BitVec 32 := Scalar.muli arg27 c16_i32_997
  let v2806 : BitVec 32 := v2805
  let v2807 : Index := Scalar.indexCast v2806
  let c256_998 : Index := 256#32
  ![v2807.toNat, 256]
def k0_mult13 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_999 : BitVec 32 := 16#32
  let v2813 : BitVec 32 := Scalar.muli arg27 c16_i32_999
  v2813
def k0_mult14 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1008 : BitVec 32 := 16#32
  let v2845 : BitVec 32 := Scalar.muli arg27 c16_i32_1008
  let c0_i32_1009 : BitVec 32 := 0#32
  let v2846 : BitVec 32 := Scalar.addi v2845 c0_i32_1009
  v2846
def k0_mult15 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1013 : BitVec 32 := 16#32
  let v2858 : BitVec 32 := Scalar.muli arg27 c16_i32_1013
  let c8_i32_1014 : BitVec 32 := 8#32
  let v2859 : BitVec 32 := Scalar.addi v2858 c8_i32_1014
  v2859
def k0_mult16 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1018 : BitVec 32 := 16#32
  let v2872 : BitVec 32 := Scalar.muli arg27 c16_i32_1018
  v2872
def k0_off8 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1018 : BitVec 32 := 16#32
  let v2872 : BitVec 32 := Scalar.muli arg27 c16_i32_1018
  let v2873 : BitVec 32 := v2872
  let v2874 : Index := Scalar.indexCast v2873
  let c384_1019 : Index := 384#32
  ![v2874.toNat, 384]
def k0_mult17 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1020 : BitVec 32 := 16#32
  let v2880 : BitVec 32 := Scalar.muli arg27 c16_i32_1020
  v2880
def k0_mult18 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1030 : BitVec 32 := 16#32
  let v2912 : BitVec 32 := Scalar.muli arg27 c16_i32_1030
  let c0_i32_1031 : BitVec 32 := 0#32
  let v2913 : BitVec 32 := Scalar.addi v2912 c0_i32_1031
  v2913
def k0_mult19 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1035 : BitVec 32 := 16#32
  let v2925 : BitVec 32 := Scalar.muli arg27 c16_i32_1035
  let c8_i32_1036 : BitVec 32 := 8#32
  let v2926 : BitVec 32 := Scalar.addi v2925 c8_i32_1036
  v2926
def k0_mult20 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1040 : BitVec 32 := 16#32
  let v2939 : BitVec 32 := Scalar.muli arg27 c16_i32_1040
  v2939
def k0_off9 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1040 : BitVec 32 := 16#32
  let v2939 : BitVec 32 := Scalar.muli arg27 c16_i32_1040
  let v2940 : BitVec 32 := v2939
  let v2941 : Index := Scalar.indexCast v2940
  let c512_1041 : Index := 512#32
  ![v2941.toNat, 512]
def k0_mult21 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1042 : BitVec 32 := 16#32
  let v2947 : BitVec 32 := Scalar.muli arg27 c16_i32_1042
  v2947
def k0_mult22 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1051 : BitVec 32 := 16#32
  let v2979 : BitVec 32 := Scalar.muli arg27 c16_i32_1051
  let c0_i32_1052 : BitVec 32 := 0#32
  let v2980 : BitVec 32 := Scalar.addi v2979 c0_i32_1052
  v2980
def k0_mult23 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1056 : BitVec 32 := 16#32
  let v2992 : BitVec 32 := Scalar.muli arg27 c16_i32_1056
  let c8_i32_1057 : BitVec 32 := 8#32
  let v2993 : BitVec 32 := Scalar.addi v2992 c8_i32_1057
  v2993
def k0_mult24 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1061 : BitVec 32 := 16#32
  let v3006 : BitVec 32 := Scalar.muli arg27 c16_i32_1061
  v3006
def k0_off10 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1061 : BitVec 32 := 16#32
  let v3006 : BitVec 32 := Scalar.muli arg27 c16_i32_1061
  let v3007 : BitVec 32 := v3006
  let v3008 : Index := Scalar.indexCast v3007
  let c640_1062 : Index := 640#32
  ![v3008.toNat, 640]
def k0_mult25 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1063 : BitVec 32 := 16#32
  let v3014 : BitVec 32 := Scalar.muli arg27 c16_i32_1063
  v3014
def k0_mult26 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1072 : BitVec 32 := 16#32
  let v3046 : BitVec 32 := Scalar.muli arg27 c16_i32_1072
  let c0_i32_1073 : BitVec 32 := 0#32
  let v3047 : BitVec 32 := Scalar.addi v3046 c0_i32_1073
  v3047
def k0_mult27 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1077 : BitVec 32 := 16#32
  let v3059 : BitVec 32 := Scalar.muli arg27 c16_i32_1077
  let c8_i32_1078 : BitVec 32 := 8#32
  let v3060 : BitVec 32 := Scalar.addi v3059 c8_i32_1078
  v3060
def k0_mult28 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1082 : BitVec 32 := 16#32
  let v3073 : BitVec 32 := Scalar.muli arg27 c16_i32_1082
  v3073
def k0_off11 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1082 : BitVec 32 := 16#32
  let v3073 : BitVec 32 := Scalar.muli arg27 c16_i32_1082
  let v3074 : BitVec 32 := v3073
  let v3075 : Index := Scalar.indexCast v3074
  let c768_1083 : Index := 768#32
  ![v3075.toNat, 768]
def k0_mult29 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1084 : BitVec 32 := 16#32
  let v3081 : BitVec 32 := Scalar.muli arg27 c16_i32_1084
  v3081
def k0_mult30 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1093 : BitVec 32 := 16#32
  let v3113 : BitVec 32 := Scalar.muli arg27 c16_i32_1093
  let c0_i32_1094 : BitVec 32 := 0#32
  let v3114 : BitVec 32 := Scalar.addi v3113 c0_i32_1094
  v3114
def k0_mult31 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1098 : BitVec 32 := 16#32
  let v3126 : BitVec 32 := Scalar.muli arg27 c16_i32_1098
  let c8_i32_1099 : BitVec 32 := 8#32
  let v3127 : BitVec 32 := Scalar.addi v3126 c8_i32_1099
  v3127
def k0_mult32 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1103 : BitVec 32 := 16#32
  let v3140 : BitVec 32 := Scalar.muli arg27 c16_i32_1103
  v3140
def k0_off12 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1103 : BitVec 32 := 16#32
  let v3140 : BitVec 32 := Scalar.muli arg27 c16_i32_1103
  let v3141 : BitVec 32 := v3140
  let v3142 : Index := Scalar.indexCast v3141
  let c896_1104 : Index := 896#32
  ![v3142.toNat, 896]
def k0_mult33 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1105 : BitVec 32 := 16#32
  let v3148 : BitVec 32 := Scalar.muli arg27 c16_i32_1105
  v3148
def k0_mult34 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1115 : BitVec 32 := 16#32
  let v3180 : BitVec 32 := Scalar.muli arg27 c16_i32_1115
  let c0_i32_1116 : BitVec 32 := 0#32
  let v3181 : BitVec 32 := Scalar.addi v3180 c0_i32_1116
  v3181
def k0_mult35 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1120 : BitVec 32 := 16#32
  let v3193 : BitVec 32 := Scalar.muli arg27 c16_i32_1120
  let c8_i32_1121 : BitVec 32 := 8#32
  let v3194 : BitVec 32 := Scalar.addi v3193 c8_i32_1121
  v3194
def k0_mult36 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1125 : BitVec 32 := 16#32
  let v3207 : BitVec 32 := Scalar.muli arg27 c16_i32_1125
  v3207
def k0_off13 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1125 : BitVec 32 := 16#32
  let v3207 : BitVec 32 := Scalar.muli arg27 c16_i32_1125
  let v3208 : BitVec 32 := v3207
  let v3209 : Index := Scalar.indexCast v3208
  let c1024_1126 : Index := 1024#32
  ![v3209.toNat, 1024]
def k0_mult37 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1127 : BitVec 32 := 16#32
  let v3215 : BitVec 32 := Scalar.muli arg27 c16_i32_1127
  v3215
def k0_mult38 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1136 : BitVec 32 := 16#32
  let v3247 : BitVec 32 := Scalar.muli arg27 c16_i32_1136
  let c0_i32_1137 : BitVec 32 := 0#32
  let v3248 : BitVec 32 := Scalar.addi v3247 c0_i32_1137
  v3248
def k0_mult39 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1141 : BitVec 32 := 16#32
  let v3260 : BitVec 32 := Scalar.muli arg27 c16_i32_1141
  let c8_i32_1142 : BitVec 32 := 8#32
  let v3261 : BitVec 32 := Scalar.addi v3260 c8_i32_1142
  v3261
def k0_mult40 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1146 : BitVec 32 := 16#32
  let v3274 : BitVec 32 := Scalar.muli arg27 c16_i32_1146
  v3274
def k0_off14 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1146 : BitVec 32 := 16#32
  let v3274 : BitVec 32 := Scalar.muli arg27 c16_i32_1146
  let v3275 : BitVec 32 := v3274
  let v3276 : Index := Scalar.indexCast v3275
  let c1152_1147 : Index := 1152#32
  ![v3276.toNat, 1152]
def k0_mult41 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1148 : BitVec 32 := 16#32
  let v3282 : BitVec 32 := Scalar.muli arg27 c16_i32_1148
  v3282
def k0_mult42 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1157 : BitVec 32 := 16#32
  let v3314 : BitVec 32 := Scalar.muli arg27 c16_i32_1157
  let c0_i32_1158 : BitVec 32 := 0#32
  let v3315 : BitVec 32 := Scalar.addi v3314 c0_i32_1158
  v3315
def k0_mult43 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1162 : BitVec 32 := 16#32
  let v3327 : BitVec 32 := Scalar.muli arg27 c16_i32_1162
  let c8_i32_1163 : BitVec 32 := 8#32
  let v3328 : BitVec 32 := Scalar.addi v3327 c8_i32_1163
  v3328
def k0_mult44 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1167 : BitVec 32 := 16#32
  let v3341 : BitVec 32 := Scalar.muli arg27 c16_i32_1167
  v3341
def k0_off15 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1167 : BitVec 32 := 16#32
  let v3341 : BitVec 32 := Scalar.muli arg27 c16_i32_1167
  let v3342 : BitVec 32 := v3341
  let v3343 : Index := Scalar.indexCast v3342
  let c1280_1168 : Index := 1280#32
  ![v3343.toNat, 1280]
def k0_mult45 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1169 : BitVec 32 := 16#32
  let v3349 : BitVec 32 := Scalar.muli arg27 c16_i32_1169
  v3349
def k0_mult46 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1178 : BitVec 32 := 16#32
  let v3381 : BitVec 32 := Scalar.muli arg27 c16_i32_1178
  let c0_i32_1179 : BitVec 32 := 0#32
  let v3382 : BitVec 32 := Scalar.addi v3381 c0_i32_1179
  v3382
def k0_mult47 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1183 : BitVec 32 := 16#32
  let v3394 : BitVec 32 := Scalar.muli arg27 c16_i32_1183
  let c8_i32_1184 : BitVec 32 := 8#32
  let v3395 : BitVec 32 := Scalar.addi v3394 c8_i32_1184
  v3395
def k0_mult48 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1188 : BitVec 32 := 16#32
  let v3408 : BitVec 32 := Scalar.muli arg27 c16_i32_1188
  v3408
def k0_off16 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1188 : BitVec 32 := 16#32
  let v3408 : BitVec 32 := Scalar.muli arg27 c16_i32_1188
  let v3409 : BitVec 32 := v3408
  let v3410 : Index := Scalar.indexCast v3409
  let c1408_1189 : Index := 1408#32
  ![v3410.toNat, 1408]
def k0_mult49 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1190 : BitVec 32 := 16#32
  let v3416 : BitVec 32 := Scalar.muli arg27 c16_i32_1190
  v3416
def k0_mult50 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1199 : BitVec 32 := 16#32
  let v3448 : BitVec 32 := Scalar.muli arg27 c16_i32_1199
  let c0_i32_1200 : BitVec 32 := 0#32
  let v3449 : BitVec 32 := Scalar.addi v3448 c0_i32_1200
  v3449
def k0_mult51 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1204 : BitVec 32 := 16#32
  let v3461 : BitVec 32 := Scalar.muli arg27 c16_i32_1204
  let c8_i32_1205 : BitVec 32 := 8#32
  let v3462 : BitVec 32 := Scalar.addi v3461 c8_i32_1205
  v3462
def k0_mult52 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1209 : BitVec 32 := 16#32
  let v3475 : BitVec 32 := Scalar.muli arg27 c16_i32_1209
  v3475
def k0_off17 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1209 : BitVec 32 := 16#32
  let v3475 : BitVec 32 := Scalar.muli arg27 c16_i32_1209
  let v3476 : BitVec 32 := v3475
  let v3477 : Index := Scalar.indexCast v3476
  let c1536_1210 : Index := 1536#32
  ![v3477.toNat, 1536]
def k0_mult53 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1211 : BitVec 32 := 16#32
  let v3483 : BitVec 32 := Scalar.muli arg27 c16_i32_1211
  v3483
def k0_mult54 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1220 : BitVec 32 := 16#32
  let v3515 : BitVec 32 := Scalar.muli arg27 c16_i32_1220
  let c0_i32_1221 : BitVec 32 := 0#32
  let v3516 : BitVec 32 := Scalar.addi v3515 c0_i32_1221
  v3516
def k0_mult55 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1225 : BitVec 32 := 16#32
  let v3528 : BitVec 32 := Scalar.muli arg27 c16_i32_1225
  let c8_i32_1226 : BitVec 32 := 8#32
  let v3529 : BitVec 32 := Scalar.addi v3528 c8_i32_1226
  v3529
def k0_mult56 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1230 : BitVec 32 := 16#32
  let v3542 : BitVec 32 := Scalar.muli arg27 c16_i32_1230
  v3542
def k0_off18 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1230 : BitVec 32 := 16#32
  let v3542 : BitVec 32 := Scalar.muli arg27 c16_i32_1230
  let v3543 : BitVec 32 := v3542
  let v3544 : Index := Scalar.indexCast v3543
  let c1664_1231 : Index := 1664#32
  ![v3544.toNat, 1664]
def k0_mult57 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1232 : BitVec 32 := 16#32
  let v3550 : BitVec 32 := Scalar.muli arg27 c16_i32_1232
  v3550
def k0_mult58 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1241 : BitVec 32 := 16#32
  let v3582 : BitVec 32 := Scalar.muli arg27 c16_i32_1241
  let c0_i32_1242 : BitVec 32 := 0#32
  let v3583 : BitVec 32 := Scalar.addi v3582 c0_i32_1242
  v3583
def k0_mult59 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1246 : BitVec 32 := 16#32
  let v3595 : BitVec 32 := Scalar.muli arg27 c16_i32_1246
  let c8_i32_1247 : BitVec 32 := 8#32
  let v3596 : BitVec 32 := Scalar.addi v3595 c8_i32_1247
  v3596
def k0_mult60 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1251 : BitVec 32 := 16#32
  let v3609 : BitVec 32 := Scalar.muli arg27 c16_i32_1251
  v3609
def k0_off19 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1251 : BitVec 32 := 16#32
  let v3609 : BitVec 32 := Scalar.muli arg27 c16_i32_1251
  let v3610 : BitVec 32 := v3609
  let v3611 : Index := Scalar.indexCast v3610
  let c1792_1252 : Index := 1792#32
  ![v3611.toNat, 1792]
def k0_mult61 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1253 : BitVec 32 := 16#32
  let v3617 : BitVec 32 := Scalar.muli arg27 c16_i32_1253
  v3617
def k0_mult62 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1262 : BitVec 32 := 16#32
  let v3649 : BitVec 32 := Scalar.muli arg27 c16_i32_1262
  let c0_i32_1263 : BitVec 32 := 0#32
  let v3650 : BitVec 32 := Scalar.addi v3649 c0_i32_1263
  v3650
def k0_mult63 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1267 : BitVec 32 := 16#32
  let v3662 : BitVec 32 := Scalar.muli arg27 c16_i32_1267
  let c8_i32_1268 : BitVec 32 := 8#32
  let v3663 : BitVec 32 := Scalar.addi v3662 c8_i32_1268
  v3663
def k0_mult64 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1272 : BitVec 32 := 16#32
  let v3676 : BitVec 32 := Scalar.muli arg27 c16_i32_1272
  v3676
def k0_off20 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1272 : BitVec 32 := 16#32
  let v3676 : BitVec 32 := Scalar.muli arg27 c16_i32_1272
  let v3677 : BitVec 32 := v3676
  let v3678 : Index := Scalar.indexCast v3677
  let c1920_1273 : Index := 1920#32
  ![v3678.toNat, 1920]
def k0_mult65 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1274 : BitVec 32 := 16#32
  let v3684 : BitVec 32 := Scalar.muli arg27 c16_i32_1274
  v3684
def k0_mult66 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1284 : BitVec 32 := 16#32
  let v3716 : BitVec 32 := Scalar.muli arg27 c16_i32_1284
  let c0_i32_1285 : BitVec 32 := 0#32
  let v3717 : BitVec 32 := Scalar.addi v3716 c0_i32_1285
  v3717
def k0_mult67 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1289 : BitVec 32 := 16#32
  let v3729 : BitVec 32 := Scalar.muli arg27 c16_i32_1289
  let c8_i32_1290 : BitVec 32 := 8#32
  let v3730 : BitVec 32 := Scalar.addi v3729 c8_i32_1290
  v3730
def k0_mult68 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1294 : BitVec 32 := 16#32
  let v3743 : BitVec 32 := Scalar.muli arg27 c16_i32_1294
  v3743
def k0_off21 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1294 : BitVec 32 := 16#32
  let v3743 : BitVec 32 := Scalar.muli arg27 c16_i32_1294
  let v3744 : BitVec 32 := v3743
  let v3745 : Index := Scalar.indexCast v3744
  let c2048 : Index := 2048#32
  ![v3745.toNat, 2048]
def k0_mult69 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1295 : BitVec 32 := 16#32
  let v3751 : BitVec 32 := Scalar.muli arg27 c16_i32_1295
  v3751
def k0_mult70 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1304 : BitVec 32 := 16#32
  let v3783 : BitVec 32 := Scalar.muli arg27 c16_i32_1304
  let c0_i32_1305 : BitVec 32 := 0#32
  let v3784 : BitVec 32 := Scalar.addi v3783 c0_i32_1305
  v3784
def k0_mult71 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1309 : BitVec 32 := 16#32
  let v3796 : BitVec 32 := Scalar.muli arg27 c16_i32_1309
  let c8_i32_1310 : BitVec 32 := 8#32
  let v3797 : BitVec 32 := Scalar.addi v3796 c8_i32_1310
  v3797
def k0_mult72 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1314 : BitVec 32 := 16#32
  let v3810 : BitVec 32 := Scalar.muli arg27 c16_i32_1314
  v3810
def k0_off22 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1314 : BitVec 32 := 16#32
  let v3810 : BitVec 32 := Scalar.muli arg27 c16_i32_1314
  let v3811 : BitVec 32 := v3810
  let v3812 : Index := Scalar.indexCast v3811
  let c2176 : Index := 2176#32
  ![v3812.toNat, 2176]
def k0_mult73 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1315 : BitVec 32 := 16#32
  let v3818 : BitVec 32 := Scalar.muli arg27 c16_i32_1315
  v3818
def k0_mult74 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1324 : BitVec 32 := 16#32
  let v3850 : BitVec 32 := Scalar.muli arg27 c16_i32_1324
  let c0_i32_1325 : BitVec 32 := 0#32
  let v3851 : BitVec 32 := Scalar.addi v3850 c0_i32_1325
  v3851
def k0_mult75 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1329 : BitVec 32 := 16#32
  let v3863 : BitVec 32 := Scalar.muli arg27 c16_i32_1329
  let c8_i32_1330 : BitVec 32 := 8#32
  let v3864 : BitVec 32 := Scalar.addi v3863 c8_i32_1330
  v3864
def k0_mult76 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1334 : BitVec 32 := 16#32
  let v3877 : BitVec 32 := Scalar.muli arg27 c16_i32_1334
  v3877
def k0_off23 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1334 : BitVec 32 := 16#32
  let v3877 : BitVec 32 := Scalar.muli arg27 c16_i32_1334
  let v3878 : BitVec 32 := v3877
  let v3879 : Index := Scalar.indexCast v3878
  let c2304 : Index := 2304#32
  ![v3879.toNat, 2304]
def k0_mult77 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1335 : BitVec 32 := 16#32
  let v3885 : BitVec 32 := Scalar.muli arg27 c16_i32_1335
  v3885
def k0_mult78 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1344 : BitVec 32 := 16#32
  let v3917 : BitVec 32 := Scalar.muli arg27 c16_i32_1344
  let c0_i32_1345 : BitVec 32 := 0#32
  let v3918 : BitVec 32 := Scalar.addi v3917 c0_i32_1345
  v3918
def k0_mult79 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1349 : BitVec 32 := 16#32
  let v3930 : BitVec 32 := Scalar.muli arg27 c16_i32_1349
  let c8_i32_1350 : BitVec 32 := 8#32
  let v3931 : BitVec 32 := Scalar.addi v3930 c8_i32_1350
  v3931
def k0_mult80 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1354 : BitVec 32 := 16#32
  let v3944 : BitVec 32 := Scalar.muli arg27 c16_i32_1354
  v3944
def k0_off24 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1354 : BitVec 32 := 16#32
  let v3944 : BitVec 32 := Scalar.muli arg27 c16_i32_1354
  let v3945 : BitVec 32 := v3944
  let v3946 : Index := Scalar.indexCast v3945
  let c2432 : Index := 2432#32
  ![v3946.toNat, 2432]
def k0_mult81 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1355 : BitVec 32 := 16#32
  let v3952 : BitVec 32 := Scalar.muli arg27 c16_i32_1355
  v3952
def k0_mult82 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1364 : BitVec 32 := 16#32
  let v3984 : BitVec 32 := Scalar.muli arg27 c16_i32_1364
  let c0_i32_1365 : BitVec 32 := 0#32
  let v3985 : BitVec 32 := Scalar.addi v3984 c0_i32_1365
  v3985
def k0_mult83 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1369 : BitVec 32 := 16#32
  let v3997 : BitVec 32 := Scalar.muli arg27 c16_i32_1369
  let c8_i32_1370 : BitVec 32 := 8#32
  let v3998 : BitVec 32 := Scalar.addi v3997 c8_i32_1370
  v3998
def k0_mult84 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1374 : BitVec 32 := 16#32
  let v4011 : BitVec 32 := Scalar.muli arg27 c16_i32_1374
  v4011
def k0_off25 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1374 : BitVec 32 := 16#32
  let v4011 : BitVec 32 := Scalar.muli arg27 c16_i32_1374
  let v4012 : BitVec 32 := v4011
  let v4013 : Index := Scalar.indexCast v4012
  let c2560 : Index := 2560#32
  ![v4013.toNat, 2560]
def k0_mult85 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1375 : BitVec 32 := 16#32
  let v4019 : BitVec 32 := Scalar.muli arg27 c16_i32_1375
  v4019
def k0_mult86 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1384 : BitVec 32 := 16#32
  let v4051 : BitVec 32 := Scalar.muli arg27 c16_i32_1384
  let c0_i32_1385 : BitVec 32 := 0#32
  let v4052 : BitVec 32 := Scalar.addi v4051 c0_i32_1385
  v4052
def k0_mult87 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1389 : BitVec 32 := 16#32
  let v4064 : BitVec 32 := Scalar.muli arg27 c16_i32_1389
  let c8_i32_1390 : BitVec 32 := 8#32
  let v4065 : BitVec 32 := Scalar.addi v4064 c8_i32_1390
  v4065
def k0_mult88 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1394 : BitVec 32 := 16#32
  let v4078 : BitVec 32 := Scalar.muli arg27 c16_i32_1394
  v4078
def k0_off26 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1394 : BitVec 32 := 16#32
  let v4078 : BitVec 32 := Scalar.muli arg27 c16_i32_1394
  let v4079 : BitVec 32 := v4078
  let v4080 : Index := Scalar.indexCast v4079
  let c2688 : Index := 2688#32
  ![v4080.toNat, 2688]
def k0_mult89 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1395 : BitVec 32 := 16#32
  let v4086 : BitVec 32 := Scalar.muli arg27 c16_i32_1395
  v4086
def k0_mult90 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1404 : BitVec 32 := 16#32
  let v4118 : BitVec 32 := Scalar.muli arg27 c16_i32_1404
  let c0_i32_1405 : BitVec 32 := 0#32
  let v4119 : BitVec 32 := Scalar.addi v4118 c0_i32_1405
  v4119
def k0_mult91 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1409 : BitVec 32 := 16#32
  let v4131 : BitVec 32 := Scalar.muli arg27 c16_i32_1409
  let c8_i32_1410 : BitVec 32 := 8#32
  let v4132 : BitVec 32 := Scalar.addi v4131 c8_i32_1410
  v4132
def k0_mult92 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1414 : BitVec 32 := 16#32
  let v4145 : BitVec 32 := Scalar.muli arg27 c16_i32_1414
  v4145
def k0_off27 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1414 : BitVec 32 := 16#32
  let v4145 : BitVec 32 := Scalar.muli arg27 c16_i32_1414
  let v4146 : BitVec 32 := v4145
  let v4147 : Index := Scalar.indexCast v4146
  let c2816 : Index := 2816#32
  ![v4147.toNat, 2816]
def k0_mult93 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1415 : BitVec 32 := 16#32
  let v4153 : BitVec 32 := Scalar.muli arg27 c16_i32_1415
  v4153
def k0_mult94 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1424 : BitVec 32 := 16#32
  let v4185 : BitVec 32 := Scalar.muli arg27 c16_i32_1424
  let c0_i32_1425 : BitVec 32 := 0#32
  let v4186 : BitVec 32 := Scalar.addi v4185 c0_i32_1425
  v4186
def k0_mult95 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1429 : BitVec 32 := 16#32
  let v4198 : BitVec 32 := Scalar.muli arg27 c16_i32_1429
  let c8_i32_1430 : BitVec 32 := 8#32
  let v4199 : BitVec 32 := Scalar.addi v4198 c8_i32_1430
  v4199
def k0_mult96 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1434 : BitVec 32 := 16#32
  let v4212 : BitVec 32 := Scalar.muli arg27 c16_i32_1434
  v4212
def k0_off28 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1434 : BitVec 32 := 16#32
  let v4212 : BitVec 32 := Scalar.muli arg27 c16_i32_1434
  let v4213 : BitVec 32 := v4212
  let v4214 : Index := Scalar.indexCast v4213
  let c2944 : Index := 2944#32
  ![v4214.toNat, 2944]
def k0_mult97 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1435 : BitVec 32 := 16#32
  let v4220 : BitVec 32 := Scalar.muli arg27 c16_i32_1435
  v4220
def k0_mult98 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1444 : BitVec 32 := 16#32
  let v4252 : BitVec 32 := Scalar.muli arg27 c16_i32_1444
  let c0_i32_1445 : BitVec 32 := 0#32
  let v4253 : BitVec 32 := Scalar.addi v4252 c0_i32_1445
  v4253
def k0_mult99 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1449 : BitVec 32 := 16#32
  let v4265 : BitVec 32 := Scalar.muli arg27 c16_i32_1449
  let c8_i32_1450 : BitVec 32 := 8#32
  let v4266 : BitVec 32 := Scalar.addi v4265 c8_i32_1450
  v4266
def k0_mult100 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1454 : BitVec 32 := 16#32
  let v4279 : BitVec 32 := Scalar.muli arg27 c16_i32_1454
  v4279
def k0_off29 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1454 : BitVec 32 := 16#32
  let v4279 : BitVec 32 := Scalar.muli arg27 c16_i32_1454
  let v4280 : BitVec 32 := v4279
  let v4281 : Index := Scalar.indexCast v4280
  let c3072 : Index := 3072#32
  ![v4281.toNat, 3072]
def k0_mult101 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1455 : BitVec 32 := 16#32
  let v4287 : BitVec 32 := Scalar.muli arg27 c16_i32_1455
  v4287
def k0_mult102 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1464 : BitVec 32 := 16#32
  let v4319 : BitVec 32 := Scalar.muli arg27 c16_i32_1464
  let c0_i32_1465 : BitVec 32 := 0#32
  let v4320 : BitVec 32 := Scalar.addi v4319 c0_i32_1465
  v4320
def k0_mult103 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1469 : BitVec 32 := 16#32
  let v4332 : BitVec 32 := Scalar.muli arg27 c16_i32_1469
  let c8_i32_1470 : BitVec 32 := 8#32
  let v4333 : BitVec 32 := Scalar.addi v4332 c8_i32_1470
  v4333
def k0_mult104 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1474 : BitVec 32 := 16#32
  let v4346 : BitVec 32 := Scalar.muli arg27 c16_i32_1474
  v4346
def k0_off30 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1474 : BitVec 32 := 16#32
  let v4346 : BitVec 32 := Scalar.muli arg27 c16_i32_1474
  let v4347 : BitVec 32 := v4346
  let v4348 : Index := Scalar.indexCast v4347
  let c3200 : Index := 3200#32
  ![v4348.toNat, 3200]
def k0_mult105 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1475 : BitVec 32 := 16#32
  let v4354 : BitVec 32 := Scalar.muli arg27 c16_i32_1475
  v4354
def k0_mult106 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1484 : BitVec 32 := 16#32
  let v4386 : BitVec 32 := Scalar.muli arg27 c16_i32_1484
  let c0_i32_1485 : BitVec 32 := 0#32
  let v4387 : BitVec 32 := Scalar.addi v4386 c0_i32_1485
  v4387
def k0_mult107 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1489 : BitVec 32 := 16#32
  let v4399 : BitVec 32 := Scalar.muli arg27 c16_i32_1489
  let c8_i32_1490 : BitVec 32 := 8#32
  let v4400 : BitVec 32 := Scalar.addi v4399 c8_i32_1490
  v4400
def k0_mult108 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1494 : BitVec 32 := 16#32
  let v4413 : BitVec 32 := Scalar.muli arg27 c16_i32_1494
  v4413
def k0_off31 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1494 : BitVec 32 := 16#32
  let v4413 : BitVec 32 := Scalar.muli arg27 c16_i32_1494
  let v4414 : BitVec 32 := v4413
  let v4415 : Index := Scalar.indexCast v4414
  let c3328 : Index := 3328#32
  ![v4415.toNat, 3328]
def k0_mult109 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1495 : BitVec 32 := 16#32
  let v4421 : BitVec 32 := Scalar.muli arg27 c16_i32_1495
  v4421
def k0_mult110 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1504 : BitVec 32 := 16#32
  let v4453 : BitVec 32 := Scalar.muli arg27 c16_i32_1504
  let c0_i32_1505 : BitVec 32 := 0#32
  let v4454 : BitVec 32 := Scalar.addi v4453 c0_i32_1505
  v4454
def k0_mult111 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1509 : BitVec 32 := 16#32
  let v4466 : BitVec 32 := Scalar.muli arg27 c16_i32_1509
  let c8_i32_1510 : BitVec 32 := 8#32
  let v4467 : BitVec 32 := Scalar.addi v4466 c8_i32_1510
  v4467
def k0_mult112 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1514 : BitVec 32 := 16#32
  let v4480 : BitVec 32 := Scalar.muli arg27 c16_i32_1514
  v4480
def k0_off32 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1514 : BitVec 32 := 16#32
  let v4480 : BitVec 32 := Scalar.muli arg27 c16_i32_1514
  let v4481 : BitVec 32 := v4480
  let v4482 : Index := Scalar.indexCast v4481
  let c3456 : Index := 3456#32
  ![v4482.toNat, 3456]
def k0_mult113 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1515 : BitVec 32 := 16#32
  let v4488 : BitVec 32 := Scalar.muli arg27 c16_i32_1515
  v4488
def k0_mult114 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1525 : BitVec 32 := 16#32
  let v4520 : BitVec 32 := Scalar.muli arg27 c16_i32_1525
  let c0_i32_1526 : BitVec 32 := 0#32
  let v4521 : BitVec 32 := Scalar.addi v4520 c0_i32_1526
  v4521
def k0_mult115 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1530 : BitVec 32 := 16#32
  let v4533 : BitVec 32 := Scalar.muli arg27 c16_i32_1530
  let c8_i32_1531 : BitVec 32 := 8#32
  let v4534 : BitVec 32 := Scalar.addi v4533 c8_i32_1531
  v4534
def k0_mult116 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1535 : BitVec 32 := 16#32
  let v4547 : BitVec 32 := Scalar.muli arg27 c16_i32_1535
  v4547
def k0_off33 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1535 : BitVec 32 := 16#32
  let v4547 : BitVec 32 := Scalar.muli arg27 c16_i32_1535
  let v4548 : BitVec 32 := v4547
  let v4549 : Index := Scalar.indexCast v4548
  let c3584 : Index := 3584#32
  ![v4549.toNat, 3584]
def k0_mult117 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1536 : BitVec 32 := 16#32
  let v4555 : BitVec 32 := Scalar.muli arg27 c16_i32_1536
  v4555
def k0_mult118 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1545 : BitVec 32 := 16#32
  let v4587 : BitVec 32 := Scalar.muli arg27 c16_i32_1545
  let c0_i32_1546 : BitVec 32 := 0#32
  let v4588 : BitVec 32 := Scalar.addi v4587 c0_i32_1546
  v4588
def k0_mult119 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1550 : BitVec 32 := 16#32
  let v4600 : BitVec 32 := Scalar.muli arg27 c16_i32_1550
  let c8_i32_1551 : BitVec 32 := 8#32
  let v4601 : BitVec 32 := Scalar.addi v4600 c8_i32_1551
  v4601
def k0_mult120 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1555 : BitVec 32 := 16#32
  let v4614 : BitVec 32 := Scalar.muli arg27 c16_i32_1555
  v4614
def k0_off34 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1555 : BitVec 32 := 16#32
  let v4614 : BitVec 32 := Scalar.muli arg27 c16_i32_1555
  let v4615 : BitVec 32 := v4614
  let v4616 : Index := Scalar.indexCast v4615
  let c3712 : Index := 3712#32
  ![v4616.toNat, 3712]
def k0_mult121 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1556 : BitVec 32 := 16#32
  let v4622 : BitVec 32 := Scalar.muli arg27 c16_i32_1556
  v4622
def k0_mult122 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1566 : BitVec 32 := 16#32
  let v4654 : BitVec 32 := Scalar.muli arg27 c16_i32_1566
  let c0_i32_1567 : BitVec 32 := 0#32
  let v4655 : BitVec 32 := Scalar.addi v4654 c0_i32_1567
  v4655
def k0_mult123 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1571 : BitVec 32 := 16#32
  let v4667 : BitVec 32 := Scalar.muli arg27 c16_i32_1571
  let c8_i32_1572 : BitVec 32 := 8#32
  let v4668 : BitVec 32 := Scalar.addi v4667 c8_i32_1572
  v4668
def k0_mult124 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1576 : BitVec 32 := 16#32
  let v4681 : BitVec 32 := Scalar.muli arg27 c16_i32_1576
  v4681
def k0_off35 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1576 : BitVec 32 := 16#32
  let v4681 : BitVec 32 := Scalar.muli arg27 c16_i32_1576
  let v4682 : BitVec 32 := v4681
  let v4683 : Index := Scalar.indexCast v4682
  let c3840 : Index := 3840#32
  ![v4683.toNat, 3840]
def k0_mult125 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1577 : BitVec 32 := 16#32
  let v4689 : BitVec 32 := Scalar.muli arg27 c16_i32_1577
  v4689
def k0_mult126 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1587 : BitVec 32 := 16#32
  let v4721 : BitVec 32 := Scalar.muli arg27 c16_i32_1587
  let c0_i32_1588 : BitVec 32 := 0#32
  let v4722 : BitVec 32 := Scalar.addi v4721 c0_i32_1588
  v4722
def k0_mult127 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1592 : BitVec 32 := 16#32
  let v4734 : BitVec 32 := Scalar.muli arg27 c16_i32_1592
  let c8_i32_1593 : BitVec 32 := 8#32
  let v4735 : BitVec 32 := Scalar.addi v4734 c8_i32_1593
  v4735
def k0_mult128 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1597 : BitVec 32 := 16#32
  let v4748 : BitVec 32 := Scalar.muli arg27 c16_i32_1597
  v4748
def k0_off36 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1597 : BitVec 32 := 16#32
  let v4748 : BitVec 32 := Scalar.muli arg27 c16_i32_1597
  let v4749 : BitVec 32 := v4748
  let v4750 : Index := Scalar.indexCast v4749
  let c3968 : Index := 3968#32
  ![v4750.toNat, 3968]
def k0_mult129 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1598 : BitVec 32 := 16#32
  let v4756 : BitVec 32 := Scalar.muli arg27 c16_i32_1598
  v4756
def k0_mult130 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1608 : BitVec 32 := 16#32
  let v4788 : BitVec 32 := Scalar.muli arg27 c16_i32_1608
  let c0_i32_1609 : BitVec 32 := 0#32
  let v4789 : BitVec 32 := Scalar.addi v4788 c0_i32_1609
  v4789
def k0_off37 (k0_t2 : Fin k0_t2_loop.trips) (c0_i32_1609 : BitVec 32) : Fin 2 → Nat :=
  let c0_i32_5 : BitVec 32 := 0#32
  let c1_i32 : BitVec 32 := 1#32
  let arg27 : BitVec 32 := Scf.iv c0_i32_5 c1_i32 k0_t2
  let c16_i32_1608 : BitVec 32 := 16#32
  let v4788 : BitVec 32 := Scalar.muli arg27 c16_i32_1608
  let v4789 : BitVec 32 := Scalar.addi v4788 c0_i32_1609
  let v4790 : BitVec 32 := v4789
  let v4791 : Index := Scalar.indexCast v4790
  let c128_1610 : Index := 128#32
  ![v4791.toNat, 128]
def k0_mult131 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1613 : BitVec 32 := 16#32
  let v4801 : BitVec 32 := Scalar.muli arg27 c16_i32_1613
  let c8_i32_1614 : BitVec 32 := 8#32
  let v4802 : BitVec 32 := Scalar.addi v4801 c8_i32_1614
  v4802
def k0_mult132 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1618 : BitVec 32 := 16#32
  let v4815 : BitVec 32 := Scalar.muli arg27 c16_i32_1618
  v4815
def k0_off38 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1618 : BitVec 32 := 16#32
  let v4815 : BitVec 32 := Scalar.muli arg27 c16_i32_1618
  let v4816 : BitVec 32 := v4815
  let v4817 : Index := Scalar.indexCast v4816
  let c4096 : Index := 4096#32
  ![v4817.toNat, 4096]
def k0_mult133 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1619 : BitVec 32 := 16#32
  let v4823 : BitVec 32 := Scalar.muli arg27 c16_i32_1619
  v4823
def k0_mult134 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1629 : BitVec 32 := 16#32
  let v4855 : BitVec 32 := Scalar.muli arg27 c16_i32_1629
  let c0_i32_1630 : BitVec 32 := 0#32
  let v4856 : BitVec 32 := Scalar.addi v4855 c0_i32_1630
  v4856
def k0_mult135 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1634 : BitVec 32 := 16#32
  let v4868 : BitVec 32 := Scalar.muli arg27 c16_i32_1634
  let c8_i32_1635 : BitVec 32 := 8#32
  let v4869 : BitVec 32 := Scalar.addi v4868 c8_i32_1635
  v4869
def k0_mult136 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1639 : BitVec 32 := 16#32
  let v4882 : BitVec 32 := Scalar.muli arg27 c16_i32_1639
  v4882
def k0_off39 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1639 : BitVec 32 := 16#32
  let v4882 : BitVec 32 := Scalar.muli arg27 c16_i32_1639
  let v4883 : BitVec 32 := v4882
  let v4884 : Index := Scalar.indexCast v4883
  let c4224 : Index := 4224#32
  ![v4884.toNat, 4224]
def k0_mult137 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1640 : BitVec 32 := 16#32
  let v4890 : BitVec 32 := Scalar.muli arg27 c16_i32_1640
  v4890
def k0_mult138 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1650 : BitVec 32 := 16#32
  let v4922 : BitVec 32 := Scalar.muli arg27 c16_i32_1650
  let c0_i32_1651 : BitVec 32 := 0#32
  let v4923 : BitVec 32 := Scalar.addi v4922 c0_i32_1651
  v4923
def k0_mult139 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1655 : BitVec 32 := 16#32
  let v4935 : BitVec 32 := Scalar.muli arg27 c16_i32_1655
  let c8_i32_1656 : BitVec 32 := 8#32
  let v4936 : BitVec 32 := Scalar.addi v4935 c8_i32_1656
  v4936
def k0_mult140 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1660 : BitVec 32 := 16#32
  let v4949 : BitVec 32 := Scalar.muli arg27 c16_i32_1660
  v4949
def k0_off40 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1660 : BitVec 32 := 16#32
  let v4949 : BitVec 32 := Scalar.muli arg27 c16_i32_1660
  let v4950 : BitVec 32 := v4949
  let v4951 : Index := Scalar.indexCast v4950
  let c4352 : Index := 4352#32
  ![v4951.toNat, 4352]
def k0_mult141 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1661 : BitVec 32 := 16#32
  let v4957 : BitVec 32 := Scalar.muli arg27 c16_i32_1661
  v4957
def k0_mult142 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1671 : BitVec 32 := 16#32
  let v4989 : BitVec 32 := Scalar.muli arg27 c16_i32_1671
  let c0_i32_1672 : BitVec 32 := 0#32
  let v4990 : BitVec 32 := Scalar.addi v4989 c0_i32_1672
  v4990
def k0_mult143 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1676 : BitVec 32 := 16#32
  let v5002 : BitVec 32 := Scalar.muli arg27 c16_i32_1676
  let c8_i32_1677 : BitVec 32 := 8#32
  let v5003 : BitVec 32 := Scalar.addi v5002 c8_i32_1677
  v5003
def k0_mult144 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1681 : BitVec 32 := 16#32
  let v5016 : BitVec 32 := Scalar.muli arg27 c16_i32_1681
  v5016
def k0_off41 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1681 : BitVec 32 := 16#32
  let v5016 : BitVec 32 := Scalar.muli arg27 c16_i32_1681
  let v5017 : BitVec 32 := v5016
  let v5018 : Index := Scalar.indexCast v5017
  let c4480 : Index := 4480#32
  ![v5018.toNat, 4480]
def k0_mult145 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1682 : BitVec 32 := 16#32
  let v5024 : BitVec 32 := Scalar.muli arg27 c16_i32_1682
  v5024
def k0_mult146 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1692 : BitVec 32 := 16#32
  let v5056 : BitVec 32 := Scalar.muli arg27 c16_i32_1692
  let c0_i32_1693 : BitVec 32 := 0#32
  let v5057 : BitVec 32 := Scalar.addi v5056 c0_i32_1693
  v5057
def k0_mult147 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1697 : BitVec 32 := 16#32
  let v5069 : BitVec 32 := Scalar.muli arg27 c16_i32_1697
  let c8_i32_1698 : BitVec 32 := 8#32
  let v5070 : BitVec 32 := Scalar.addi v5069 c8_i32_1698
  v5070
def k0_mult148 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1702 : BitVec 32 := 16#32
  let v5083 : BitVec 32 := Scalar.muli arg27 c16_i32_1702
  v5083
def k0_off42 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1702 : BitVec 32 := 16#32
  let v5083 : BitVec 32 := Scalar.muli arg27 c16_i32_1702
  let v5084 : BitVec 32 := v5083
  let v5085 : Index := Scalar.indexCast v5084
  let c4608 : Index := 4608#32
  ![v5085.toNat, 4608]
def k0_mult149 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1703 : BitVec 32 := 16#32
  let v5091 : BitVec 32 := Scalar.muli arg27 c16_i32_1703
  v5091
def k0_mult150 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1713 : BitVec 32 := 16#32
  let v5123 : BitVec 32 := Scalar.muli arg27 c16_i32_1713
  let c0_i32_1714 : BitVec 32 := 0#32
  let v5124 : BitVec 32 := Scalar.addi v5123 c0_i32_1714
  v5124
def k0_mult151 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1718 : BitVec 32 := 16#32
  let v5136 : BitVec 32 := Scalar.muli arg27 c16_i32_1718
  let c8_i32_1719 : BitVec 32 := 8#32
  let v5137 : BitVec 32 := Scalar.addi v5136 c8_i32_1719
  v5137
def k0_mult152 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1723 : BitVec 32 := 16#32
  let v5150 : BitVec 32 := Scalar.muli arg27 c16_i32_1723
  v5150
def k0_off43 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1723 : BitVec 32 := 16#32
  let v5150 : BitVec 32 := Scalar.muli arg27 c16_i32_1723
  let v5151 : BitVec 32 := v5150
  let v5152 : Index := Scalar.indexCast v5151
  let c4736 : Index := 4736#32
  ![v5152.toNat, 4736]
def k0_mult153 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1724 : BitVec 32 := 16#32
  let v5158 : BitVec 32 := Scalar.muli arg27 c16_i32_1724
  v5158
def k0_mult154 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1734 : BitVec 32 := 16#32
  let v5190 : BitVec 32 := Scalar.muli arg27 c16_i32_1734
  let c0_i32_1735 : BitVec 32 := 0#32
  let v5191 : BitVec 32 := Scalar.addi v5190 c0_i32_1735
  v5191
def k0_mult155 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1739 : BitVec 32 := 16#32
  let v5203 : BitVec 32 := Scalar.muli arg27 c16_i32_1739
  let c8_i32_1740 : BitVec 32 := 8#32
  let v5204 : BitVec 32 := Scalar.addi v5203 c8_i32_1740
  v5204
def k0_mult156 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1744 : BitVec 32 := 16#32
  let v5217 : BitVec 32 := Scalar.muli arg27 c16_i32_1744
  v5217
def k0_off44 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1744 : BitVec 32 := 16#32
  let v5217 : BitVec 32 := Scalar.muli arg27 c16_i32_1744
  let v5218 : BitVec 32 := v5217
  let v5219 : Index := Scalar.indexCast v5218
  let c4864 : Index := 4864#32
  ![v5219.toNat, 4864]
def k0_mult157 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1745 : BitVec 32 := 16#32
  let v5225 : BitVec 32 := Scalar.muli arg27 c16_i32_1745
  v5225
def k0_mult158 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1755 : BitVec 32 := 16#32
  let v5257 : BitVec 32 := Scalar.muli arg27 c16_i32_1755
  let c0_i32_1756 : BitVec 32 := 0#32
  let v5258 : BitVec 32 := Scalar.addi v5257 c0_i32_1756
  v5258
def k0_mult159 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1760 : BitVec 32 := 16#32
  let v5270 : BitVec 32 := Scalar.muli arg27 c16_i32_1760
  let c8_i32_1761 : BitVec 32 := 8#32
  let v5271 : BitVec 32 := Scalar.addi v5270 c8_i32_1761
  v5271
def k0_mult160 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1765 : BitVec 32 := 16#32
  let v5284 : BitVec 32 := Scalar.muli arg27 c16_i32_1765
  v5284
def k0_off45 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1765 : BitVec 32 := 16#32
  let v5284 : BitVec 32 := Scalar.muli arg27 c16_i32_1765
  let v5285 : BitVec 32 := v5284
  let v5286 : Index := Scalar.indexCast v5285
  let c4992 : Index := 4992#32
  ![v5286.toNat, 4992]
def k0_mult161 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1766 : BitVec 32 := 16#32
  let v5292 : BitVec 32 := Scalar.muli arg27 c16_i32_1766
  v5292
def k0_mult162 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1776 : BitVec 32 := 16#32
  let v5324 : BitVec 32 := Scalar.muli arg27 c16_i32_1776
  let c0_i32_1777 : BitVec 32 := 0#32
  let v5325 : BitVec 32 := Scalar.addi v5324 c0_i32_1777
  v5325
def k0_mult163 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1781 : BitVec 32 := 16#32
  let v5337 : BitVec 32 := Scalar.muli arg27 c16_i32_1781
  let c8_i32_1782 : BitVec 32 := 8#32
  let v5338 : BitVec 32 := Scalar.addi v5337 c8_i32_1782
  v5338
def k0_mult164 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1786 : BitVec 32 := 16#32
  let v5351 : BitVec 32 := Scalar.muli arg27 c16_i32_1786
  v5351
def k0_off46 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1786 : BitVec 32 := 16#32
  let v5351 : BitVec 32 := Scalar.muli arg27 c16_i32_1786
  let v5352 : BitVec 32 := v5351
  let v5353 : Index := Scalar.indexCast v5352
  let c5120 : Index := 5120#32
  ![v5353.toNat, 5120]
def k0_mult165 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1787 : BitVec 32 := 16#32
  let v5359 : BitVec 32 := Scalar.muli arg27 c16_i32_1787
  v5359
def k0_mult166 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1797 : BitVec 32 := 16#32
  let v5391 : BitVec 32 := Scalar.muli arg27 c16_i32_1797
  let c0_i32_1798 : BitVec 32 := 0#32
  let v5392 : BitVec 32 := Scalar.addi v5391 c0_i32_1798
  v5392
def k0_mult167 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1802 : BitVec 32 := 16#32
  let v5404 : BitVec 32 := Scalar.muli arg27 c16_i32_1802
  let c8_i32_1803 : BitVec 32 := 8#32
  let v5405 : BitVec 32 := Scalar.addi v5404 c8_i32_1803
  v5405
def k0_mult168 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1807 : BitVec 32 := 16#32
  let v5418 : BitVec 32 := Scalar.muli arg27 c16_i32_1807
  v5418
def k0_off47 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1807 : BitVec 32 := 16#32
  let v5418 : BitVec 32 := Scalar.muli arg27 c16_i32_1807
  let v5419 : BitVec 32 := v5418
  let v5420 : Index := Scalar.indexCast v5419
  let c5248 : Index := 5248#32
  ![v5420.toNat, 5248]
def k0_mult169 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1808 : BitVec 32 := 16#32
  let v5426 : BitVec 32 := Scalar.muli arg27 c16_i32_1808
  v5426
def k0_mult170 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1818 : BitVec 32 := 16#32
  let v5458 : BitVec 32 := Scalar.muli arg27 c16_i32_1818
  let c0_i32_1819 : BitVec 32 := 0#32
  let v5459 : BitVec 32 := Scalar.addi v5458 c0_i32_1819
  v5459
def k0_mult171 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1823 : BitVec 32 := 16#32
  let v5471 : BitVec 32 := Scalar.muli arg27 c16_i32_1823
  let c8_i32_1824 : BitVec 32 := 8#32
  let v5472 : BitVec 32 := Scalar.addi v5471 c8_i32_1824
  v5472
def k0_mult172 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1828 : BitVec 32 := 16#32
  let v5485 : BitVec 32 := Scalar.muli arg27 c16_i32_1828
  v5485
def k0_off48 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1828 : BitVec 32 := 16#32
  let v5485 : BitVec 32 := Scalar.muli arg27 c16_i32_1828
  let v5486 : BitVec 32 := v5485
  let v5487 : Index := Scalar.indexCast v5486
  let c5376 : Index := 5376#32
  ![v5487.toNat, 5376]
def k0_mult173 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1829 : BitVec 32 := 16#32
  let v5493 : BitVec 32 := Scalar.muli arg27 c16_i32_1829
  v5493
def k0_mult174 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1839 : BitVec 32 := 16#32
  let v5525 : BitVec 32 := Scalar.muli arg27 c16_i32_1839
  let c0_i32_1840 : BitVec 32 := 0#32
  let v5526 : BitVec 32 := Scalar.addi v5525 c0_i32_1840
  v5526
def k0_mult175 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1844 : BitVec 32 := 16#32
  let v5538 : BitVec 32 := Scalar.muli arg27 c16_i32_1844
  let c8_i32_1845 : BitVec 32 := 8#32
  let v5539 : BitVec 32 := Scalar.addi v5538 c8_i32_1845
  v5539
def k0_mult176 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1849 : BitVec 32 := 16#32
  let v5552 : BitVec 32 := Scalar.muli arg27 c16_i32_1849
  v5552
def k0_off49 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1849 : BitVec 32 := 16#32
  let v5552 : BitVec 32 := Scalar.muli arg27 c16_i32_1849
  let v5553 : BitVec 32 := v5552
  let v5554 : Index := Scalar.indexCast v5553
  let c5504 : Index := 5504#32
  ![v5554.toNat, 5504]
def k0_mult177 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1850 : BitVec 32 := 16#32
  let v5560 : BitVec 32 := Scalar.muli arg27 c16_i32_1850
  v5560
def k0_mult178 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1860 : BitVec 32 := 16#32
  let v5592 : BitVec 32 := Scalar.muli arg27 c16_i32_1860
  let c0_i32_1861 : BitVec 32 := 0#32
  let v5593 : BitVec 32 := Scalar.addi v5592 c0_i32_1861
  v5593
def k0_mult179 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1865 : BitVec 32 := 16#32
  let v5605 : BitVec 32 := Scalar.muli arg27 c16_i32_1865
  let c8_i32_1866 : BitVec 32 := 8#32
  let v5606 : BitVec 32 := Scalar.addi v5605 c8_i32_1866
  v5606
def k0_mult180 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1870 : BitVec 32 := 16#32
  let v5619 : BitVec 32 := Scalar.muli arg27 c16_i32_1870
  v5619
def k0_off50 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1870 : BitVec 32 := 16#32
  let v5619 : BitVec 32 := Scalar.muli arg27 c16_i32_1870
  let v5620 : BitVec 32 := v5619
  let v5621 : Index := Scalar.indexCast v5620
  let c5632 : Index := 5632#32
  ![v5621.toNat, 5632]
def k0_mult181 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1871 : BitVec 32 := 16#32
  let v5627 : BitVec 32 := Scalar.muli arg27 c16_i32_1871
  v5627
def k0_mult182 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1881 : BitVec 32 := 16#32
  let v5659 : BitVec 32 := Scalar.muli arg27 c16_i32_1881
  let c0_i32_1882 : BitVec 32 := 0#32
  let v5660 : BitVec 32 := Scalar.addi v5659 c0_i32_1882
  v5660
def k0_mult183 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1886 : BitVec 32 := 16#32
  let v5672 : BitVec 32 := Scalar.muli arg27 c16_i32_1886
  let c8_i32_1887 : BitVec 32 := 8#32
  let v5673 : BitVec 32 := Scalar.addi v5672 c8_i32_1887
  v5673
def k0_mult184 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1891 : BitVec 32 := 16#32
  let v5686 : BitVec 32 := Scalar.muli arg27 c16_i32_1891
  v5686
def k0_off51 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1891 : BitVec 32 := 16#32
  let v5686 : BitVec 32 := Scalar.muli arg27 c16_i32_1891
  let v5687 : BitVec 32 := v5686
  let v5688 : Index := Scalar.indexCast v5687
  let c5760 : Index := 5760#32
  ![v5688.toNat, 5760]
def k0_mult185 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1892 : BitVec 32 := 16#32
  let v5694 : BitVec 32 := Scalar.muli arg27 c16_i32_1892
  v5694
def k0_mult186 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1902 : BitVec 32 := 16#32
  let v5726 : BitVec 32 := Scalar.muli arg27 c16_i32_1902
  let c0_i32_1903 : BitVec 32 := 0#32
  let v5727 : BitVec 32 := Scalar.addi v5726 c0_i32_1903
  v5727
def k0_mult187 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1907 : BitVec 32 := 16#32
  let v5739 : BitVec 32 := Scalar.muli arg27 c16_i32_1907
  let c8_i32_1908 : BitVec 32 := 8#32
  let v5740 : BitVec 32 := Scalar.addi v5739 c8_i32_1908
  v5740
def k0_mult188 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1912 : BitVec 32 := 16#32
  let v5753 : BitVec 32 := Scalar.muli arg27 c16_i32_1912
  v5753
def k0_off52 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1912 : BitVec 32 := 16#32
  let v5753 : BitVec 32 := Scalar.muli arg27 c16_i32_1912
  let v5754 : BitVec 32 := v5753
  let v5755 : Index := Scalar.indexCast v5754
  let c5888 : Index := 5888#32
  ![v5755.toNat, 5888]
def k0_mult189 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1913 : BitVec 32 := 16#32
  let v5761 : BitVec 32 := Scalar.muli arg27 c16_i32_1913
  v5761
def k0_mult190 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1923 : BitVec 32 := 16#32
  let v5793 : BitVec 32 := Scalar.muli arg27 c16_i32_1923
  let c0_i32_1924 : BitVec 32 := 0#32
  let v5794 : BitVec 32 := Scalar.addi v5793 c0_i32_1924
  v5794
def k0_mult191 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1928 : BitVec 32 := 16#32
  let v5806 : BitVec 32 := Scalar.muli arg27 c16_i32_1928
  let c8_i32_1929 : BitVec 32 := 8#32
  let v5807 : BitVec 32 := Scalar.addi v5806 c8_i32_1929
  v5807
def k0_mult192 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1933 : BitVec 32 := 16#32
  let v5820 : BitVec 32 := Scalar.muli arg27 c16_i32_1933
  v5820
def k0_off53 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1933 : BitVec 32 := 16#32
  let v5820 : BitVec 32 := Scalar.muli arg27 c16_i32_1933
  let v5821 : BitVec 32 := v5820
  let v5822 : Index := Scalar.indexCast v5821
  let c6016 : Index := 6016#32
  ![v5822.toNat, 6016]
def k0_mult193 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1934 : BitVec 32 := 16#32
  let v5828 : BitVec 32 := Scalar.muli arg27 c16_i32_1934
  v5828
def k0_mult194 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1944 : BitVec 32 := 16#32
  let v5860 : BitVec 32 := Scalar.muli arg27 c16_i32_1944
  let c0_i32_1945 : BitVec 32 := 0#32
  let v5861 : BitVec 32 := Scalar.addi v5860 c0_i32_1945
  v5861
def k0_mult195 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1949 : BitVec 32 := 16#32
  let v5873 : BitVec 32 := Scalar.muli arg27 c16_i32_1949
  let c8_i32_1950 : BitVec 32 := 8#32
  let v5874 : BitVec 32 := Scalar.addi v5873 c8_i32_1950
  v5874
def k0_mult196 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1954 : BitVec 32 := 16#32
  let v5887 : BitVec 32 := Scalar.muli arg27 c16_i32_1954
  v5887
def k0_off54 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1954 : BitVec 32 := 16#32
  let v5887 : BitVec 32 := Scalar.muli arg27 c16_i32_1954
  let v5888 : BitVec 32 := v5887
  let v5889 : Index := Scalar.indexCast v5888
  let c6144 : Index := 6144#32
  ![v5889.toNat, 6144]
def k0_mult197 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1955 : BitVec 32 := 16#32
  let v5895 : BitVec 32 := Scalar.muli arg27 c16_i32_1955
  v5895
def k0_mult198 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1965 : BitVec 32 := 16#32
  let v5927 : BitVec 32 := Scalar.muli arg27 c16_i32_1965
  let c0_i32_1966 : BitVec 32 := 0#32
  let v5928 : BitVec 32 := Scalar.addi v5927 c0_i32_1966
  v5928
def k0_mult199 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1970 : BitVec 32 := 16#32
  let v5940 : BitVec 32 := Scalar.muli arg27 c16_i32_1970
  let c8_i32_1971 : BitVec 32 := 8#32
  let v5941 : BitVec 32 := Scalar.addi v5940 c8_i32_1971
  v5941
def k0_mult200 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1975 : BitVec 32 := 16#32
  let v5954 : BitVec 32 := Scalar.muli arg27 c16_i32_1975
  v5954
def k0_off55 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1975 : BitVec 32 := 16#32
  let v5954 : BitVec 32 := Scalar.muli arg27 c16_i32_1975
  let v5955 : BitVec 32 := v5954
  let v5956 : Index := Scalar.indexCast v5955
  let c6272 : Index := 6272#32
  ![v5956.toNat, 6272]
def k0_mult201 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1976 : BitVec 32 := 16#32
  let v5962 : BitVec 32 := Scalar.muli arg27 c16_i32_1976
  v5962
def k0_mult202 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1986 : BitVec 32 := 16#32
  let v5994 : BitVec 32 := Scalar.muli arg27 c16_i32_1986
  let c0_i32_1987 : BitVec 32 := 0#32
  let v5995 : BitVec 32 := Scalar.addi v5994 c0_i32_1987
  v5995
def k0_mult203 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1991 : BitVec 32 := 16#32
  let v6007 : BitVec 32 := Scalar.muli arg27 c16_i32_1991
  let c8_i32_1992 : BitVec 32 := 8#32
  let v6008 : BitVec 32 := Scalar.addi v6007 c8_i32_1992
  v6008
def k0_mult204 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1996 : BitVec 32 := 16#32
  let v6021 : BitVec 32 := Scalar.muli arg27 c16_i32_1996
  v6021
def k0_off56 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1996 : BitVec 32 := 16#32
  let v6021 : BitVec 32 := Scalar.muli arg27 c16_i32_1996
  let v6022 : BitVec 32 := v6021
  let v6023 : Index := Scalar.indexCast v6022
  let c6400 : Index := 6400#32
  ![v6023.toNat, 6400]
def k0_mult205 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1997 : BitVec 32 := 16#32
  let v6029 : BitVec 32 := Scalar.muli arg27 c16_i32_1997
  v6029
def k0_mult206 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2007 : BitVec 32 := 16#32
  let v6061 : BitVec 32 := Scalar.muli arg27 c16_i32_2007
  let c0_i32_2008 : BitVec 32 := 0#32
  let v6062 : BitVec 32 := Scalar.addi v6061 c0_i32_2008
  v6062
def k0_mult207 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2012 : BitVec 32 := 16#32
  let v6074 : BitVec 32 := Scalar.muli arg27 c16_i32_2012
  let c8_i32_2013 : BitVec 32 := 8#32
  let v6075 : BitVec 32 := Scalar.addi v6074 c8_i32_2013
  v6075
def k0_mult208 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2017 : BitVec 32 := 16#32
  let v6088 : BitVec 32 := Scalar.muli arg27 c16_i32_2017
  v6088
def k0_off57 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2017 : BitVec 32 := 16#32
  let v6088 : BitVec 32 := Scalar.muli arg27 c16_i32_2017
  let v6089 : BitVec 32 := v6088
  let v6090 : Index := Scalar.indexCast v6089
  let c6528 : Index := 6528#32
  ![v6090.toNat, 6528]
def k0_mult209 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2018 : BitVec 32 := 16#32
  let v6096 : BitVec 32 := Scalar.muli arg27 c16_i32_2018
  v6096
def k0_mult210 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2028 : BitVec 32 := 16#32
  let v6128 : BitVec 32 := Scalar.muli arg27 c16_i32_2028
  let c0_i32_2029 : BitVec 32 := 0#32
  let v6129 : BitVec 32 := Scalar.addi v6128 c0_i32_2029
  v6129
def k0_mult211 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2033 : BitVec 32 := 16#32
  let v6141 : BitVec 32 := Scalar.muli arg27 c16_i32_2033
  let c8_i32_2034 : BitVec 32 := 8#32
  let v6142 : BitVec 32 := Scalar.addi v6141 c8_i32_2034
  v6142
def k0_mult212 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2038 : BitVec 32 := 16#32
  let v6155 : BitVec 32 := Scalar.muli arg27 c16_i32_2038
  v6155
def k0_off58 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2038 : BitVec 32 := 16#32
  let v6155 : BitVec 32 := Scalar.muli arg27 c16_i32_2038
  let v6156 : BitVec 32 := v6155
  let v6157 : Index := Scalar.indexCast v6156
  let c6656 : Index := 6656#32
  ![v6157.toNat, 6656]
def k0_mult213 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2039 : BitVec 32 := 16#32
  let v6163 : BitVec 32 := Scalar.muli arg27 c16_i32_2039
  v6163
def k0_mult214 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2049 : BitVec 32 := 16#32
  let v6195 : BitVec 32 := Scalar.muli arg27 c16_i32_2049
  let c0_i32_2050 : BitVec 32 := 0#32
  let v6196 : BitVec 32 := Scalar.addi v6195 c0_i32_2050
  v6196
def k0_mult215 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2054 : BitVec 32 := 16#32
  let v6208 : BitVec 32 := Scalar.muli arg27 c16_i32_2054
  let c8_i32_2055 : BitVec 32 := 8#32
  let v6209 : BitVec 32 := Scalar.addi v6208 c8_i32_2055
  v6209
def k0_mult216 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2059 : BitVec 32 := 16#32
  let v6222 : BitVec 32 := Scalar.muli arg27 c16_i32_2059
  v6222
def k0_off59 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2059 : BitVec 32 := 16#32
  let v6222 : BitVec 32 := Scalar.muli arg27 c16_i32_2059
  let v6223 : BitVec 32 := v6222
  let v6224 : Index := Scalar.indexCast v6223
  let c6784 : Index := 6784#32
  ![v6224.toNat, 6784]
def k0_mult217 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2060 : BitVec 32 := 16#32
  let v6230 : BitVec 32 := Scalar.muli arg27 c16_i32_2060
  v6230
def k0_mult218 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2070 : BitVec 32 := 16#32
  let v6262 : BitVec 32 := Scalar.muli arg27 c16_i32_2070
  let c0_i32_2071 : BitVec 32 := 0#32
  let v6263 : BitVec 32 := Scalar.addi v6262 c0_i32_2071
  v6263
def k0_mult219 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2075 : BitVec 32 := 16#32
  let v6275 : BitVec 32 := Scalar.muli arg27 c16_i32_2075
  let c8_i32_2076 : BitVec 32 := 8#32
  let v6276 : BitVec 32 := Scalar.addi v6275 c8_i32_2076
  v6276
def k0_mult220 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2080 : BitVec 32 := 16#32
  let v6289 : BitVec 32 := Scalar.muli arg27 c16_i32_2080
  v6289
def k0_off60 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2080 : BitVec 32 := 16#32
  let v6289 : BitVec 32 := Scalar.muli arg27 c16_i32_2080
  let v6290 : BitVec 32 := v6289
  let v6291 : Index := Scalar.indexCast v6290
  let c6912 : Index := 6912#32
  ![v6291.toNat, 6912]
def k0_mult221 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2081 : BitVec 32 := 16#32
  let v6297 : BitVec 32 := Scalar.muli arg27 c16_i32_2081
  v6297
def k0_mult222 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2091 : BitVec 32 := 16#32
  let v6329 : BitVec 32 := Scalar.muli arg27 c16_i32_2091
  let c0_i32_2092 : BitVec 32 := 0#32
  let v6330 : BitVec 32 := Scalar.addi v6329 c0_i32_2092
  v6330
def k0_mult223 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2096 : BitVec 32 := 16#32
  let v6342 : BitVec 32 := Scalar.muli arg27 c16_i32_2096
  let c8_i32_2097 : BitVec 32 := 8#32
  let v6343 : BitVec 32 := Scalar.addi v6342 c8_i32_2097
  v6343
def k0_mult224 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2101 : BitVec 32 := 16#32
  let v6356 : BitVec 32 := Scalar.muli arg27 c16_i32_2101
  v6356
def k0_off61 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2101 : BitVec 32 := 16#32
  let v6356 : BitVec 32 := Scalar.muli arg27 c16_i32_2101
  let v6357 : BitVec 32 := v6356
  let v6358 : Index := Scalar.indexCast v6357
  let c7040 : Index := 7040#32
  ![v6358.toNat, 7040]
def k0_mult225 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2102 : BitVec 32 := 16#32
  let v6364 : BitVec 32 := Scalar.muli arg27 c16_i32_2102
  v6364
def k0_mult226 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2112 : BitVec 32 := 16#32
  let v6396 : BitVec 32 := Scalar.muli arg27 c16_i32_2112
  let c0_i32_2113 : BitVec 32 := 0#32
  let v6397 : BitVec 32 := Scalar.addi v6396 c0_i32_2113
  v6397
def k0_mult227 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2117 : BitVec 32 := 16#32
  let v6409 : BitVec 32 := Scalar.muli arg27 c16_i32_2117
  let c8_i32_2118 : BitVec 32 := 8#32
  let v6410 : BitVec 32 := Scalar.addi v6409 c8_i32_2118
  v6410
def k0_mult228 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2122 : BitVec 32 := 16#32
  let v6423 : BitVec 32 := Scalar.muli arg27 c16_i32_2122
  v6423
def k0_off62 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2122 : BitVec 32 := 16#32
  let v6423 : BitVec 32 := Scalar.muli arg27 c16_i32_2122
  let v6424 : BitVec 32 := v6423
  let v6425 : Index := Scalar.indexCast v6424
  let c7168 : Index := 7168#32
  ![v6425.toNat, 7168]
def k0_mult229 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2123 : BitVec 32 := 16#32
  let v6431 : BitVec 32 := Scalar.muli arg27 c16_i32_2123
  v6431
def k0_mult230 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2133 : BitVec 32 := 16#32
  let v6463 : BitVec 32 := Scalar.muli arg27 c16_i32_2133
  let c0_i32_2134 : BitVec 32 := 0#32
  let v6464 : BitVec 32 := Scalar.addi v6463 c0_i32_2134
  v6464
def k0_mult231 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2138 : BitVec 32 := 16#32
  let v6476 : BitVec 32 := Scalar.muli arg27 c16_i32_2138
  let c8_i32_2139 : BitVec 32 := 8#32
  let v6477 : BitVec 32 := Scalar.addi v6476 c8_i32_2139
  v6477
def k0_mult232 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2143 : BitVec 32 := 16#32
  let v6490 : BitVec 32 := Scalar.muli arg27 c16_i32_2143
  v6490
def k0_off63 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2143 : BitVec 32 := 16#32
  let v6490 : BitVec 32 := Scalar.muli arg27 c16_i32_2143
  let v6491 : BitVec 32 := v6490
  let v6492 : Index := Scalar.indexCast v6491
  let c7296 : Index := 7296#32
  ![v6492.toNat, 7296]
def k0_mult233 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2144 : BitVec 32 := 16#32
  let v6498 : BitVec 32 := Scalar.muli arg27 c16_i32_2144
  v6498
def k0_mult234 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2154 : BitVec 32 := 16#32
  let v6530 : BitVec 32 := Scalar.muli arg27 c16_i32_2154
  let c0_i32_2155 : BitVec 32 := 0#32
  let v6531 : BitVec 32 := Scalar.addi v6530 c0_i32_2155
  v6531
def k0_mult235 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2159 : BitVec 32 := 16#32
  let v6543 : BitVec 32 := Scalar.muli arg27 c16_i32_2159
  let c8_i32_2160 : BitVec 32 := 8#32
  let v6544 : BitVec 32 := Scalar.addi v6543 c8_i32_2160
  v6544
def k0_mult236 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2164 : BitVec 32 := 16#32
  let v6557 : BitVec 32 := Scalar.muli arg27 c16_i32_2164
  v6557
def k0_off64 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2164 : BitVec 32 := 16#32
  let v6557 : BitVec 32 := Scalar.muli arg27 c16_i32_2164
  let v6558 : BitVec 32 := v6557
  let v6559 : Index := Scalar.indexCast v6558
  let c7424 : Index := 7424#32
  ![v6559.toNat, 7424]
def k0_mult237 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2165 : BitVec 32 := 16#32
  let v6565 : BitVec 32 := Scalar.muli arg27 c16_i32_2165
  v6565
def k0_mult238 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2175 : BitVec 32 := 16#32
  let v6597 : BitVec 32 := Scalar.muli arg27 c16_i32_2175
  let c0_i32_2176 : BitVec 32 := 0#32
  let v6598 : BitVec 32 := Scalar.addi v6597 c0_i32_2176
  v6598
def k0_mult239 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2180 : BitVec 32 := 16#32
  let v6610 : BitVec 32 := Scalar.muli arg27 c16_i32_2180
  let c8_i32_2181 : BitVec 32 := 8#32
  let v6611 : BitVec 32 := Scalar.addi v6610 c8_i32_2181
  v6611
def k0_mult240 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2185 : BitVec 32 := 16#32
  let v6624 : BitVec 32 := Scalar.muli arg27 c16_i32_2185
  v6624
def k0_off65 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2185 : BitVec 32 := 16#32
  let v6624 : BitVec 32 := Scalar.muli arg27 c16_i32_2185
  let v6625 : BitVec 32 := v6624
  let v6626 : Index := Scalar.indexCast v6625
  let c7552 : Index := 7552#32
  ![v6626.toNat, 7552]
def k0_mult241 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2186 : BitVec 32 := 16#32
  let v6632 : BitVec 32 := Scalar.muli arg27 c16_i32_2186
  v6632
def k0_mult242 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2196 : BitVec 32 := 16#32
  let v6664 : BitVec 32 := Scalar.muli arg27 c16_i32_2196
  let c0_i32_2197 : BitVec 32 := 0#32
  let v6665 : BitVec 32 := Scalar.addi v6664 c0_i32_2197
  v6665
def k0_mult243 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2201 : BitVec 32 := 16#32
  let v6677 : BitVec 32 := Scalar.muli arg27 c16_i32_2201
  let c8_i32_2202 : BitVec 32 := 8#32
  let v6678 : BitVec 32 := Scalar.addi v6677 c8_i32_2202
  v6678
def k0_mult244 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2206 : BitVec 32 := 16#32
  let v6691 : BitVec 32 := Scalar.muli arg27 c16_i32_2206
  v6691
def k0_off66 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2206 : BitVec 32 := 16#32
  let v6691 : BitVec 32 := Scalar.muli arg27 c16_i32_2206
  let v6692 : BitVec 32 := v6691
  let v6693 : Index := Scalar.indexCast v6692
  let c7680 : Index := 7680#32
  ![v6693.toNat, 7680]
def k0_mult245 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2207 : BitVec 32 := 16#32
  let v6699 : BitVec 32 := Scalar.muli arg27 c16_i32_2207
  v6699
def k0_mult246 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2217 : BitVec 32 := 16#32
  let v6731 : BitVec 32 := Scalar.muli arg27 c16_i32_2217
  let c0_i32_2218 : BitVec 32 := 0#32
  let v6732 : BitVec 32 := Scalar.addi v6731 c0_i32_2218
  v6732
def k0_mult247 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2222 : BitVec 32 := 16#32
  let v6744 : BitVec 32 := Scalar.muli arg27 c16_i32_2222
  let c8_i32_2223 : BitVec 32 := 8#32
  let v6745 : BitVec 32 := Scalar.addi v6744 c8_i32_2223
  v6745
def k0_mult248 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2227 : BitVec 32 := 16#32
  let v6758 : BitVec 32 := Scalar.muli arg27 c16_i32_2227
  v6758
def k0_off67 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2227 : BitVec 32 := 16#32
  let v6758 : BitVec 32 := Scalar.muli arg27 c16_i32_2227
  let v6759 : BitVec 32 := v6758
  let v6760 : Index := Scalar.indexCast v6759
  let c7808 : Index := 7808#32
  ![v6760.toNat, 7808]
def k0_mult249 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2228 : BitVec 32 := 16#32
  let v6766 : BitVec 32 := Scalar.muli arg27 c16_i32_2228
  v6766
def k0_mult250 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2238 : BitVec 32 := 16#32
  let v6798 : BitVec 32 := Scalar.muli arg27 c16_i32_2238
  let c0_i32_2239 : BitVec 32 := 0#32
  let v6799 : BitVec 32 := Scalar.addi v6798 c0_i32_2239
  v6799
def k0_mult251 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2243 : BitVec 32 := 16#32
  let v6811 : BitVec 32 := Scalar.muli arg27 c16_i32_2243
  let c8_i32_2244 : BitVec 32 := 8#32
  let v6812 : BitVec 32 := Scalar.addi v6811 c8_i32_2244
  v6812
def k0_mult252 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2248 : BitVec 32 := 16#32
  let v6825 : BitVec 32 := Scalar.muli arg27 c16_i32_2248
  v6825
def k0_off68 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2248 : BitVec 32 := 16#32
  let v6825 : BitVec 32 := Scalar.muli arg27 c16_i32_2248
  let v6826 : BitVec 32 := v6825
  let v6827 : Index := Scalar.indexCast v6826
  let c7936 : Index := 7936#32
  ![v6827.toNat, 7936]
def k0_mult253 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2249 : BitVec 32 := 16#32
  let v6833 : BitVec 32 := Scalar.muli arg27 c16_i32_2249
  v6833
def k0_mult254 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2259 : BitVec 32 := 16#32
  let v6865 : BitVec 32 := Scalar.muli arg27 c16_i32_2259
  let c0_i32_2260 : BitVec 32 := 0#32
  let v6866 : BitVec 32 := Scalar.addi v6865 c0_i32_2260
  v6866
def k0_mult255 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2264 : BitVec 32 := 16#32
  let v6878 : BitVec 32 := Scalar.muli arg27 c16_i32_2264
  let c8_i32_2265 : BitVec 32 := 8#32
  let v6879 : BitVec 32 := Scalar.addi v6878 c8_i32_2265
  v6879
def k0_mult256 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2269 : BitVec 32 := 16#32
  let v6892 : BitVec 32 := Scalar.muli arg27 c16_i32_2269
  v6892
def k0_off69 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2269 : BitVec 32 := 16#32
  let v6892 : BitVec 32 := Scalar.muli arg27 c16_i32_2269
  let v6893 : BitVec 32 := v6892
  let v6894 : Index := Scalar.indexCast v6893
  let c8064 : Index := 8064#32
  ![v6894.toNat, 8064]
def k0_mult257 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2270 : BitVec 32 := 16#32
  let v6900 : BitVec 32 := Scalar.muli arg27 c16_i32_2270
  v6900
def k0_mult258 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2280 : BitVec 32 := 16#32
  let v6932 : BitVec 32 := Scalar.muli arg27 c16_i32_2280
  let c0_i32_2281 : BitVec 32 := 0#32
  let v6933 : BitVec 32 := Scalar.addi v6932 c0_i32_2281
  v6933
def k0_off70 (k0_t2 : Fin k0_t2_loop.trips) (c0_i32_2281 : BitVec 32) : Fin 2 → Nat :=
  let c0_i32_5 : BitVec 32 := 0#32
  let c1_i32 : BitVec 32 := 1#32
  let arg27 : BitVec 32 := Scf.iv c0_i32_5 c1_i32 k0_t2
  let c16_i32_2280 : BitVec 32 := 16#32
  let v6932 : BitVec 32 := Scalar.muli arg27 c16_i32_2280
  let v6933 : BitVec 32 := Scalar.addi v6932 c0_i32_2281
  let v6934 : BitVec 32 := v6933
  let v6935 : Index := Scalar.indexCast v6934
  let c256_2282 : Index := 256#32
  ![v6935.toNat, 256]
def k0_mult259 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2285 : BitVec 32 := 16#32
  let v6945 : BitVec 32 := Scalar.muli arg27 c16_i32_2285
  let c8_i32_2286 : BitVec 32 := 8#32
  let v6946 : BitVec 32 := Scalar.addi v6945 c8_i32_2286
  v6946
def k0_mult260 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2290 : BitVec 32 := 16#32
  let v6959 : BitVec 32 := Scalar.muli arg27 c16_i32_2290
  v6959
def k0_off71 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2290 : BitVec 32 := 16#32
  let v6959 : BitVec 32 := Scalar.muli arg27 c16_i32_2290
  let v6960 : BitVec 32 := v6959
  let v6961 : Index := Scalar.indexCast v6960
  let c8192 : Index := 8192#32
  ![v6961.toNat, 8192]
def k0_mult261 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2291 : BitVec 32 := 16#32
  let v6967 : BitVec 32 := Scalar.muli arg27 c16_i32_2291
  v6967
def k0_mult262 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2301 : BitVec 32 := 16#32
  let v6999 : BitVec 32 := Scalar.muli arg27 c16_i32_2301
  let c0_i32_2302 : BitVec 32 := 0#32
  let v7000 : BitVec 32 := Scalar.addi v6999 c0_i32_2302
  v7000
def k0_mult263 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2306 : BitVec 32 := 16#32
  let v7012 : BitVec 32 := Scalar.muli arg27 c16_i32_2306
  let c8_i32_2307 : BitVec 32 := 8#32
  let v7013 : BitVec 32 := Scalar.addi v7012 c8_i32_2307
  v7013
def k0_mult264 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2311 : BitVec 32 := 16#32
  let v7026 : BitVec 32 := Scalar.muli arg27 c16_i32_2311
  v7026
def k0_off72 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2311 : BitVec 32 := 16#32
  let v7026 : BitVec 32 := Scalar.muli arg27 c16_i32_2311
  let v7027 : BitVec 32 := v7026
  let v7028 : Index := Scalar.indexCast v7027
  let c8320 : Index := 8320#32
  ![v7028.toNat, 8320]
def k0_mult265 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2312 : BitVec 32 := 16#32
  let v7034 : BitVec 32 := Scalar.muli arg27 c16_i32_2312
  v7034
def k0_mult266 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2322 : BitVec 32 := 16#32
  let v7066 : BitVec 32 := Scalar.muli arg27 c16_i32_2322
  let c0_i32_2323 : BitVec 32 := 0#32
  let v7067 : BitVec 32 := Scalar.addi v7066 c0_i32_2323
  v7067
def k0_mult267 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2327 : BitVec 32 := 16#32
  let v7079 : BitVec 32 := Scalar.muli arg27 c16_i32_2327
  let c8_i32_2328 : BitVec 32 := 8#32
  let v7080 : BitVec 32 := Scalar.addi v7079 c8_i32_2328
  v7080
def k0_mult268 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2332 : BitVec 32 := 16#32
  let v7093 : BitVec 32 := Scalar.muli arg27 c16_i32_2332
  v7093
def k0_off73 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2332 : BitVec 32 := 16#32
  let v7093 : BitVec 32 := Scalar.muli arg27 c16_i32_2332
  let v7094 : BitVec 32 := v7093
  let v7095 : Index := Scalar.indexCast v7094
  let c8448 : Index := 8448#32
  ![v7095.toNat, 8448]
def k0_mult269 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2333 : BitVec 32 := 16#32
  let v7101 : BitVec 32 := Scalar.muli arg27 c16_i32_2333
  v7101
def k0_mult270 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2343 : BitVec 32 := 16#32
  let v7133 : BitVec 32 := Scalar.muli arg27 c16_i32_2343
  let c0_i32_2344 : BitVec 32 := 0#32
  let v7134 : BitVec 32 := Scalar.addi v7133 c0_i32_2344
  v7134
def k0_mult271 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2348 : BitVec 32 := 16#32
  let v7146 : BitVec 32 := Scalar.muli arg27 c16_i32_2348
  let c8_i32_2349 : BitVec 32 := 8#32
  let v7147 : BitVec 32 := Scalar.addi v7146 c8_i32_2349
  v7147
def k0_mult272 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2353 : BitVec 32 := 16#32
  let v7160 : BitVec 32 := Scalar.muli arg27 c16_i32_2353
  v7160
def k0_off74 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2353 : BitVec 32 := 16#32
  let v7160 : BitVec 32 := Scalar.muli arg27 c16_i32_2353
  let v7161 : BitVec 32 := v7160
  let v7162 : Index := Scalar.indexCast v7161
  let c8576 : Index := 8576#32
  ![v7162.toNat, 8576]
def k0_mult273 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2354 : BitVec 32 := 16#32
  let v7168 : BitVec 32 := Scalar.muli arg27 c16_i32_2354
  v7168
def k0_mult274 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2364 : BitVec 32 := 16#32
  let v7200 : BitVec 32 := Scalar.muli arg27 c16_i32_2364
  let c0_i32_2365 : BitVec 32 := 0#32
  let v7201 : BitVec 32 := Scalar.addi v7200 c0_i32_2365
  v7201
def k0_mult275 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2369 : BitVec 32 := 16#32
  let v7213 : BitVec 32 := Scalar.muli arg27 c16_i32_2369
  let c8_i32_2370 : BitVec 32 := 8#32
  let v7214 : BitVec 32 := Scalar.addi v7213 c8_i32_2370
  v7214
def k0_mult276 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2374 : BitVec 32 := 16#32
  let v7227 : BitVec 32 := Scalar.muli arg27 c16_i32_2374
  v7227
def k0_off75 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2374 : BitVec 32 := 16#32
  let v7227 : BitVec 32 := Scalar.muli arg27 c16_i32_2374
  let v7228 : BitVec 32 := v7227
  let v7229 : Index := Scalar.indexCast v7228
  let c8704 : Index := 8704#32
  ![v7229.toNat, 8704]
def k0_mult277 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2375 : BitVec 32 := 16#32
  let v7235 : BitVec 32 := Scalar.muli arg27 c16_i32_2375
  v7235
def k0_mult278 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2385 : BitVec 32 := 16#32
  let v7267 : BitVec 32 := Scalar.muli arg27 c16_i32_2385
  let c0_i32_2386 : BitVec 32 := 0#32
  let v7268 : BitVec 32 := Scalar.addi v7267 c0_i32_2386
  v7268
def k0_mult279 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2390 : BitVec 32 := 16#32
  let v7280 : BitVec 32 := Scalar.muli arg27 c16_i32_2390
  let c8_i32_2391 : BitVec 32 := 8#32
  let v7281 : BitVec 32 := Scalar.addi v7280 c8_i32_2391
  v7281
def k0_mult280 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2395 : BitVec 32 := 16#32
  let v7294 : BitVec 32 := Scalar.muli arg27 c16_i32_2395
  v7294
def k0_off76 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2395 : BitVec 32 := 16#32
  let v7294 : BitVec 32 := Scalar.muli arg27 c16_i32_2395
  let v7295 : BitVec 32 := v7294
  let v7296 : Index := Scalar.indexCast v7295
  let c8832 : Index := 8832#32
  ![v7296.toNat, 8832]
def k0_mult281 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2396 : BitVec 32 := 16#32
  let v7302 : BitVec 32 := Scalar.muli arg27 c16_i32_2396
  v7302
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x8960 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x280x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S280x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x12x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x48x256 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
abbrev S16x768x8960 : Shape := ⟨3, ![16, 768, 8960]⟩
abbrev S16x768x280 : Shape := ⟨3, ![16, 768, 280]⟩
abbrev S8960x1536 : Shape := ⟨2, ![8960, 1536]⟩
abbrev S280x1536 : Shape := ⟨2, ![280, 1536]⟩
abbrev S16x768x1536 : Shape := ⟨3, ![16, 768, 1536]⟩
abbrev S1536 : Shape := ⟨1, ![1536]⟩
abbrev S1536x2048 : Shape := ⟨2, ![1536, 2048]⟩
abbrev S48x2048 : Shape := ⟨2, ![48, 2048]⟩
abbrev S16x768 : Shape := ⟨2, ![16, 768]⟩
abbrev S64 : Shape := ⟨1, ![64]⟩
abbrev S_ : Shape := ⟨0, ![]⟩
abbrev S128 : Shape := ⟨1, ![128]⟩
abbrev S1x128 : Shape := ⟨2, ![1, 128]⟩
abbrev S1x1536 : Shape := ⟨2, ![1, 1536]⟩
abbrev S12288x8960 : Shape := ⟨2, ![12288, 8960]⟩
abbrev S16x280x768 : Shape := ⟨3, ![16, 280, 768]⟩
abbrev S12288x1536 : Shape := ⟨2, ![12288, 1536]⟩
abbrev S48x1x256 : Shape := ⟨3, ![48, 1, 256]⟩
abbrev S16x12x768x128 : Shape := ⟨4, ![16, 12, 768, 128]⟩
abbrev S12288x2x128 : Shape := ⟨3, ![12288, 2, 128]⟩
abbrev S16x48x768 : Shape := ⟨3, ![16, 48, 768]⟩
abbrev S256x8960 : Shape := ⟨2, ![256, 8960]⟩
abbrev S1x280x256 : Shape := ⟨3, ![1, 280, 256]⟩
abbrev S256x1536 : Shape := ⟨2, ![256, 1536]⟩
abbrev S1x1x256 : Shape := ⟨3, ![1, 1, 256]⟩
abbrev S1x12x256x128 : Shape := ⟨4, ![1, 12, 256, 128]⟩
abbrev S256x2x128 : Shape := ⟨3, ![256, 2, 128]⟩
abbrev S1x48x256 : Shape := ⟨3, ![1, 48, 256]⟩
abbrev S4480x1536 : Shape := ⟨2, ![4480, 1536]⟩
abbrev S4480x2x1536 : Shape := ⟨3, ![4480, 2, 1536]⟩
abbrev S4480x1x1536 : Shape := ⟨3, ![4480, 1, 1536]⟩
abbrev S768x2048 : Shape := ⟨2, ![768, 2048]⟩
abbrev S768x2x2048 : Shape := ⟨3, ![768, 2, 2048]⟩
abbrev S768x1x2048 : Shape := ⟨3, ![768, 1, 2048]⟩
abbrev S256x2048 : Shape := ⟨2, ![256, 2048]⟩
abbrev S256x384 : Shape := ⟨2, ![256, 384]⟩
abbrev S16x1536 : Shape := ⟨2, ![16, 1536]⟩
abbrev S8x1536 : Shape := ⟨2, ![8, 1536]⟩
abbrev S8x2x1536 : Shape := ⟨3, ![8, 2, 1536]⟩
abbrev S8x1x1536 : Shape := ⟨3, ![8, 1, 1536]⟩
abbrev S1x2048 : Shape := ⟨2, ![1, 2048]⟩
abbrev S16x2048 : Shape := ⟨2, ![16, 2048]⟩
abbrev S8x2048 : Shape := ⟨2, ![8, 2048]⟩
abbrev S8x2x2048 : Shape := ⟨3, ![8, 2, 2048]⟩
abbrev S8x1x2048 : Shape := ⟨3, ![8, 1, 2048]⟩
abbrev S280x256 : Shape := ⟨2, ![280, 256]⟩
abbrev S104x256 : Shape := ⟨2, ![104, 256]⟩
abbrev S384x256 : Shape := ⟨2, ![384, 256]⟩
abbrev S8x128 : Shape := ⟨2, ![8, 128]⟩
abbrev S8x128x1 : Shape := ⟨3, ![8, 128, 1]⟩
abbrev S16x128 : Shape := ⟨2, ![16, 128]⟩
abbrev S256 : Shape := ⟨1, ![256]⟩
abbrev S256x1 : Shape := ⟨2, ![256, 1]⟩
abbrev S256x128 : Shape := ⟨2, ![256, 128]⟩
abbrev S256x128x1 : Shape := ⟨3, ![256, 128, 1]⟩
abbrev S128x256 : Shape := ⟨2, ![128, 256]⟩
abbrev S48x256 : Shape := ⟨2, ![48, 256]⟩
abbrev S1x256 : Shape := ⟨2, ![1, 256]⟩
abbrev S1x1x256x128 : Shape := ⟨4, ![1, 1, 256, 128]⟩
abbrev S256x1x128 : Shape := ⟨3, ![256, 1, 128]⟩
abbrev S16x768x12x128 : Shape := ⟨4, ![16, 768, 12, 128]⟩
abbrev S16x768x2x128 : Shape := ⟨4, ![16, 768, 2, 128]⟩
abbrev S16x768x48 : Shape := ⟨3, ![16, 768, 48]⟩

abbrev nBuf : Space → Nat
  | .hbm => 44
  | .vmem => 33
  | .smem => 0
  | _ => 0

abbrev bufTy : (tb : Table) → Fin (tcTables nBuf tb) → BufTy
  | .hbm, ⟨0, _⟩ => ⟨S16x768x8960, .fp8e4m3⟩
  | .hbm, ⟨1, _⟩ => ⟨S16x768x280, .i8⟩
  | .hbm, ⟨2, _⟩ => ⟨S8960x1536, .fp8e4m3⟩
  | .hbm, ⟨3, _⟩ => ⟨S280x1536, .i8⟩
  | .hbm, ⟨4, _⟩ => ⟨S16x768x1536, .bf16⟩
  | .hbm, ⟨5, _⟩ => ⟨S1536, .f32⟩
  | .hbm, ⟨6, _⟩ => ⟨S1536x2048, .fp8e4m3⟩
  | .hbm, ⟨7, _⟩ => ⟨S48x2048, .i8⟩
  | .hbm, ⟨8, _⟩ => ⟨S16x768, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S128, .f32⟩
  | .hbm, ⟨26, _⟩ => ⟨S1x128, .f32⟩
  | .hbm, ⟨27, _⟩ => ⟨S1x1536, .f32⟩
  | .hbm, ⟨28, _⟩ => ⟨S12288x8960, .fp8e4m3⟩
  | .hbm, ⟨29, _⟩ => ⟨S16x280x768, .i8⟩
  | .hbm, ⟨30, _⟩ => ⟨S12288x1536, .bf16⟩
  | .hbm, ⟨31, _⟩ => ⟨S48x1x256, .i32⟩
  | .hbm, ⟨32, _⟩ => ⟨S12288x1536, .bf16⟩
  | .hbm, ⟨33, _⟩ => ⟨S16x12x768x128, .bf16⟩
  | .hbm, ⟨34, _⟩ => ⟨S12288x2x128, .bf16⟩
  | .hbm, ⟨35, _⟩ => ⟨S12288x2x128, .bf16⟩
  | .hbm, ⟨36, _⟩ => ⟨S12288x1536, .fp8e4m3⟩
  | .hbm, ⟨37, _⟩ => ⟨S16x48x768, .i8⟩
  | .hbm, ⟨38, _⟩ => ⟨S16x768x1536, .bf16⟩
  | .hbm, ⟨39, _⟩ => ⟨S16x768x12x128, .bf16⟩
  | .hbm, ⟨40, _⟩ => ⟨S16x768x2x128, .bf16⟩
  | .hbm, ⟨41, _⟩ => ⟨S16x768x2x128, .bf16⟩
  | .hbm, ⟨42, _⟩ => ⟨S16x768x1536, .fp8e4m3⟩
  | .hbm, ⟨43, _⟩ => ⟨S16x768x48, .i8⟩
  | .local _ .vmem, ⟨0, _⟩ => ⟨S256x8960, .fp8e4m3⟩
  | .local _ .vmem, ⟨1, _⟩ => ⟨S256x8960, .fp8e4m3⟩
  | .local _ .vmem, ⟨2, _⟩ => ⟨S1x280x256, .i8⟩
  | .local _ .vmem, ⟨3, _⟩ => ⟨S1x280x256, .i8⟩
  | .local _ .vmem, ⟨4, _⟩ => ⟨S280x1536, .i8⟩
  | .local _ .vmem, ⟨5, _⟩ => ⟨S256x1536, .bf16⟩
  | .local _ .vmem, ⟨6, _⟩ => ⟨S256x1536, .bf16⟩
  | .local _ .vmem, ⟨7, _⟩ => ⟨S1x1536, .f32⟩
  | .local _ .vmem, ⟨8, _⟩ => ⟨S48x2048, .i8⟩
  | .local _ .vmem, ⟨9, _⟩ => ⟨S1x1x256, .i32⟩
  | .local _ .vmem, ⟨10, _⟩ => ⟨S1x1x256, .i32⟩
  | .local _ .vmem, ⟨11, _⟩ => ⟨S1x128, .f32⟩
  | .local _ .vmem, ⟨12, _⟩ => ⟨S256x1536, .bf16⟩
  | .local _ .vmem, ⟨13, _⟩ => ⟨S256x1536, .bf16⟩
  | .local _ .vmem, ⟨14, _⟩ => ⟨S1x12x256x128, .bf16⟩
  | .local _ .vmem, ⟨15, _⟩ => ⟨S1x12x256x128, .bf16⟩
  | .local _ .vmem, ⟨16, _⟩ => ⟨S256x2x128, .bf16⟩
  | .local _ .vmem, ⟨17, _⟩ => ⟨S256x2x128, .bf16⟩
  | .local _ .vmem, ⟨18, _⟩ => ⟨S256x2x128, .bf16⟩
  | .local _ .vmem, ⟨19, _⟩ => ⟨S256x2x128, .bf16⟩
  | .local _ .vmem, ⟨20, _⟩ => ⟨S256x1536, .fp8e4m3⟩
  | .local _ .vmem, ⟨21, _⟩ => ⟨S256x1536, .fp8e4m3⟩
  | .local _ .vmem, ⟨22, _⟩ => ⟨S1x48x256, .i8⟩
  | .local _ .vmem, ⟨23, _⟩ => ⟨S1x48x256, .i8⟩
  | .local _ .vmem, ⟨24, _⟩ => ⟨S4480x2x1536, .bf16⟩
  | .local _ .vmem, ⟨25, _⟩ => ⟨S768x2x2048, .bf16⟩
  | .local _ .vmem, ⟨26, _⟩ => ⟨S256x1536, .fp8e4m3⟩
  | .local _ .vmem, ⟨27, _⟩ => ⟨S256x2048, .fp8e4m3⟩
  | .local _ .vmem, ⟨28, _⟩ => ⟨S256x8960, .bf16⟩
  | .local _ .vmem, ⟨29, _⟩ => ⟨S256x384, .f32⟩
  | .local _ .vmem, ⟨30, _⟩ => ⟨S256x1536, .bf16⟩
  | .local _ .vmem, ⟨31, _⟩ => ⟨S256x2048, .f32⟩
  | .local _ .vmem, ⟨32, _⟩ => ⟨S280x1536, .f32⟩
  | _, _ => ⟨S16x768x8960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev main_v18_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_940 : BitVec 32 := 0#32
  let c35_i32 : BitVec 32 := 35#32
  let v2626 : BitVec 32 := Scalar.addi c0_i32_940 c35_i32
  let c1_i32_941 : BitVec 32 := 1#32
  ⟨c0_i32_940, v2626, c1_i32_941⟩
def k0_off1 (k0_t1 : Fin k0_t1_loop.trips) : Fin 2 → Nat :=
  let c0_i32_940 : BitVec 32 := 0#32
  let c1_i32_941 : BitVec 32 := 1#32
  let arg27 : BitVec 32 := Scf.iv c0_i32_940 c1_i32_941 k0_t1
  let c256_i32_1260 : BitVec 32 := 256#32
  let v3556 : BitVec 32 := Scalar.muli arg27 c256_i32_1260
  let c0_i32_1261 : BitVec 32 := 0#32
  ![v3556.toNat, 0]
def k0_mult1 (k0_t1 : Fin k0_t1_loop.trips) : BitVec 32 :=
  let c0_i32_940 : BitVec 32 := 0#32
  let c1_i32_941 : BitVec 32 := 1#32
  let arg27 : BitVec 32 := Scf.iv c0_i32_940 c1_i32_941 k0_t1
  let c128_i32_1263 : BitVec 32 := 128#32
  let v3559 : BitVec 32 := Scalar.muli arg27 c128_i32_1263
  v3559
def k0_off2 (k0_t1 : Fin k0_t1_loop.trips) (c0_i32_1265 : BitVec 32) : Fin 2 → Nat :=
  let c0_i32_940 : BitVec 32 := 0#32
  let c1_i32_941 : BitVec 32 := 1#32
  let arg27 : BitVec 32 := Scf.iv c0_i32_940 c1_i32_941 k0_t1
  let c8_i32_1264 : BitVec 32 := 8#32
  let v3561 : BitVec 32 := Scalar.muli arg27 c8_i32_1264
  let v3562 : BitVec 32 := Scalar.addi v3561 c0_i32_1265
  let v3563 : Index := Scalar.indexCast v3562
  let c0_1266 : Index := 0#32
  ![v3563.toNat, 0]
def k0_off3 (k0_t1 : Fin k0_t1_loop.trips) (c0_i32_1269 : BitVec 32) (c0_i32_1270 : BitVec 32) : Fin 3 → Nat :=
  let c0_i32_940 : BitVec 32 := 0#32
  let c1_i32_941 : BitVec 32 := 1#32
  let arg27 : BitVec 32 := Scf.iv c0_i32_940 c1_i32_941 k0_t1
  let c128_i32_1263 : BitVec 32 := 128#32
  let v3559 : BitVec 32 := Scalar.muli arg27 c128_i32_1263
  let v3560 : BitVec 32 := v3559
  let v3571 : BitVec 32 := Scalar.addi v3560 c0_i32_1269
  let v3572 : BitVec 32 := Scalar.addi v3571 c0_i32_1270
  let v3573 : Index := Scalar.indexCast v3572
  let c0_1271 : Index := 0#32
  ![v3573.toNat, 0, 0]
@[reducible] def k0_t2_loop : Scf.Loop 32 :=
  let c0_i32_5 : BitVec 32 := 0#32
  let c16_i32 : BitVec 32 := 16#32
  let v16 : BitVec 32 := Scalar.addi c0_i32_5 c16_i32
  let c1_i32 : BitVec 32 := 1#32
  ⟨c0_i32_5, v16, c1_i32⟩
def k0_mult2 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_943 : BitVec 32 := 16#32
  let v2644 : BitVec 32 := Scalar.muli arg27 c16_i32_943
  let c0_i32_944 : BitVec 32 := 0#32
  let v2645 : BitVec 32 := Scalar.addi v2644 c0_i32_944
  v2645
def k0_off4 (k0_t2 : Fin k0_t2_loop.trips) (c0_i32_944 : BitVec 32) : Fin 2 → Nat :=
  let c0_i32_5 : BitVec 32 := 0#32
  let c1_i32 : BitVec 32 := 1#32
  let arg27 : BitVec 32 := Scf.iv c0_i32_5 c1_i32 k0_t2
  let c16_i32_943 : BitVec 32 := 16#32
  let v2644 : BitVec 32 := Scalar.muli arg27 c16_i32_943
  let v2645 : BitVec 32 := Scalar.addi v2644 c0_i32_944
  let v2646 : BitVec 32 := v2645
  let v2647 : Index := Scalar.indexCast v2646
  let c0_945 : Index := 0#32
  ![v2647.toNat, 0]
def k0_mult3 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_948 : BitVec 32 := 16#32
  let v2657 : BitVec 32 := Scalar.muli arg27 c16_i32_948
  let c8_i32_949 : BitVec 32 := 8#32
  let v2658 : BitVec 32 := Scalar.addi v2657 c8_i32_949
  v2658
def k0_mult4 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_953 : BitVec 32 := 16#32
  let v2671 : BitVec 32 := Scalar.muli arg27 c16_i32_953
  v2671
def k0_off5 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_953 : BitVec 32 := 16#32
  let v2671 : BitVec 32 := Scalar.muli arg27 c16_i32_953
  let v2672 : BitVec 32 := v2671
  let v2673 : Index := Scalar.indexCast v2672
  let c0_954 : Index := 0#32
  ![v2673.toNat, 0]
def k0_mult5 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_955 : BitVec 32 := 16#32
  let v2679 : BitVec 32 := Scalar.muli arg27 c16_i32_955
  v2679
def k0_mult6 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_965 : BitVec 32 := 16#32
  let v2711 : BitVec 32 := Scalar.muli arg27 c16_i32_965
  let c0_i32_966 : BitVec 32 := 0#32
  let v2712 : BitVec 32 := Scalar.addi v2711 c0_i32_966
  v2712
def k0_mult7 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_970 : BitVec 32 := 16#32
  let v2724 : BitVec 32 := Scalar.muli arg27 c16_i32_970
  let c8_i32_971 : BitVec 32 := 8#32
  let v2725 : BitVec 32 := Scalar.addi v2724 c8_i32_971
  v2725
def k0_mult8 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_975 : BitVec 32 := 16#32
  let v2738 : BitVec 32 := Scalar.muli arg27 c16_i32_975
  v2738
def k0_off6 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_975 : BitVec 32 := 16#32
  let v2738 : BitVec 32 := Scalar.muli arg27 c16_i32_975
  let v2739 : BitVec 32 := v2738
  let v2740 : Index := Scalar.indexCast v2739
  let c128_976 : Index := 128#32
  ![v2740.toNat, 128]
def k0_mult9 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_977 : BitVec 32 := 16#32
  let v2746 : BitVec 32 := Scalar.muli arg27 c16_i32_977
  v2746
def k0_mult10 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_987 : BitVec 32 := 16#32
  let v2778 : BitVec 32 := Scalar.muli arg27 c16_i32_987
  let c0_i32_988 : BitVec 32 := 0#32
  let v2779 : BitVec 32 := Scalar.addi v2778 c0_i32_988
  v2779
def k0_mult11 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_992 : BitVec 32 := 16#32
  let v2791 : BitVec 32 := Scalar.muli arg27 c16_i32_992
  let c8_i32_993 : BitVec 32 := 8#32
  let v2792 : BitVec 32 := Scalar.addi v2791 c8_i32_993
  v2792
def k0_mult12 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_997 : BitVec 32 := 16#32
  let v2805 : BitVec 32 := Scalar.muli arg27 c16_i32_997
  v2805
def k0_off7 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_997 : BitVec 32 := 16#32
  let v2805 : BitVec 32 := Scalar.muli arg27 c16_i32_997
  let v2806 : BitVec 32 := v2805
  let v2807 : Index := Scalar.indexCast v2806
  let c256_998 : Index := 256#32
  ![v2807.toNat, 256]
def k0_mult13 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_999 : BitVec 32 := 16#32
  let v2813 : BitVec 32 := Scalar.muli arg27 c16_i32_999
  v2813
def k0_mult14 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1008 : BitVec 32 := 16#32
  let v2845 : BitVec 32 := Scalar.muli arg27 c16_i32_1008
  let c0_i32_1009 : BitVec 32 := 0#32
  let v2846 : BitVec 32 := Scalar.addi v2845 c0_i32_1009
  v2846
def k0_mult15 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1013 : BitVec 32 := 16#32
  let v2858 : BitVec 32 := Scalar.muli arg27 c16_i32_1013
  let c8_i32_1014 : BitVec 32 := 8#32
  let v2859 : BitVec 32 := Scalar.addi v2858 c8_i32_1014
  v2859
def k0_mult16 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1018 : BitVec 32 := 16#32
  let v2872 : BitVec 32 := Scalar.muli arg27 c16_i32_1018
  v2872
def k0_off8 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1018 : BitVec 32 := 16#32
  let v2872 : BitVec 32 := Scalar.muli arg27 c16_i32_1018
  let v2873 : BitVec 32 := v2872
  let v2874 : Index := Scalar.indexCast v2873
  let c384_1019 : Index := 384#32
  ![v2874.toNat, 384]
def k0_mult17 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1020 : BitVec 32 := 16#32
  let v2880 : BitVec 32 := Scalar.muli arg27 c16_i32_1020
  v2880
def k0_mult18 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1030 : BitVec 32 := 16#32
  let v2912 : BitVec 32 := Scalar.muli arg27 c16_i32_1030
  let c0_i32_1031 : BitVec 32 := 0#32
  let v2913 : BitVec 32 := Scalar.addi v2912 c0_i32_1031
  v2913
def k0_mult19 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1035 : BitVec 32 := 16#32
  let v2925 : BitVec 32 := Scalar.muli arg27 c16_i32_1035
  let c8_i32_1036 : BitVec 32 := 8#32
  let v2926 : BitVec 32 := Scalar.addi v2925 c8_i32_1036
  v2926
def k0_mult20 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1040 : BitVec 32 := 16#32
  let v2939 : BitVec 32 := Scalar.muli arg27 c16_i32_1040
  v2939
def k0_off9 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1040 : BitVec 32 := 16#32
  let v2939 : BitVec 32 := Scalar.muli arg27 c16_i32_1040
  let v2940 : BitVec 32 := v2939
  let v2941 : Index := Scalar.indexCast v2940
  let c512_1041 : Index := 512#32
  ![v2941.toNat, 512]
def k0_mult21 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1042 : BitVec 32 := 16#32
  let v2947 : BitVec 32 := Scalar.muli arg27 c16_i32_1042
  v2947
def k0_mult22 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1051 : BitVec 32 := 16#32
  let v2979 : BitVec 32 := Scalar.muli arg27 c16_i32_1051
  let c0_i32_1052 : BitVec 32 := 0#32
  let v2980 : BitVec 32 := Scalar.addi v2979 c0_i32_1052
  v2980
def k0_mult23 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1056 : BitVec 32 := 16#32
  let v2992 : BitVec 32 := Scalar.muli arg27 c16_i32_1056
  let c8_i32_1057 : BitVec 32 := 8#32
  let v2993 : BitVec 32 := Scalar.addi v2992 c8_i32_1057
  v2993
def k0_mult24 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1061 : BitVec 32 := 16#32
  let v3006 : BitVec 32 := Scalar.muli arg27 c16_i32_1061
  v3006
def k0_off10 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1061 : BitVec 32 := 16#32
  let v3006 : BitVec 32 := Scalar.muli arg27 c16_i32_1061
  let v3007 : BitVec 32 := v3006
  let v3008 : Index := Scalar.indexCast v3007
  let c640_1062 : Index := 640#32
  ![v3008.toNat, 640]
def k0_mult25 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1063 : BitVec 32 := 16#32
  let v3014 : BitVec 32 := Scalar.muli arg27 c16_i32_1063
  v3014
def k0_mult26 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1072 : BitVec 32 := 16#32
  let v3046 : BitVec 32 := Scalar.muli arg27 c16_i32_1072
  let c0_i32_1073 : BitVec 32 := 0#32
  let v3047 : BitVec 32 := Scalar.addi v3046 c0_i32_1073
  v3047
def k0_mult27 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1077 : BitVec 32 := 16#32
  let v3059 : BitVec 32 := Scalar.muli arg27 c16_i32_1077
  let c8_i32_1078 : BitVec 32 := 8#32
  let v3060 : BitVec 32 := Scalar.addi v3059 c8_i32_1078
  v3060
def k0_mult28 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1082 : BitVec 32 := 16#32
  let v3073 : BitVec 32 := Scalar.muli arg27 c16_i32_1082
  v3073
def k0_off11 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1082 : BitVec 32 := 16#32
  let v3073 : BitVec 32 := Scalar.muli arg27 c16_i32_1082
  let v3074 : BitVec 32 := v3073
  let v3075 : Index := Scalar.indexCast v3074
  let c768_1083 : Index := 768#32
  ![v3075.toNat, 768]
def k0_mult29 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1084 : BitVec 32 := 16#32
  let v3081 : BitVec 32 := Scalar.muli arg27 c16_i32_1084
  v3081
def k0_mult30 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1093 : BitVec 32 := 16#32
  let v3113 : BitVec 32 := Scalar.muli arg27 c16_i32_1093
  let c0_i32_1094 : BitVec 32 := 0#32
  let v3114 : BitVec 32 := Scalar.addi v3113 c0_i32_1094
  v3114
def k0_mult31 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1098 : BitVec 32 := 16#32
  let v3126 : BitVec 32 := Scalar.muli arg27 c16_i32_1098
  let c8_i32_1099 : BitVec 32 := 8#32
  let v3127 : BitVec 32 := Scalar.addi v3126 c8_i32_1099
  v3127
def k0_mult32 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1103 : BitVec 32 := 16#32
  let v3140 : BitVec 32 := Scalar.muli arg27 c16_i32_1103
  v3140
def k0_off12 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1103 : BitVec 32 := 16#32
  let v3140 : BitVec 32 := Scalar.muli arg27 c16_i32_1103
  let v3141 : BitVec 32 := v3140
  let v3142 : Index := Scalar.indexCast v3141
  let c896_1104 : Index := 896#32
  ![v3142.toNat, 896]
def k0_mult33 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1105 : BitVec 32 := 16#32
  let v3148 : BitVec 32 := Scalar.muli arg27 c16_i32_1105
  v3148
def k0_mult34 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1115 : BitVec 32 := 16#32
  let v3180 : BitVec 32 := Scalar.muli arg27 c16_i32_1115
  let c0_i32_1116 : BitVec 32 := 0#32
  let v3181 : BitVec 32 := Scalar.addi v3180 c0_i32_1116
  v3181
def k0_mult35 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1120 : BitVec 32 := 16#32
  let v3193 : BitVec 32 := Scalar.muli arg27 c16_i32_1120
  let c8_i32_1121 : BitVec 32 := 8#32
  let v3194 : BitVec 32 := Scalar.addi v3193 c8_i32_1121
  v3194
def k0_mult36 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1125 : BitVec 32 := 16#32
  let v3207 : BitVec 32 := Scalar.muli arg27 c16_i32_1125
  v3207
def k0_off13 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1125 : BitVec 32 := 16#32
  let v3207 : BitVec 32 := Scalar.muli arg27 c16_i32_1125
  let v3208 : BitVec 32 := v3207
  let v3209 : Index := Scalar.indexCast v3208
  let c1024_1126 : Index := 1024#32
  ![v3209.toNat, 1024]
def k0_mult37 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1127 : BitVec 32 := 16#32
  let v3215 : BitVec 32 := Scalar.muli arg27 c16_i32_1127
  v3215
def k0_mult38 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1136 : BitVec 32 := 16#32
  let v3247 : BitVec 32 := Scalar.muli arg27 c16_i32_1136
  let c0_i32_1137 : BitVec 32 := 0#32
  let v3248 : BitVec 32 := Scalar.addi v3247 c0_i32_1137
  v3248
def k0_mult39 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1141 : BitVec 32 := 16#32
  let v3260 : BitVec 32 := Scalar.muli arg27 c16_i32_1141
  let c8_i32_1142 : BitVec 32 := 8#32
  let v3261 : BitVec 32 := Scalar.addi v3260 c8_i32_1142
  v3261
def k0_mult40 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1146 : BitVec 32 := 16#32
  let v3274 : BitVec 32 := Scalar.muli arg27 c16_i32_1146
  v3274
def k0_off14 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1146 : BitVec 32 := 16#32
  let v3274 : BitVec 32 := Scalar.muli arg27 c16_i32_1146
  let v3275 : BitVec 32 := v3274
  let v3276 : Index := Scalar.indexCast v3275
  let c1152_1147 : Index := 1152#32
  ![v3276.toNat, 1152]
def k0_mult41 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1148 : BitVec 32 := 16#32
  let v3282 : BitVec 32 := Scalar.muli arg27 c16_i32_1148
  v3282
def k0_mult42 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1157 : BitVec 32 := 16#32
  let v3314 : BitVec 32 := Scalar.muli arg27 c16_i32_1157
  let c0_i32_1158 : BitVec 32 := 0#32
  let v3315 : BitVec 32 := Scalar.addi v3314 c0_i32_1158
  v3315
def k0_mult43 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1162 : BitVec 32 := 16#32
  let v3327 : BitVec 32 := Scalar.muli arg27 c16_i32_1162
  let c8_i32_1163 : BitVec 32 := 8#32
  let v3328 : BitVec 32 := Scalar.addi v3327 c8_i32_1163
  v3328
def k0_mult44 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1167 : BitVec 32 := 16#32
  let v3341 : BitVec 32 := Scalar.muli arg27 c16_i32_1167
  v3341
def k0_off15 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1167 : BitVec 32 := 16#32
  let v3341 : BitVec 32 := Scalar.muli arg27 c16_i32_1167
  let v3342 : BitVec 32 := v3341
  let v3343 : Index := Scalar.indexCast v3342
  let c1280_1168 : Index := 1280#32
  ![v3343.toNat, 1280]
def k0_mult45 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1169 : BitVec 32 := 16#32
  let v3349 : BitVec 32 := Scalar.muli arg27 c16_i32_1169
  v3349
def k0_mult46 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1178 : BitVec 32 := 16#32
  let v3381 : BitVec 32 := Scalar.muli arg27 c16_i32_1178
  let c0_i32_1179 : BitVec 32 := 0#32
  let v3382 : BitVec 32 := Scalar.addi v3381 c0_i32_1179
  v3382
def k0_mult47 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1183 : BitVec 32 := 16#32
  let v3394 : BitVec 32 := Scalar.muli arg27 c16_i32_1183
  let c8_i32_1184 : BitVec 32 := 8#32
  let v3395 : BitVec 32 := Scalar.addi v3394 c8_i32_1184
  v3395
def k0_mult48 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1188 : BitVec 32 := 16#32
  let v3408 : BitVec 32 := Scalar.muli arg27 c16_i32_1188
  v3408
def k0_off16 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1188 : BitVec 32 := 16#32
  let v3408 : BitVec 32 := Scalar.muli arg27 c16_i32_1188
  let v3409 : BitVec 32 := v3408
  let v3410 : Index := Scalar.indexCast v3409
  let c1408_1189 : Index := 1408#32
  ![v3410.toNat, 1408]
def k0_mult49 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1190 : BitVec 32 := 16#32
  let v3416 : BitVec 32 := Scalar.muli arg27 c16_i32_1190
  v3416
def k0_mult50 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1199 : BitVec 32 := 16#32
  let v3448 : BitVec 32 := Scalar.muli arg27 c16_i32_1199
  let c0_i32_1200 : BitVec 32 := 0#32
  let v3449 : BitVec 32 := Scalar.addi v3448 c0_i32_1200
  v3449
def k0_mult51 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1204 : BitVec 32 := 16#32
  let v3461 : BitVec 32 := Scalar.muli arg27 c16_i32_1204
  let c8_i32_1205 : BitVec 32 := 8#32
  let v3462 : BitVec 32 := Scalar.addi v3461 c8_i32_1205
  v3462
def k0_mult52 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1209 : BitVec 32 := 16#32
  let v3475 : BitVec 32 := Scalar.muli arg27 c16_i32_1209
  v3475
def k0_off17 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1209 : BitVec 32 := 16#32
  let v3475 : BitVec 32 := Scalar.muli arg27 c16_i32_1209
  let v3476 : BitVec 32 := v3475
  let v3477 : Index := Scalar.indexCast v3476
  let c1536_1210 : Index := 1536#32
  ![v3477.toNat, 1536]
def k0_mult53 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1211 : BitVec 32 := 16#32
  let v3483 : BitVec 32 := Scalar.muli arg27 c16_i32_1211
  v3483
def k0_mult54 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1220 : BitVec 32 := 16#32
  let v3515 : BitVec 32 := Scalar.muli arg27 c16_i32_1220
  let c0_i32_1221 : BitVec 32 := 0#32
  let v3516 : BitVec 32 := Scalar.addi v3515 c0_i32_1221
  v3516
def k0_mult55 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1225 : BitVec 32 := 16#32
  let v3528 : BitVec 32 := Scalar.muli arg27 c16_i32_1225
  let c8_i32_1226 : BitVec 32 := 8#32
  let v3529 : BitVec 32 := Scalar.addi v3528 c8_i32_1226
  v3529
def k0_mult56 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1230 : BitVec 32 := 16#32
  let v3542 : BitVec 32 := Scalar.muli arg27 c16_i32_1230
  v3542
def k0_off18 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1230 : BitVec 32 := 16#32
  let v3542 : BitVec 32 := Scalar.muli arg27 c16_i32_1230
  let v3543 : BitVec 32 := v3542
  let v3544 : Index := Scalar.indexCast v3543
  let c1664_1231 : Index := 1664#32
  ![v3544.toNat, 1664]
def k0_mult57 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1232 : BitVec 32 := 16#32
  let v3550 : BitVec 32 := Scalar.muli arg27 c16_i32_1232
  v3550
def k0_mult58 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1241 : BitVec 32 := 16#32
  let v3582 : BitVec 32 := Scalar.muli arg27 c16_i32_1241
  let c0_i32_1242 : BitVec 32 := 0#32
  let v3583 : BitVec 32 := Scalar.addi v3582 c0_i32_1242
  v3583
def k0_mult59 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1246 : BitVec 32 := 16#32
  let v3595 : BitVec 32 := Scalar.muli arg27 c16_i32_1246
  let c8_i32_1247 : BitVec 32 := 8#32
  let v3596 : BitVec 32 := Scalar.addi v3595 c8_i32_1247
  v3596
def k0_mult60 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1251 : BitVec 32 := 16#32
  let v3609 : BitVec 32 := Scalar.muli arg27 c16_i32_1251
  v3609
def k0_off19 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1251 : BitVec 32 := 16#32
  let v3609 : BitVec 32 := Scalar.muli arg27 c16_i32_1251
  let v3610 : BitVec 32 := v3609
  let v3611 : Index := Scalar.indexCast v3610
  let c1792_1252 : Index := 1792#32
  ![v3611.toNat, 1792]
def k0_mult61 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1253 : BitVec 32 := 16#32
  let v3617 : BitVec 32 := Scalar.muli arg27 c16_i32_1253
  v3617
def k0_mult62 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1262 : BitVec 32 := 16#32
  let v3649 : BitVec 32 := Scalar.muli arg27 c16_i32_1262
  let c0_i32_1263 : BitVec 32 := 0#32
  let v3650 : BitVec 32 := Scalar.addi v3649 c0_i32_1263
  v3650
def k0_mult63 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1267 : BitVec 32 := 16#32
  let v3662 : BitVec 32 := Scalar.muli arg27 c16_i32_1267
  let c8_i32_1268 : BitVec 32 := 8#32
  let v3663 : BitVec 32 := Scalar.addi v3662 c8_i32_1268
  v3663
def k0_mult64 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1272 : BitVec 32 := 16#32
  let v3676 : BitVec 32 := Scalar.muli arg27 c16_i32_1272
  v3676
def k0_off20 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1272 : BitVec 32 := 16#32
  let v3676 : BitVec 32 := Scalar.muli arg27 c16_i32_1272
  let v3677 : BitVec 32 := v3676
  let v3678 : Index := Scalar.indexCast v3677
  let c1920_1273 : Index := 1920#32
  ![v3678.toNat, 1920]
def k0_mult65 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1274 : BitVec 32 := 16#32
  let v3684 : BitVec 32 := Scalar.muli arg27 c16_i32_1274
  v3684
def k0_mult66 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1284 : BitVec 32 := 16#32
  let v3716 : BitVec 32 := Scalar.muli arg27 c16_i32_1284
  let c0_i32_1285 : BitVec 32 := 0#32
  let v3717 : BitVec 32 := Scalar.addi v3716 c0_i32_1285
  v3717
def k0_mult67 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1289 : BitVec 32 := 16#32
  let v3729 : BitVec 32 := Scalar.muli arg27 c16_i32_1289
  let c8_i32_1290 : BitVec 32 := 8#32
  let v3730 : BitVec 32 := Scalar.addi v3729 c8_i32_1290
  v3730
def k0_mult68 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1294 : BitVec 32 := 16#32
  let v3743 : BitVec 32 := Scalar.muli arg27 c16_i32_1294
  v3743
def k0_off21 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1294 : BitVec 32 := 16#32
  let v3743 : BitVec 32 := Scalar.muli arg27 c16_i32_1294
  let v3744 : BitVec 32 := v3743
  let v3745 : Index := Scalar.indexCast v3744
  let c2048 : Index := 2048#32
  ![v3745.toNat, 2048]
def k0_mult69 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1295 : BitVec 32 := 16#32
  let v3751 : BitVec 32 := Scalar.muli arg27 c16_i32_1295
  v3751
def k0_mult70 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1304 : BitVec 32 := 16#32
  let v3783 : BitVec 32 := Scalar.muli arg27 c16_i32_1304
  let c0_i32_1305 : BitVec 32 := 0#32
  let v3784 : BitVec 32 := Scalar.addi v3783 c0_i32_1305
  v3784
def k0_mult71 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1309 : BitVec 32 := 16#32
  let v3796 : BitVec 32 := Scalar.muli arg27 c16_i32_1309
  let c8_i32_1310 : BitVec 32 := 8#32
  let v3797 : BitVec 32 := Scalar.addi v3796 c8_i32_1310
  v3797
def k0_mult72 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1314 : BitVec 32 := 16#32
  let v3810 : BitVec 32 := Scalar.muli arg27 c16_i32_1314
  v3810
def k0_off22 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1314 : BitVec 32 := 16#32
  let v3810 : BitVec 32 := Scalar.muli arg27 c16_i32_1314
  let v3811 : BitVec 32 := v3810
  let v3812 : Index := Scalar.indexCast v3811
  let c2176 : Index := 2176#32
  ![v3812.toNat, 2176]
def k0_mult73 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1315 : BitVec 32 := 16#32
  let v3818 : BitVec 32 := Scalar.muli arg27 c16_i32_1315
  v3818
def k0_mult74 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1324 : BitVec 32 := 16#32
  let v3850 : BitVec 32 := Scalar.muli arg27 c16_i32_1324
  let c0_i32_1325 : BitVec 32 := 0#32
  let v3851 : BitVec 32 := Scalar.addi v3850 c0_i32_1325
  v3851
def k0_mult75 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1329 : BitVec 32 := 16#32
  let v3863 : BitVec 32 := Scalar.muli arg27 c16_i32_1329
  let c8_i32_1330 : BitVec 32 := 8#32
  let v3864 : BitVec 32 := Scalar.addi v3863 c8_i32_1330
  v3864
def k0_mult76 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1334 : BitVec 32 := 16#32
  let v3877 : BitVec 32 := Scalar.muli arg27 c16_i32_1334
  v3877
def k0_off23 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1334 : BitVec 32 := 16#32
  let v3877 : BitVec 32 := Scalar.muli arg27 c16_i32_1334
  let v3878 : BitVec 32 := v3877
  let v3879 : Index := Scalar.indexCast v3878
  let c2304 : Index := 2304#32
  ![v3879.toNat, 2304]
def k0_mult77 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1335 : BitVec 32 := 16#32
  let v3885 : BitVec 32 := Scalar.muli arg27 c16_i32_1335
  v3885
def k0_mult78 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1344 : BitVec 32 := 16#32
  let v3917 : BitVec 32 := Scalar.muli arg27 c16_i32_1344
  let c0_i32_1345 : BitVec 32 := 0#32
  let v3918 : BitVec 32 := Scalar.addi v3917 c0_i32_1345
  v3918
def k0_mult79 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1349 : BitVec 32 := 16#32
  let v3930 : BitVec 32 := Scalar.muli arg27 c16_i32_1349
  let c8_i32_1350 : BitVec 32 := 8#32
  let v3931 : BitVec 32 := Scalar.addi v3930 c8_i32_1350
  v3931
def k0_mult80 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1354 : BitVec 32 := 16#32
  let v3944 : BitVec 32 := Scalar.muli arg27 c16_i32_1354
  v3944
def k0_off24 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1354 : BitVec 32 := 16#32
  let v3944 : BitVec 32 := Scalar.muli arg27 c16_i32_1354
  let v3945 : BitVec 32 := v3944
  let v3946 : Index := Scalar.indexCast v3945
  let c2432 : Index := 2432#32
  ![v3946.toNat, 2432]
def k0_mult81 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1355 : BitVec 32 := 16#32
  let v3952 : BitVec 32 := Scalar.muli arg27 c16_i32_1355
  v3952
def k0_mult82 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1364 : BitVec 32 := 16#32
  let v3984 : BitVec 32 := Scalar.muli arg27 c16_i32_1364
  let c0_i32_1365 : BitVec 32 := 0#32
  let v3985 : BitVec 32 := Scalar.addi v3984 c0_i32_1365
  v3985
def k0_mult83 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1369 : BitVec 32 := 16#32
  let v3997 : BitVec 32 := Scalar.muli arg27 c16_i32_1369
  let c8_i32_1370 : BitVec 32 := 8#32
  let v3998 : BitVec 32 := Scalar.addi v3997 c8_i32_1370
  v3998
def k0_mult84 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1374 : BitVec 32 := 16#32
  let v4011 : BitVec 32 := Scalar.muli arg27 c16_i32_1374
  v4011
def k0_off25 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1374 : BitVec 32 := 16#32
  let v4011 : BitVec 32 := Scalar.muli arg27 c16_i32_1374
  let v4012 : BitVec 32 := v4011
  let v4013 : Index := Scalar.indexCast v4012
  let c2560 : Index := 2560#32
  ![v4013.toNat, 2560]
def k0_mult85 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1375 : BitVec 32 := 16#32
  let v4019 : BitVec 32 := Scalar.muli arg27 c16_i32_1375
  v4019
def k0_mult86 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1384 : BitVec 32 := 16#32
  let v4051 : BitVec 32 := Scalar.muli arg27 c16_i32_1384
  let c0_i32_1385 : BitVec 32 := 0#32
  let v4052 : BitVec 32 := Scalar.addi v4051 c0_i32_1385
  v4052
def k0_mult87 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1389 : BitVec 32 := 16#32
  let v4064 : BitVec 32 := Scalar.muli arg27 c16_i32_1389
  let c8_i32_1390 : BitVec 32 := 8#32
  let v4065 : BitVec 32 := Scalar.addi v4064 c8_i32_1390
  v4065
def k0_mult88 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1394 : BitVec 32 := 16#32
  let v4078 : BitVec 32 := Scalar.muli arg27 c16_i32_1394
  v4078
def k0_off26 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1394 : BitVec 32 := 16#32
  let v4078 : BitVec 32 := Scalar.muli arg27 c16_i32_1394
  let v4079 : BitVec 32 := v4078
  let v4080 : Index := Scalar.indexCast v4079
  let c2688 : Index := 2688#32
  ![v4080.toNat, 2688]
def k0_mult89 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1395 : BitVec 32 := 16#32
  let v4086 : BitVec 32 := Scalar.muli arg27 c16_i32_1395
  v4086
def k0_mult90 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1404 : BitVec 32 := 16#32
  let v4118 : BitVec 32 := Scalar.muli arg27 c16_i32_1404
  let c0_i32_1405 : BitVec 32 := 0#32
  let v4119 : BitVec 32 := Scalar.addi v4118 c0_i32_1405
  v4119
def k0_mult91 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1409 : BitVec 32 := 16#32
  let v4131 : BitVec 32 := Scalar.muli arg27 c16_i32_1409
  let c8_i32_1410 : BitVec 32 := 8#32
  let v4132 : BitVec 32 := Scalar.addi v4131 c8_i32_1410
  v4132
def k0_mult92 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1414 : BitVec 32 := 16#32
  let v4145 : BitVec 32 := Scalar.muli arg27 c16_i32_1414
  v4145
def k0_off27 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1414 : BitVec 32 := 16#32
  let v4145 : BitVec 32 := Scalar.muli arg27 c16_i32_1414
  let v4146 : BitVec 32 := v4145
  let v4147 : Index := Scalar.indexCast v4146
  let c2816 : Index := 2816#32
  ![v4147.toNat, 2816]
def k0_mult93 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1415 : BitVec 32 := 16#32
  let v4153 : BitVec 32 := Scalar.muli arg27 c16_i32_1415
  v4153
def k0_mult94 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1424 : BitVec 32 := 16#32
  let v4185 : BitVec 32 := Scalar.muli arg27 c16_i32_1424
  let c0_i32_1425 : BitVec 32 := 0#32
  let v4186 : BitVec 32 := Scalar.addi v4185 c0_i32_1425
  v4186
def k0_mult95 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1429 : BitVec 32 := 16#32
  let v4198 : BitVec 32 := Scalar.muli arg27 c16_i32_1429
  let c8_i32_1430 : BitVec 32 := 8#32
  let v4199 : BitVec 32 := Scalar.addi v4198 c8_i32_1430
  v4199
def k0_mult96 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1434 : BitVec 32 := 16#32
  let v4212 : BitVec 32 := Scalar.muli arg27 c16_i32_1434
  v4212
def k0_off28 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1434 : BitVec 32 := 16#32
  let v4212 : BitVec 32 := Scalar.muli arg27 c16_i32_1434
  let v4213 : BitVec 32 := v4212
  let v4214 : Index := Scalar.indexCast v4213
  let c2944 : Index := 2944#32
  ![v4214.toNat, 2944]
def k0_mult97 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1435 : BitVec 32 := 16#32
  let v4220 : BitVec 32 := Scalar.muli arg27 c16_i32_1435
  v4220
def k0_mult98 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1444 : BitVec 32 := 16#32
  let v4252 : BitVec 32 := Scalar.muli arg27 c16_i32_1444
  let c0_i32_1445 : BitVec 32 := 0#32
  let v4253 : BitVec 32 := Scalar.addi v4252 c0_i32_1445
  v4253
def k0_mult99 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1449 : BitVec 32 := 16#32
  let v4265 : BitVec 32 := Scalar.muli arg27 c16_i32_1449
  let c8_i32_1450 : BitVec 32 := 8#32
  let v4266 : BitVec 32 := Scalar.addi v4265 c8_i32_1450
  v4266
def k0_mult100 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1454 : BitVec 32 := 16#32
  let v4279 : BitVec 32 := Scalar.muli arg27 c16_i32_1454
  v4279
def k0_off29 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1454 : BitVec 32 := 16#32
  let v4279 : BitVec 32 := Scalar.muli arg27 c16_i32_1454
  let v4280 : BitVec 32 := v4279
  let v4281 : Index := Scalar.indexCast v4280
  let c3072 : Index := 3072#32
  ![v4281.toNat, 3072]
def k0_mult101 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1455 : BitVec 32 := 16#32
  let v4287 : BitVec 32 := Scalar.muli arg27 c16_i32_1455
  v4287
def k0_mult102 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1464 : BitVec 32 := 16#32
  let v4319 : BitVec 32 := Scalar.muli arg27 c16_i32_1464
  let c0_i32_1465 : BitVec 32 := 0#32
  let v4320 : BitVec 32 := Scalar.addi v4319 c0_i32_1465
  v4320
def k0_mult103 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1469 : BitVec 32 := 16#32
  let v4332 : BitVec 32 := Scalar.muli arg27 c16_i32_1469
  let c8_i32_1470 : BitVec 32 := 8#32
  let v4333 : BitVec 32 := Scalar.addi v4332 c8_i32_1470
  v4333
def k0_mult104 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1474 : BitVec 32 := 16#32
  let v4346 : BitVec 32 := Scalar.muli arg27 c16_i32_1474
  v4346
def k0_off30 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1474 : BitVec 32 := 16#32
  let v4346 : BitVec 32 := Scalar.muli arg27 c16_i32_1474
  let v4347 : BitVec 32 := v4346
  let v4348 : Index := Scalar.indexCast v4347
  let c3200 : Index := 3200#32
  ![v4348.toNat, 3200]
def k0_mult105 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1475 : BitVec 32 := 16#32
  let v4354 : BitVec 32 := Scalar.muli arg27 c16_i32_1475
  v4354
def k0_mult106 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1484 : BitVec 32 := 16#32
  let v4386 : BitVec 32 := Scalar.muli arg27 c16_i32_1484
  let c0_i32_1485 : BitVec 32 := 0#32
  let v4387 : BitVec 32 := Scalar.addi v4386 c0_i32_1485
  v4387
def k0_mult107 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1489 : BitVec 32 := 16#32
  let v4399 : BitVec 32 := Scalar.muli arg27 c16_i32_1489
  let c8_i32_1490 : BitVec 32 := 8#32
  let v4400 : BitVec 32 := Scalar.addi v4399 c8_i32_1490
  v4400
def k0_mult108 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1494 : BitVec 32 := 16#32
  let v4413 : BitVec 32 := Scalar.muli arg27 c16_i32_1494
  v4413
def k0_off31 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1494 : BitVec 32 := 16#32
  let v4413 : BitVec 32 := Scalar.muli arg27 c16_i32_1494
  let v4414 : BitVec 32 := v4413
  let v4415 : Index := Scalar.indexCast v4414
  let c3328 : Index := 3328#32
  ![v4415.toNat, 3328]
def k0_mult109 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1495 : BitVec 32 := 16#32
  let v4421 : BitVec 32 := Scalar.muli arg27 c16_i32_1495
  v4421
def k0_mult110 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1504 : BitVec 32 := 16#32
  let v4453 : BitVec 32 := Scalar.muli arg27 c16_i32_1504
  let c0_i32_1505 : BitVec 32 := 0#32
  let v4454 : BitVec 32 := Scalar.addi v4453 c0_i32_1505
  v4454
def k0_mult111 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1509 : BitVec 32 := 16#32
  let v4466 : BitVec 32 := Scalar.muli arg27 c16_i32_1509
  let c8_i32_1510 : BitVec 32 := 8#32
  let v4467 : BitVec 32 := Scalar.addi v4466 c8_i32_1510
  v4467
def k0_mult112 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1514 : BitVec 32 := 16#32
  let v4480 : BitVec 32 := Scalar.muli arg27 c16_i32_1514
  v4480
def k0_off32 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1514 : BitVec 32 := 16#32
  let v4480 : BitVec 32 := Scalar.muli arg27 c16_i32_1514
  let v4481 : BitVec 32 := v4480
  let v4482 : Index := Scalar.indexCast v4481
  let c3456 : Index := 3456#32
  ![v4482.toNat, 3456]
def k0_mult113 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1515 : BitVec 32 := 16#32
  let v4488 : BitVec 32 := Scalar.muli arg27 c16_i32_1515
  v4488
def k0_mult114 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1525 : BitVec 32 := 16#32
  let v4520 : BitVec 32 := Scalar.muli arg27 c16_i32_1525
  let c0_i32_1526 : BitVec 32 := 0#32
  let v4521 : BitVec 32 := Scalar.addi v4520 c0_i32_1526
  v4521
def k0_mult115 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1530 : BitVec 32 := 16#32
  let v4533 : BitVec 32 := Scalar.muli arg27 c16_i32_1530
  let c8_i32_1531 : BitVec 32 := 8#32
  let v4534 : BitVec 32 := Scalar.addi v4533 c8_i32_1531
  v4534
def k0_mult116 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1535 : BitVec 32 := 16#32
  let v4547 : BitVec 32 := Scalar.muli arg27 c16_i32_1535
  v4547
def k0_off33 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1535 : BitVec 32 := 16#32
  let v4547 : BitVec 32 := Scalar.muli arg27 c16_i32_1535
  let v4548 : BitVec 32 := v4547
  let v4549 : Index := Scalar.indexCast v4548
  let c3584 : Index := 3584#32
  ![v4549.toNat, 3584]
def k0_mult117 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1536 : BitVec 32 := 16#32
  let v4555 : BitVec 32 := Scalar.muli arg27 c16_i32_1536
  v4555
def k0_mult118 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1545 : BitVec 32 := 16#32
  let v4587 : BitVec 32 := Scalar.muli arg27 c16_i32_1545
  let c0_i32_1546 : BitVec 32 := 0#32
  let v4588 : BitVec 32 := Scalar.addi v4587 c0_i32_1546
  v4588
def k0_mult119 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1550 : BitVec 32 := 16#32
  let v4600 : BitVec 32 := Scalar.muli arg27 c16_i32_1550
  let c8_i32_1551 : BitVec 32 := 8#32
  let v4601 : BitVec 32 := Scalar.addi v4600 c8_i32_1551
  v4601
def k0_mult120 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1555 : BitVec 32 := 16#32
  let v4614 : BitVec 32 := Scalar.muli arg27 c16_i32_1555
  v4614
def k0_off34 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1555 : BitVec 32 := 16#32
  let v4614 : BitVec 32 := Scalar.muli arg27 c16_i32_1555
  let v4615 : BitVec 32 := v4614
  let v4616 : Index := Scalar.indexCast v4615
  let c3712 : Index := 3712#32
  ![v4616.toNat, 3712]
def k0_mult121 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1556 : BitVec 32 := 16#32
  let v4622 : BitVec 32 := Scalar.muli arg27 c16_i32_1556
  v4622
def k0_mult122 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1566 : BitVec 32 := 16#32
  let v4654 : BitVec 32 := Scalar.muli arg27 c16_i32_1566
  let c0_i32_1567 : BitVec 32 := 0#32
  let v4655 : BitVec 32 := Scalar.addi v4654 c0_i32_1567
  v4655
def k0_mult123 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1571 : BitVec 32 := 16#32
  let v4667 : BitVec 32 := Scalar.muli arg27 c16_i32_1571
  let c8_i32_1572 : BitVec 32 := 8#32
  let v4668 : BitVec 32 := Scalar.addi v4667 c8_i32_1572
  v4668
def k0_mult124 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1576 : BitVec 32 := 16#32
  let v4681 : BitVec 32 := Scalar.muli arg27 c16_i32_1576
  v4681
def k0_off35 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1576 : BitVec 32 := 16#32
  let v4681 : BitVec 32 := Scalar.muli arg27 c16_i32_1576
  let v4682 : BitVec 32 := v4681
  let v4683 : Index := Scalar.indexCast v4682
  let c3840 : Index := 3840#32
  ![v4683.toNat, 3840]
def k0_mult125 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1577 : BitVec 32 := 16#32
  let v4689 : BitVec 32 := Scalar.muli arg27 c16_i32_1577
  v4689
def k0_mult126 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1587 : BitVec 32 := 16#32
  let v4721 : BitVec 32 := Scalar.muli arg27 c16_i32_1587
  let c0_i32_1588 : BitVec 32 := 0#32
  let v4722 : BitVec 32 := Scalar.addi v4721 c0_i32_1588
  v4722
def k0_mult127 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1592 : BitVec 32 := 16#32
  let v4734 : BitVec 32 := Scalar.muli arg27 c16_i32_1592
  let c8_i32_1593 : BitVec 32 := 8#32
  let v4735 : BitVec 32 := Scalar.addi v4734 c8_i32_1593
  v4735
def k0_mult128 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1597 : BitVec 32 := 16#32
  let v4748 : BitVec 32 := Scalar.muli arg27 c16_i32_1597
  v4748
def k0_off36 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1597 : BitVec 32 := 16#32
  let v4748 : BitVec 32 := Scalar.muli arg27 c16_i32_1597
  let v4749 : BitVec 32 := v4748
  let v4750 : Index := Scalar.indexCast v4749
  let c3968 : Index := 3968#32
  ![v4750.toNat, 3968]
def k0_mult129 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1598 : BitVec 32 := 16#32
  let v4756 : BitVec 32 := Scalar.muli arg27 c16_i32_1598
  v4756
def k0_mult130 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1608 : BitVec 32 := 16#32
  let v4788 : BitVec 32 := Scalar.muli arg27 c16_i32_1608
  let c0_i32_1609 : BitVec 32 := 0#32
  let v4789 : BitVec 32 := Scalar.addi v4788 c0_i32_1609
  v4789
def k0_off37 (k0_t2 : Fin k0_t2_loop.trips) (c0_i32_1609 : BitVec 32) : Fin 2 → Nat :=
  let c0_i32_5 : BitVec 32 := 0#32
  let c1_i32 : BitVec 32 := 1#32
  let arg27 : BitVec 32 := Scf.iv c0_i32_5 c1_i32 k0_t2
  let c16_i32_1608 : BitVec 32 := 16#32
  let v4788 : BitVec 32 := Scalar.muli arg27 c16_i32_1608
  let v4789 : BitVec 32 := Scalar.addi v4788 c0_i32_1609
  let v4790 : BitVec 32 := v4789
  let v4791 : Index := Scalar.indexCast v4790
  let c128_1610 : Index := 128#32
  ![v4791.toNat, 128]
def k0_mult131 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1613 : BitVec 32 := 16#32
  let v4801 : BitVec 32 := Scalar.muli arg27 c16_i32_1613
  let c8_i32_1614 : BitVec 32 := 8#32
  let v4802 : BitVec 32 := Scalar.addi v4801 c8_i32_1614
  v4802
def k0_mult132 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1618 : BitVec 32 := 16#32
  let v4815 : BitVec 32 := Scalar.muli arg27 c16_i32_1618
  v4815
def k0_off38 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1618 : BitVec 32 := 16#32
  let v4815 : BitVec 32 := Scalar.muli arg27 c16_i32_1618
  let v4816 : BitVec 32 := v4815
  let v4817 : Index := Scalar.indexCast v4816
  let c4096 : Index := 4096#32
  ![v4817.toNat, 4096]
def k0_mult133 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1619 : BitVec 32 := 16#32
  let v4823 : BitVec 32 := Scalar.muli arg27 c16_i32_1619
  v4823
def k0_mult134 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1629 : BitVec 32 := 16#32
  let v4855 : BitVec 32 := Scalar.muli arg27 c16_i32_1629
  let c0_i32_1630 : BitVec 32 := 0#32
  let v4856 : BitVec 32 := Scalar.addi v4855 c0_i32_1630
  v4856
def k0_mult135 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1634 : BitVec 32 := 16#32
  let v4868 : BitVec 32 := Scalar.muli arg27 c16_i32_1634
  let c8_i32_1635 : BitVec 32 := 8#32
  let v4869 : BitVec 32 := Scalar.addi v4868 c8_i32_1635
  v4869
def k0_mult136 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1639 : BitVec 32 := 16#32
  let v4882 : BitVec 32 := Scalar.muli arg27 c16_i32_1639
  v4882
def k0_off39 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1639 : BitVec 32 := 16#32
  let v4882 : BitVec 32 := Scalar.muli arg27 c16_i32_1639
  let v4883 : BitVec 32 := v4882
  let v4884 : Index := Scalar.indexCast v4883
  let c4224 : Index := 4224#32
  ![v4884.toNat, 4224]
def k0_mult137 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1640 : BitVec 32 := 16#32
  let v4890 : BitVec 32 := Scalar.muli arg27 c16_i32_1640
  v4890
def k0_mult138 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1650 : BitVec 32 := 16#32
  let v4922 : BitVec 32 := Scalar.muli arg27 c16_i32_1650
  let c0_i32_1651 : BitVec 32 := 0#32
  let v4923 : BitVec 32 := Scalar.addi v4922 c0_i32_1651
  v4923
def k0_mult139 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1655 : BitVec 32 := 16#32
  let v4935 : BitVec 32 := Scalar.muli arg27 c16_i32_1655
  let c8_i32_1656 : BitVec 32 := 8#32
  let v4936 : BitVec 32 := Scalar.addi v4935 c8_i32_1656
  v4936
def k0_mult140 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1660 : BitVec 32 := 16#32
  let v4949 : BitVec 32 := Scalar.muli arg27 c16_i32_1660
  v4949
def k0_off40 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1660 : BitVec 32 := 16#32
  let v4949 : BitVec 32 := Scalar.muli arg27 c16_i32_1660
  let v4950 : BitVec 32 := v4949
  let v4951 : Index := Scalar.indexCast v4950
  let c4352 : Index := 4352#32
  ![v4951.toNat, 4352]
def k0_mult141 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1661 : BitVec 32 := 16#32
  let v4957 : BitVec 32 := Scalar.muli arg27 c16_i32_1661
  v4957
def k0_mult142 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1671 : BitVec 32 := 16#32
  let v4989 : BitVec 32 := Scalar.muli arg27 c16_i32_1671
  let c0_i32_1672 : BitVec 32 := 0#32
  let v4990 : BitVec 32 := Scalar.addi v4989 c0_i32_1672
  v4990
def k0_mult143 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1676 : BitVec 32 := 16#32
  let v5002 : BitVec 32 := Scalar.muli arg27 c16_i32_1676
  let c8_i32_1677 : BitVec 32 := 8#32
  let v5003 : BitVec 32 := Scalar.addi v5002 c8_i32_1677
  v5003
def k0_mult144 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1681 : BitVec 32 := 16#32
  let v5016 : BitVec 32 := Scalar.muli arg27 c16_i32_1681
  v5016
def k0_off41 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1681 : BitVec 32 := 16#32
  let v5016 : BitVec 32 := Scalar.muli arg27 c16_i32_1681
  let v5017 : BitVec 32 := v5016
  let v5018 : Index := Scalar.indexCast v5017
  let c4480 : Index := 4480#32
  ![v5018.toNat, 4480]
def k0_mult145 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1682 : BitVec 32 := 16#32
  let v5024 : BitVec 32 := Scalar.muli arg27 c16_i32_1682
  v5024
def k0_mult146 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1692 : BitVec 32 := 16#32
  let v5056 : BitVec 32 := Scalar.muli arg27 c16_i32_1692
  let c0_i32_1693 : BitVec 32 := 0#32
  let v5057 : BitVec 32 := Scalar.addi v5056 c0_i32_1693
  v5057
def k0_mult147 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1697 : BitVec 32 := 16#32
  let v5069 : BitVec 32 := Scalar.muli arg27 c16_i32_1697
  let c8_i32_1698 : BitVec 32 := 8#32
  let v5070 : BitVec 32 := Scalar.addi v5069 c8_i32_1698
  v5070
def k0_mult148 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1702 : BitVec 32 := 16#32
  let v5083 : BitVec 32 := Scalar.muli arg27 c16_i32_1702
  v5083
def k0_off42 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1702 : BitVec 32 := 16#32
  let v5083 : BitVec 32 := Scalar.muli arg27 c16_i32_1702
  let v5084 : BitVec 32 := v5083
  let v5085 : Index := Scalar.indexCast v5084
  let c4608 : Index := 4608#32
  ![v5085.toNat, 4608]
def k0_mult149 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1703 : BitVec 32 := 16#32
  let v5091 : BitVec 32 := Scalar.muli arg27 c16_i32_1703
  v5091
def k0_mult150 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1713 : BitVec 32 := 16#32
  let v5123 : BitVec 32 := Scalar.muli arg27 c16_i32_1713
  let c0_i32_1714 : BitVec 32 := 0#32
  let v5124 : BitVec 32 := Scalar.addi v5123 c0_i32_1714
  v5124
def k0_mult151 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1718 : BitVec 32 := 16#32
  let v5136 : BitVec 32 := Scalar.muli arg27 c16_i32_1718
  let c8_i32_1719 : BitVec 32 := 8#32
  let v5137 : BitVec 32 := Scalar.addi v5136 c8_i32_1719
  v5137
def k0_mult152 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1723 : BitVec 32 := 16#32
  let v5150 : BitVec 32 := Scalar.muli arg27 c16_i32_1723
  v5150
def k0_off43 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1723 : BitVec 32 := 16#32
  let v5150 : BitVec 32 := Scalar.muli arg27 c16_i32_1723
  let v5151 : BitVec 32 := v5150
  let v5152 : Index := Scalar.indexCast v5151
  let c4736 : Index := 4736#32
  ![v5152.toNat, 4736]
def k0_mult153 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1724 : BitVec 32 := 16#32
  let v5158 : BitVec 32 := Scalar.muli arg27 c16_i32_1724
  v5158
def k0_mult154 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1734 : BitVec 32 := 16#32
  let v5190 : BitVec 32 := Scalar.muli arg27 c16_i32_1734
  let c0_i32_1735 : BitVec 32 := 0#32
  let v5191 : BitVec 32 := Scalar.addi v5190 c0_i32_1735
  v5191
def k0_mult155 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1739 : BitVec 32 := 16#32
  let v5203 : BitVec 32 := Scalar.muli arg27 c16_i32_1739
  let c8_i32_1740 : BitVec 32 := 8#32
  let v5204 : BitVec 32 := Scalar.addi v5203 c8_i32_1740
  v5204
def k0_mult156 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1744 : BitVec 32 := 16#32
  let v5217 : BitVec 32 := Scalar.muli arg27 c16_i32_1744
  v5217
def k0_off44 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1744 : BitVec 32 := 16#32
  let v5217 : BitVec 32 := Scalar.muli arg27 c16_i32_1744
  let v5218 : BitVec 32 := v5217
  let v5219 : Index := Scalar.indexCast v5218
  let c4864 : Index := 4864#32
  ![v5219.toNat, 4864]
def k0_mult157 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1745 : BitVec 32 := 16#32
  let v5225 : BitVec 32 := Scalar.muli arg27 c16_i32_1745
  v5225
def k0_mult158 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1755 : BitVec 32 := 16#32
  let v5257 : BitVec 32 := Scalar.muli arg27 c16_i32_1755
  let c0_i32_1756 : BitVec 32 := 0#32
  let v5258 : BitVec 32 := Scalar.addi v5257 c0_i32_1756
  v5258
def k0_mult159 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1760 : BitVec 32 := 16#32
  let v5270 : BitVec 32 := Scalar.muli arg27 c16_i32_1760
  let c8_i32_1761 : BitVec 32 := 8#32
  let v5271 : BitVec 32 := Scalar.addi v5270 c8_i32_1761
  v5271
def k0_mult160 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1765 : BitVec 32 := 16#32
  let v5284 : BitVec 32 := Scalar.muli arg27 c16_i32_1765
  v5284
def k0_off45 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1765 : BitVec 32 := 16#32
  let v5284 : BitVec 32 := Scalar.muli arg27 c16_i32_1765
  let v5285 : BitVec 32 := v5284
  let v5286 : Index := Scalar.indexCast v5285
  let c4992 : Index := 4992#32
  ![v5286.toNat, 4992]
def k0_mult161 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1766 : BitVec 32 := 16#32
  let v5292 : BitVec 32 := Scalar.muli arg27 c16_i32_1766
  v5292
def k0_mult162 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1776 : BitVec 32 := 16#32
  let v5324 : BitVec 32 := Scalar.muli arg27 c16_i32_1776
  let c0_i32_1777 : BitVec 32 := 0#32
  let v5325 : BitVec 32 := Scalar.addi v5324 c0_i32_1777
  v5325
def k0_mult163 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1781 : BitVec 32 := 16#32
  let v5337 : BitVec 32 := Scalar.muli arg27 c16_i32_1781
  let c8_i32_1782 : BitVec 32 := 8#32
  let v5338 : BitVec 32 := Scalar.addi v5337 c8_i32_1782
  v5338
def k0_mult164 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1786 : BitVec 32 := 16#32
  let v5351 : BitVec 32 := Scalar.muli arg27 c16_i32_1786
  v5351
def k0_off46 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1786 : BitVec 32 := 16#32
  let v5351 : BitVec 32 := Scalar.muli arg27 c16_i32_1786
  let v5352 : BitVec 32 := v5351
  let v5353 : Index := Scalar.indexCast v5352
  let c5120 : Index := 5120#32
  ![v5353.toNat, 5120]
def k0_mult165 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1787 : BitVec 32 := 16#32
  let v5359 : BitVec 32 := Scalar.muli arg27 c16_i32_1787
  v5359
def k0_mult166 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1797 : BitVec 32 := 16#32
  let v5391 : BitVec 32 := Scalar.muli arg27 c16_i32_1797
  let c0_i32_1798 : BitVec 32 := 0#32
  let v5392 : BitVec 32 := Scalar.addi v5391 c0_i32_1798
  v5392
def k0_mult167 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1802 : BitVec 32 := 16#32
  let v5404 : BitVec 32 := Scalar.muli arg27 c16_i32_1802
  let c8_i32_1803 : BitVec 32 := 8#32
  let v5405 : BitVec 32 := Scalar.addi v5404 c8_i32_1803
  v5405
def k0_mult168 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1807 : BitVec 32 := 16#32
  let v5418 : BitVec 32 := Scalar.muli arg27 c16_i32_1807
  v5418
def k0_off47 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1807 : BitVec 32 := 16#32
  let v5418 : BitVec 32 := Scalar.muli arg27 c16_i32_1807
  let v5419 : BitVec 32 := v5418
  let v5420 : Index := Scalar.indexCast v5419
  let c5248 : Index := 5248#32
  ![v5420.toNat, 5248]
def k0_mult169 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1808 : BitVec 32 := 16#32
  let v5426 : BitVec 32 := Scalar.muli arg27 c16_i32_1808
  v5426
def k0_mult170 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1818 : BitVec 32 := 16#32
  let v5458 : BitVec 32 := Scalar.muli arg27 c16_i32_1818
  let c0_i32_1819 : BitVec 32 := 0#32
  let v5459 : BitVec 32 := Scalar.addi v5458 c0_i32_1819
  v5459
def k0_mult171 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1823 : BitVec 32 := 16#32
  let v5471 : BitVec 32 := Scalar.muli arg27 c16_i32_1823
  let c8_i32_1824 : BitVec 32 := 8#32
  let v5472 : BitVec 32 := Scalar.addi v5471 c8_i32_1824
  v5472
def k0_mult172 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1828 : BitVec 32 := 16#32
  let v5485 : BitVec 32 := Scalar.muli arg27 c16_i32_1828
  v5485
def k0_off48 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1828 : BitVec 32 := 16#32
  let v5485 : BitVec 32 := Scalar.muli arg27 c16_i32_1828
  let v5486 : BitVec 32 := v5485
  let v5487 : Index := Scalar.indexCast v5486
  let c5376 : Index := 5376#32
  ![v5487.toNat, 5376]
def k0_mult173 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1829 : BitVec 32 := 16#32
  let v5493 : BitVec 32 := Scalar.muli arg27 c16_i32_1829
  v5493
def k0_mult174 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1839 : BitVec 32 := 16#32
  let v5525 : BitVec 32 := Scalar.muli arg27 c16_i32_1839
  let c0_i32_1840 : BitVec 32 := 0#32
  let v5526 : BitVec 32 := Scalar.addi v5525 c0_i32_1840
  v5526
def k0_mult175 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1844 : BitVec 32 := 16#32
  let v5538 : BitVec 32 := Scalar.muli arg27 c16_i32_1844
  let c8_i32_1845 : BitVec 32 := 8#32
  let v5539 : BitVec 32 := Scalar.addi v5538 c8_i32_1845
  v5539
def k0_mult176 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1849 : BitVec 32 := 16#32
  let v5552 : BitVec 32 := Scalar.muli arg27 c16_i32_1849
  v5552
def k0_off49 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1849 : BitVec 32 := 16#32
  let v5552 : BitVec 32 := Scalar.muli arg27 c16_i32_1849
  let v5553 : BitVec 32 := v5552
  let v5554 : Index := Scalar.indexCast v5553
  let c5504 : Index := 5504#32
  ![v5554.toNat, 5504]
def k0_mult177 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1850 : BitVec 32 := 16#32
  let v5560 : BitVec 32 := Scalar.muli arg27 c16_i32_1850
  v5560
def k0_mult178 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1860 : BitVec 32 := 16#32
  let v5592 : BitVec 32 := Scalar.muli arg27 c16_i32_1860
  let c0_i32_1861 : BitVec 32 := 0#32
  let v5593 : BitVec 32 := Scalar.addi v5592 c0_i32_1861
  v5593
def k0_mult179 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1865 : BitVec 32 := 16#32
  let v5605 : BitVec 32 := Scalar.muli arg27 c16_i32_1865
  let c8_i32_1866 : BitVec 32 := 8#32
  let v5606 : BitVec 32 := Scalar.addi v5605 c8_i32_1866
  v5606
def k0_mult180 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1870 : BitVec 32 := 16#32
  let v5619 : BitVec 32 := Scalar.muli arg27 c16_i32_1870
  v5619
def k0_off50 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1870 : BitVec 32 := 16#32
  let v5619 : BitVec 32 := Scalar.muli arg27 c16_i32_1870
  let v5620 : BitVec 32 := v5619
  let v5621 : Index := Scalar.indexCast v5620
  let c5632 : Index := 5632#32
  ![v5621.toNat, 5632]
def k0_mult181 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1871 : BitVec 32 := 16#32
  let v5627 : BitVec 32 := Scalar.muli arg27 c16_i32_1871
  v5627
def k0_mult182 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1881 : BitVec 32 := 16#32
  let v5659 : BitVec 32 := Scalar.muli arg27 c16_i32_1881
  let c0_i32_1882 : BitVec 32 := 0#32
  let v5660 : BitVec 32 := Scalar.addi v5659 c0_i32_1882
  v5660
def k0_mult183 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1886 : BitVec 32 := 16#32
  let v5672 : BitVec 32 := Scalar.muli arg27 c16_i32_1886
  let c8_i32_1887 : BitVec 32 := 8#32
  let v5673 : BitVec 32 := Scalar.addi v5672 c8_i32_1887
  v5673
def k0_mult184 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1891 : BitVec 32 := 16#32
  let v5686 : BitVec 32 := Scalar.muli arg27 c16_i32_1891
  v5686
def k0_off51 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1891 : BitVec 32 := 16#32
  let v5686 : BitVec 32 := Scalar.muli arg27 c16_i32_1891
  let v5687 : BitVec 32 := v5686
  let v5688 : Index := Scalar.indexCast v5687
  let c5760 : Index := 5760#32
  ![v5688.toNat, 5760]
def k0_mult185 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1892 : BitVec 32 := 16#32
  let v5694 : BitVec 32 := Scalar.muli arg27 c16_i32_1892
  v5694
def k0_mult186 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1902 : BitVec 32 := 16#32
  let v5726 : BitVec 32 := Scalar.muli arg27 c16_i32_1902
  let c0_i32_1903 : BitVec 32 := 0#32
  let v5727 : BitVec 32 := Scalar.addi v5726 c0_i32_1903
  v5727
def k0_mult187 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1907 : BitVec 32 := 16#32
  let v5739 : BitVec 32 := Scalar.muli arg27 c16_i32_1907
  let c8_i32_1908 : BitVec 32 := 8#32
  let v5740 : BitVec 32 := Scalar.addi v5739 c8_i32_1908
  v5740
def k0_mult188 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1912 : BitVec 32 := 16#32
  let v5753 : BitVec 32 := Scalar.muli arg27 c16_i32_1912
  v5753
def k0_off52 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1912 : BitVec 32 := 16#32
  let v5753 : BitVec 32 := Scalar.muli arg27 c16_i32_1912
  let v5754 : BitVec 32 := v5753
  let v5755 : Index := Scalar.indexCast v5754
  let c5888 : Index := 5888#32
  ![v5755.toNat, 5888]
def k0_mult189 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1913 : BitVec 32 := 16#32
  let v5761 : BitVec 32 := Scalar.muli arg27 c16_i32_1913
  v5761
def k0_mult190 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1923 : BitVec 32 := 16#32
  let v5793 : BitVec 32 := Scalar.muli arg27 c16_i32_1923
  let c0_i32_1924 : BitVec 32 := 0#32
  let v5794 : BitVec 32 := Scalar.addi v5793 c0_i32_1924
  v5794
def k0_mult191 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1928 : BitVec 32 := 16#32
  let v5806 : BitVec 32 := Scalar.muli arg27 c16_i32_1928
  let c8_i32_1929 : BitVec 32 := 8#32
  let v5807 : BitVec 32 := Scalar.addi v5806 c8_i32_1929
  v5807
def k0_mult192 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1933 : BitVec 32 := 16#32
  let v5820 : BitVec 32 := Scalar.muli arg27 c16_i32_1933
  v5820
def k0_off53 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1933 : BitVec 32 := 16#32
  let v5820 : BitVec 32 := Scalar.muli arg27 c16_i32_1933
  let v5821 : BitVec 32 := v5820
  let v5822 : Index := Scalar.indexCast v5821
  let c6016 : Index := 6016#32
  ![v5822.toNat, 6016]
def k0_mult193 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1934 : BitVec 32 := 16#32
  let v5828 : BitVec 32 := Scalar.muli arg27 c16_i32_1934
  v5828
def k0_mult194 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1944 : BitVec 32 := 16#32
  let v5860 : BitVec 32 := Scalar.muli arg27 c16_i32_1944
  let c0_i32_1945 : BitVec 32 := 0#32
  let v5861 : BitVec 32 := Scalar.addi v5860 c0_i32_1945
  v5861
def k0_mult195 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1949 : BitVec 32 := 16#32
  let v5873 : BitVec 32 := Scalar.muli arg27 c16_i32_1949
  let c8_i32_1950 : BitVec 32 := 8#32
  let v5874 : BitVec 32 := Scalar.addi v5873 c8_i32_1950
  v5874
def k0_mult196 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1954 : BitVec 32 := 16#32
  let v5887 : BitVec 32 := Scalar.muli arg27 c16_i32_1954
  v5887
def k0_off54 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1954 : BitVec 32 := 16#32
  let v5887 : BitVec 32 := Scalar.muli arg27 c16_i32_1954
  let v5888 : BitVec 32 := v5887
  let v5889 : Index := Scalar.indexCast v5888
  let c6144 : Index := 6144#32
  ![v5889.toNat, 6144]
def k0_mult197 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1955 : BitVec 32 := 16#32
  let v5895 : BitVec 32 := Scalar.muli arg27 c16_i32_1955
  v5895
def k0_mult198 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1965 : BitVec 32 := 16#32
  let v5927 : BitVec 32 := Scalar.muli arg27 c16_i32_1965
  let c0_i32_1966 : BitVec 32 := 0#32
  let v5928 : BitVec 32 := Scalar.addi v5927 c0_i32_1966
  v5928
def k0_mult199 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1970 : BitVec 32 := 16#32
  let v5940 : BitVec 32 := Scalar.muli arg27 c16_i32_1970
  let c8_i32_1971 : BitVec 32 := 8#32
  let v5941 : BitVec 32 := Scalar.addi v5940 c8_i32_1971
  v5941
def k0_mult200 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1975 : BitVec 32 := 16#32
  let v5954 : BitVec 32 := Scalar.muli arg27 c16_i32_1975
  v5954
def k0_off55 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1975 : BitVec 32 := 16#32
  let v5954 : BitVec 32 := Scalar.muli arg27 c16_i32_1975
  let v5955 : BitVec 32 := v5954
  let v5956 : Index := Scalar.indexCast v5955
  let c6272 : Index := 6272#32
  ![v5956.toNat, 6272]
def k0_mult201 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1976 : BitVec 32 := 16#32
  let v5962 : BitVec 32 := Scalar.muli arg27 c16_i32_1976
  v5962
def k0_mult202 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1986 : BitVec 32 := 16#32
  let v5994 : BitVec 32 := Scalar.muli arg27 c16_i32_1986
  let c0_i32_1987 : BitVec 32 := 0#32
  let v5995 : BitVec 32 := Scalar.addi v5994 c0_i32_1987
  v5995
def k0_mult203 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1991 : BitVec 32 := 16#32
  let v6007 : BitVec 32 := Scalar.muli arg27 c16_i32_1991
  let c8_i32_1992 : BitVec 32 := 8#32
  let v6008 : BitVec 32 := Scalar.addi v6007 c8_i32_1992
  v6008
def k0_mult204 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1996 : BitVec 32 := 16#32
  let v6021 : BitVec 32 := Scalar.muli arg27 c16_i32_1996
  v6021
def k0_off56 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_1996 : BitVec 32 := 16#32
  let v6021 : BitVec 32 := Scalar.muli arg27 c16_i32_1996
  let v6022 : BitVec 32 := v6021
  let v6023 : Index := Scalar.indexCast v6022
  let c6400 : Index := 6400#32
  ![v6023.toNat, 6400]
def k0_mult205 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_1997 : BitVec 32 := 16#32
  let v6029 : BitVec 32 := Scalar.muli arg27 c16_i32_1997
  v6029
def k0_mult206 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2007 : BitVec 32 := 16#32
  let v6061 : BitVec 32 := Scalar.muli arg27 c16_i32_2007
  let c0_i32_2008 : BitVec 32 := 0#32
  let v6062 : BitVec 32 := Scalar.addi v6061 c0_i32_2008
  v6062
def k0_mult207 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2012 : BitVec 32 := 16#32
  let v6074 : BitVec 32 := Scalar.muli arg27 c16_i32_2012
  let c8_i32_2013 : BitVec 32 := 8#32
  let v6075 : BitVec 32 := Scalar.addi v6074 c8_i32_2013
  v6075
def k0_mult208 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2017 : BitVec 32 := 16#32
  let v6088 : BitVec 32 := Scalar.muli arg27 c16_i32_2017
  v6088
def k0_off57 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2017 : BitVec 32 := 16#32
  let v6088 : BitVec 32 := Scalar.muli arg27 c16_i32_2017
  let v6089 : BitVec 32 := v6088
  let v6090 : Index := Scalar.indexCast v6089
  let c6528 : Index := 6528#32
  ![v6090.toNat, 6528]
def k0_mult209 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2018 : BitVec 32 := 16#32
  let v6096 : BitVec 32 := Scalar.muli arg27 c16_i32_2018
  v6096
def k0_mult210 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2028 : BitVec 32 := 16#32
  let v6128 : BitVec 32 := Scalar.muli arg27 c16_i32_2028
  let c0_i32_2029 : BitVec 32 := 0#32
  let v6129 : BitVec 32 := Scalar.addi v6128 c0_i32_2029
  v6129
def k0_mult211 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2033 : BitVec 32 := 16#32
  let v6141 : BitVec 32 := Scalar.muli arg27 c16_i32_2033
  let c8_i32_2034 : BitVec 32 := 8#32
  let v6142 : BitVec 32 := Scalar.addi v6141 c8_i32_2034
  v6142
def k0_mult212 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2038 : BitVec 32 := 16#32
  let v6155 : BitVec 32 := Scalar.muli arg27 c16_i32_2038
  v6155
def k0_off58 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2038 : BitVec 32 := 16#32
  let v6155 : BitVec 32 := Scalar.muli arg27 c16_i32_2038
  let v6156 : BitVec 32 := v6155
  let v6157 : Index := Scalar.indexCast v6156
  let c6656 : Index := 6656#32
  ![v6157.toNat, 6656]
def k0_mult213 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2039 : BitVec 32 := 16#32
  let v6163 : BitVec 32 := Scalar.muli arg27 c16_i32_2039
  v6163
def k0_mult214 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2049 : BitVec 32 := 16#32
  let v6195 : BitVec 32 := Scalar.muli arg27 c16_i32_2049
  let c0_i32_2050 : BitVec 32 := 0#32
  let v6196 : BitVec 32 := Scalar.addi v6195 c0_i32_2050
  v6196
def k0_mult215 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2054 : BitVec 32 := 16#32
  let v6208 : BitVec 32 := Scalar.muli arg27 c16_i32_2054
  let c8_i32_2055 : BitVec 32 := 8#32
  let v6209 : BitVec 32 := Scalar.addi v6208 c8_i32_2055
  v6209
def k0_mult216 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2059 : BitVec 32 := 16#32
  let v6222 : BitVec 32 := Scalar.muli arg27 c16_i32_2059
  v6222
def k0_off59 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2059 : BitVec 32 := 16#32
  let v6222 : BitVec 32 := Scalar.muli arg27 c16_i32_2059
  let v6223 : BitVec 32 := v6222
  let v6224 : Index := Scalar.indexCast v6223
  let c6784 : Index := 6784#32
  ![v6224.toNat, 6784]
def k0_mult217 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2060 : BitVec 32 := 16#32
  let v6230 : BitVec 32 := Scalar.muli arg27 c16_i32_2060
  v6230
def k0_mult218 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2070 : BitVec 32 := 16#32
  let v6262 : BitVec 32 := Scalar.muli arg27 c16_i32_2070
  let c0_i32_2071 : BitVec 32 := 0#32
  let v6263 : BitVec 32 := Scalar.addi v6262 c0_i32_2071
  v6263
def k0_mult219 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2075 : BitVec 32 := 16#32
  let v6275 : BitVec 32 := Scalar.muli arg27 c16_i32_2075
  let c8_i32_2076 : BitVec 32 := 8#32
  let v6276 : BitVec 32 := Scalar.addi v6275 c8_i32_2076
  v6276
def k0_mult220 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2080 : BitVec 32 := 16#32
  let v6289 : BitVec 32 := Scalar.muli arg27 c16_i32_2080
  v6289
def k0_off60 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2080 : BitVec 32 := 16#32
  let v6289 : BitVec 32 := Scalar.muli arg27 c16_i32_2080
  let v6290 : BitVec 32 := v6289
  let v6291 : Index := Scalar.indexCast v6290
  let c6912 : Index := 6912#32
  ![v6291.toNat, 6912]
def k0_mult221 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2081 : BitVec 32 := 16#32
  let v6297 : BitVec 32 := Scalar.muli arg27 c16_i32_2081
  v6297
def k0_mult222 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2091 : BitVec 32 := 16#32
  let v6329 : BitVec 32 := Scalar.muli arg27 c16_i32_2091
  let c0_i32_2092 : BitVec 32 := 0#32
  let v6330 : BitVec 32 := Scalar.addi v6329 c0_i32_2092
  v6330
def k0_mult223 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2096 : BitVec 32 := 16#32
  let v6342 : BitVec 32 := Scalar.muli arg27 c16_i32_2096
  let c8_i32_2097 : BitVec 32 := 8#32
  let v6343 : BitVec 32 := Scalar.addi v6342 c8_i32_2097
  v6343
def k0_mult224 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2101 : BitVec 32 := 16#32
  let v6356 : BitVec 32 := Scalar.muli arg27 c16_i32_2101
  v6356
def k0_off61 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2101 : BitVec 32 := 16#32
  let v6356 : BitVec 32 := Scalar.muli arg27 c16_i32_2101
  let v6357 : BitVec 32 := v6356
  let v6358 : Index := Scalar.indexCast v6357
  let c7040 : Index := 7040#32
  ![v6358.toNat, 7040]
def k0_mult225 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2102 : BitVec 32 := 16#32
  let v6364 : BitVec 32 := Scalar.muli arg27 c16_i32_2102
  v6364
def k0_mult226 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2112 : BitVec 32 := 16#32
  let v6396 : BitVec 32 := Scalar.muli arg27 c16_i32_2112
  let c0_i32_2113 : BitVec 32 := 0#32
  let v6397 : BitVec 32 := Scalar.addi v6396 c0_i32_2113
  v6397
def k0_mult227 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2117 : BitVec 32 := 16#32
  let v6409 : BitVec 32 := Scalar.muli arg27 c16_i32_2117
  let c8_i32_2118 : BitVec 32 := 8#32
  let v6410 : BitVec 32 := Scalar.addi v6409 c8_i32_2118
  v6410
def k0_mult228 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2122 : BitVec 32 := 16#32
  let v6423 : BitVec 32 := Scalar.muli arg27 c16_i32_2122
  v6423
def k0_off62 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2122 : BitVec 32 := 16#32
  let v6423 : BitVec 32 := Scalar.muli arg27 c16_i32_2122
  let v6424 : BitVec 32 := v6423
  let v6425 : Index := Scalar.indexCast v6424
  let c7168 : Index := 7168#32
  ![v6425.toNat, 7168]
def k0_mult229 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2123 : BitVec 32 := 16#32
  let v6431 : BitVec 32 := Scalar.muli arg27 c16_i32_2123
  v6431
def k0_mult230 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2133 : BitVec 32 := 16#32
  let v6463 : BitVec 32 := Scalar.muli arg27 c16_i32_2133
  let c0_i32_2134 : BitVec 32 := 0#32
  let v6464 : BitVec 32 := Scalar.addi v6463 c0_i32_2134
  v6464
def k0_mult231 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2138 : BitVec 32 := 16#32
  let v6476 : BitVec 32 := Scalar.muli arg27 c16_i32_2138
  let c8_i32_2139 : BitVec 32 := 8#32
  let v6477 : BitVec 32 := Scalar.addi v6476 c8_i32_2139
  v6477
def k0_mult232 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2143 : BitVec 32 := 16#32
  let v6490 : BitVec 32 := Scalar.muli arg27 c16_i32_2143
  v6490
def k0_off63 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2143 : BitVec 32 := 16#32
  let v6490 : BitVec 32 := Scalar.muli arg27 c16_i32_2143
  let v6491 : BitVec 32 := v6490
  let v6492 : Index := Scalar.indexCast v6491
  let c7296 : Index := 7296#32
  ![v6492.toNat, 7296]
def k0_mult233 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2144 : BitVec 32 := 16#32
  let v6498 : BitVec 32 := Scalar.muli arg27 c16_i32_2144
  v6498
def k0_mult234 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2154 : BitVec 32 := 16#32
  let v6530 : BitVec 32 := Scalar.muli arg27 c16_i32_2154
  let c0_i32_2155 : BitVec 32 := 0#32
  let v6531 : BitVec 32 := Scalar.addi v6530 c0_i32_2155
  v6531
def k0_mult235 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2159 : BitVec 32 := 16#32
  let v6543 : BitVec 32 := Scalar.muli arg27 c16_i32_2159
  let c8_i32_2160 : BitVec 32 := 8#32
  let v6544 : BitVec 32 := Scalar.addi v6543 c8_i32_2160
  v6544
def k0_mult236 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2164 : BitVec 32 := 16#32
  let v6557 : BitVec 32 := Scalar.muli arg27 c16_i32_2164
  v6557
def k0_off64 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2164 : BitVec 32 := 16#32
  let v6557 : BitVec 32 := Scalar.muli arg27 c16_i32_2164
  let v6558 : BitVec 32 := v6557
  let v6559 : Index := Scalar.indexCast v6558
  let c7424 : Index := 7424#32
  ![v6559.toNat, 7424]
def k0_mult237 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2165 : BitVec 32 := 16#32
  let v6565 : BitVec 32 := Scalar.muli arg27 c16_i32_2165
  v6565
def k0_mult238 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2175 : BitVec 32 := 16#32
  let v6597 : BitVec 32 := Scalar.muli arg27 c16_i32_2175
  let c0_i32_2176 : BitVec 32 := 0#32
  let v6598 : BitVec 32 := Scalar.addi v6597 c0_i32_2176
  v6598
def k0_mult239 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2180 : BitVec 32 := 16#32
  let v6610 : BitVec 32 := Scalar.muli arg27 c16_i32_2180
  let c8_i32_2181 : BitVec 32 := 8#32
  let v6611 : BitVec 32 := Scalar.addi v6610 c8_i32_2181
  v6611
def k0_mult240 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2185 : BitVec 32 := 16#32
  let v6624 : BitVec 32 := Scalar.muli arg27 c16_i32_2185
  v6624
def k0_off65 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2185 : BitVec 32 := 16#32
  let v6624 : BitVec 32 := Scalar.muli arg27 c16_i32_2185
  let v6625 : BitVec 32 := v6624
  let v6626 : Index := Scalar.indexCast v6625
  let c7552 : Index := 7552#32
  ![v6626.toNat, 7552]
def k0_mult241 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2186 : BitVec 32 := 16#32
  let v6632 : BitVec 32 := Scalar.muli arg27 c16_i32_2186
  v6632
def k0_mult242 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2196 : BitVec 32 := 16#32
  let v6664 : BitVec 32 := Scalar.muli arg27 c16_i32_2196
  let c0_i32_2197 : BitVec 32 := 0#32
  let v6665 : BitVec 32 := Scalar.addi v6664 c0_i32_2197
  v6665
def k0_mult243 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2201 : BitVec 32 := 16#32
  let v6677 : BitVec 32 := Scalar.muli arg27 c16_i32_2201
  let c8_i32_2202 : BitVec 32 := 8#32
  let v6678 : BitVec 32 := Scalar.addi v6677 c8_i32_2202
  v6678
def k0_mult244 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2206 : BitVec 32 := 16#32
  let v6691 : BitVec 32 := Scalar.muli arg27 c16_i32_2206
  v6691
def k0_off66 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2206 : BitVec 32 := 16#32
  let v6691 : BitVec 32 := Scalar.muli arg27 c16_i32_2206
  let v6692 : BitVec 32 := v6691
  let v6693 : Index := Scalar.indexCast v6692
  let c7680 : Index := 7680#32
  ![v6693.toNat, 7680]
def k0_mult245 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2207 : BitVec 32 := 16#32
  let v6699 : BitVec 32 := Scalar.muli arg27 c16_i32_2207
  v6699
def k0_mult246 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2217 : BitVec 32 := 16#32
  let v6731 : BitVec 32 := Scalar.muli arg27 c16_i32_2217
  let c0_i32_2218 : BitVec 32 := 0#32
  let v6732 : BitVec 32 := Scalar.addi v6731 c0_i32_2218
  v6732
def k0_mult247 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2222 : BitVec 32 := 16#32
  let v6744 : BitVec 32 := Scalar.muli arg27 c16_i32_2222
  let c8_i32_2223 : BitVec 32 := 8#32
  let v6745 : BitVec 32 := Scalar.addi v6744 c8_i32_2223
  v6745
def k0_mult248 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2227 : BitVec 32 := 16#32
  let v6758 : BitVec 32 := Scalar.muli arg27 c16_i32_2227
  v6758
def k0_off67 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2227 : BitVec 32 := 16#32
  let v6758 : BitVec 32 := Scalar.muli arg27 c16_i32_2227
  let v6759 : BitVec 32 := v6758
  let v6760 : Index := Scalar.indexCast v6759
  let c7808 : Index := 7808#32
  ![v6760.toNat, 7808]
def k0_mult249 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2228 : BitVec 32 := 16#32
  let v6766 : BitVec 32 := Scalar.muli arg27 c16_i32_2228
  v6766
def k0_mult250 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2238 : BitVec 32 := 16#32
  let v6798 : BitVec 32 := Scalar.muli arg27 c16_i32_2238
  let c0_i32_2239 : BitVec 32 := 0#32
  let v6799 : BitVec 32 := Scalar.addi v6798 c0_i32_2239
  v6799
def k0_mult251 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2243 : BitVec 32 := 16#32
  let v6811 : BitVec 32 := Scalar.muli arg27 c16_i32_2243
  let c8_i32_2244 : BitVec 32 := 8#32
  let v6812 : BitVec 32 := Scalar.addi v6811 c8_i32_2244
  v6812
def k0_mult252 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2248 : BitVec 32 := 16#32
  let v6825 : BitVec 32 := Scalar.muli arg27 c16_i32_2248
  v6825
def k0_off68 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2248 : BitVec 32 := 16#32
  let v6825 : BitVec 32 := Scalar.muli arg27 c16_i32_2248
  let v6826 : BitVec 32 := v6825
  let v6827 : Index := Scalar.indexCast v6826
  let c7936 : Index := 7936#32
  ![v6827.toNat, 7936]
def k0_mult253 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2249 : BitVec 32 := 16#32
  let v6833 : BitVec 32 := Scalar.muli arg27 c16_i32_2249
  v6833
def k0_mult254 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2259 : BitVec 32 := 16#32
  let v6865 : BitVec 32 := Scalar.muli arg27 c16_i32_2259
  let c0_i32_2260 : BitVec 32 := 0#32
  let v6866 : BitVec 32 := Scalar.addi v6865 c0_i32_2260
  v6866
def k0_mult255 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2264 : BitVec 32 := 16#32
  let v6878 : BitVec 32 := Scalar.muli arg27 c16_i32_2264
  let c8_i32_2265 : BitVec 32 := 8#32
  let v6879 : BitVec 32 := Scalar.addi v6878 c8_i32_2265
  v6879
def k0_mult256 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2269 : BitVec 32 := 16#32
  let v6892 : BitVec 32 := Scalar.muli arg27 c16_i32_2269
  v6892
def k0_off69 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2269 : BitVec 32 := 16#32
  let v6892 : BitVec 32 := Scalar.muli arg27 c16_i32_2269
  let v6893 : BitVec 32 := v6892
  let v6894 : Index := Scalar.indexCast v6893
  let c8064 : Index := 8064#32
  ![v6894.toNat, 8064]
def k0_mult257 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2270 : BitVec 32 := 16#32
  let v6900 : BitVec 32 := Scalar.muli arg27 c16_i32_2270
  v6900
def k0_mult258 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2280 : BitVec 32 := 16#32
  let v6932 : BitVec 32 := Scalar.muli arg27 c16_i32_2280
  let c0_i32_2281 : BitVec 32 := 0#32
  let v6933 : BitVec 32 := Scalar.addi v6932 c0_i32_2281
  v6933
def k0_off70 (k0_t2 : Fin k0_t2_loop.trips) (c0_i32_2281 : BitVec 32) : Fin 2 → Nat :=
  let c0_i32_5 : BitVec 32 := 0#32
  let c1_i32 : BitVec 32 := 1#32
  let arg27 : BitVec 32 := Scf.iv c0_i32_5 c1_i32 k0_t2
  let c16_i32_2280 : BitVec 32 := 16#32
  let v6932 : BitVec 32 := Scalar.muli arg27 c16_i32_2280
  let v6933 : BitVec 32 := Scalar.addi v6932 c0_i32_2281
  let v6934 : BitVec 32 := v6933
  let v6935 : Index := Scalar.indexCast v6934
  let c256_2282 : Index := 256#32
  ![v6935.toNat, 256]
def k0_mult259 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2285 : BitVec 32 := 16#32
  let v6945 : BitVec 32 := Scalar.muli arg27 c16_i32_2285
  let c8_i32_2286 : BitVec 32 := 8#32
  let v6946 : BitVec 32 := Scalar.addi v6945 c8_i32_2286
  v6946
def k0_mult260 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2290 : BitVec 32 := 16#32
  let v6959 : BitVec 32 := Scalar.muli arg27 c16_i32_2290
  v6959
def k0_off71 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2290 : BitVec 32 := 16#32
  let v6959 : BitVec 32 := Scalar.muli arg27 c16_i32_2290
  let v6960 : BitVec 32 := v6959
  let v6961 : Index := Scalar.indexCast v6960
  let c8192 : Index := 8192#32
  ![v6961.toNat, 8192]
def k0_mult261 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2291 : BitVec 32 := 16#32
  let v6967 : BitVec 32 := Scalar.muli arg27 c16_i32_2291
  v6967
def k0_mult262 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2301 : BitVec 32 := 16#32
  let v6999 : BitVec 32 := Scalar.muli arg27 c16_i32_2301
  let c0_i32_2302 : BitVec 32 := 0#32
  let v7000 : BitVec 32 := Scalar.addi v6999 c0_i32_2302
  v7000
def k0_mult263 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2306 : BitVec 32 := 16#32
  let v7012 : BitVec 32 := Scalar.muli arg27 c16_i32_2306
  let c8_i32_2307 : BitVec 32 := 8#32
  let v7013 : BitVec 32 := Scalar.addi v7012 c8_i32_2307
  v7013
def k0_mult264 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2311 : BitVec 32 := 16#32
  let v7026 : BitVec 32 := Scalar.muli arg27 c16_i32_2311
  v7026
def k0_off72 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2311 : BitVec 32 := 16#32
  let v7026 : BitVec 32 := Scalar.muli arg27 c16_i32_2311
  let v7027 : BitVec 32 := v7026
  let v7028 : Index := Scalar.indexCast v7027
  let c8320 : Index := 8320#32
  ![v7028.toNat, 8320]
def k0_mult265 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2312 : BitVec 32 := 16#32
  let v7034 : BitVec 32 := Scalar.muli arg27 c16_i32_2312
  v7034
def k0_mult266 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2322 : BitVec 32 := 16#32
  let v7066 : BitVec 32 := Scalar.muli arg27 c16_i32_2322
  let c0_i32_2323 : BitVec 32 := 0#32
  let v7067 : BitVec 32 := Scalar.addi v7066 c0_i32_2323
  v7067
def k0_mult267 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2327 : BitVec 32 := 16#32
  let v7079 : BitVec 32 := Scalar.muli arg27 c16_i32_2327
  let c8_i32_2328 : BitVec 32 := 8#32
  let v7080 : BitVec 32 := Scalar.addi v7079 c8_i32_2328
  v7080
def k0_mult268 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2332 : BitVec 32 := 16#32
  let v7093 : BitVec 32 := Scalar.muli arg27 c16_i32_2332
  v7093
def k0_off73 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2332 : BitVec 32 := 16#32
  let v7093 : BitVec 32 := Scalar.muli arg27 c16_i32_2332
  let v7094 : BitVec 32 := v7093
  let v7095 : Index := Scalar.indexCast v7094
  let c8448 : Index := 8448#32
  ![v7095.toNat, 8448]
def k0_mult269 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2333 : BitVec 32 := 16#32
  let v7101 : BitVec 32 := Scalar.muli arg27 c16_i32_2333
  v7101
def k0_mult270 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2343 : BitVec 32 := 16#32
  let v7133 : BitVec 32 := Scalar.muli arg27 c16_i32_2343
  let c0_i32_2344 : BitVec 32 := 0#32
  let v7134 : BitVec 32 := Scalar.addi v7133 c0_i32_2344
  v7134
def k0_mult271 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2348 : BitVec 32 := 16#32
  let v7146 : BitVec 32 := Scalar.muli arg27 c16_i32_2348
  let c8_i32_2349 : BitVec 32 := 8#32
  let v7147 : BitVec 32 := Scalar.addi v7146 c8_i32_2349
  v7147
def k0_mult272 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2353 : BitVec 32 := 16#32
  let v7160 : BitVec 32 := Scalar.muli arg27 c16_i32_2353
  v7160
def k0_off74 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2353 : BitVec 32 := 16#32
  let v7160 : BitVec 32 := Scalar.muli arg27 c16_i32_2353
  let v7161 : BitVec 32 := v7160
  let v7162 : Index := Scalar.indexCast v7161
  let c8576 : Index := 8576#32
  ![v7162.toNat, 8576]
def k0_mult273 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2354 : BitVec 32 := 16#32
  let v7168 : BitVec 32 := Scalar.muli arg27 c16_i32_2354
  v7168
def k0_mult274 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2364 : BitVec 32 := 16#32
  let v7200 : BitVec 32 := Scalar.muli arg27 c16_i32_2364
  let c0_i32_2365 : BitVec 32 := 0#32
  let v7201 : BitVec 32 := Scalar.addi v7200 c0_i32_2365
  v7201
def k0_mult275 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2369 : BitVec 32 := 16#32
  let v7213 : BitVec 32 := Scalar.muli arg27 c16_i32_2369
  let c8_i32_2370 : BitVec 32 := 8#32
  let v7214 : BitVec 32 := Scalar.addi v7213 c8_i32_2370
  v7214
def k0_mult276 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2374 : BitVec 32 := 16#32
  let v7227 : BitVec 32 := Scalar.muli arg27 c16_i32_2374
  v7227
def k0_off75 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2374 : BitVec 32 := 16#32
  let v7227 : BitVec 32 := Scalar.muli arg27 c16_i32_2374
  let v7228 : BitVec 32 := v7227
  let v7229 : Index := Scalar.indexCast v7228
  let c8704 : Index := 8704#32
  ![v7229.toNat, 8704]
def k0_mult277 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2375 : BitVec 32 := 16#32
  let v7235 : BitVec 32 := Scalar.muli arg27 c16_i32_2375
  v7235
def k0_mult278 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2385 : BitVec 32 := 16#32
  let v7267 : BitVec 32 := Scalar.muli arg27 c16_i32_2385
  let c0_i32_2386 : BitVec 32 := 0#32
  let v7268 : BitVec 32 := Scalar.addi v7267 c0_i32_2386
  v7268
def k0_mult279 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2390 : BitVec 32 := 16#32
  let v7280 : BitVec 32 := Scalar.muli arg27 c16_i32_2390
  let c8_i32_2391 : BitVec 32 := 8#32
  let v7281 : BitVec 32 := Scalar.addi v7280 c8_i32_2391
  v7281
def k0_mult280 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2395 : BitVec 32 := 16#32
  let v7294 : BitVec 32 := Scalar.muli arg27 c16_i32_2395
  v7294
def k0_off76 (k0_t2 : Fin k0_t2_loop.trips) : Fin 2 → Nat :=
  let c0_i32_5 : BitVec 32 := 0#32
  let c1_i32 : BitVec 32 := 1#32
  let arg27 : BitVec 32 := Scf.iv c0_i32_5 c1_i32 k0_t2
  let c16_i32_2395 : BitVec 32 := 16#32
  let v7294 : BitVec 32 := Scalar.muli arg27 c16_i32_2395
  let v7295 : BitVec 32 := v7294
  let v7296 : Index := Scalar.indexCast v7295
  let c8832 : Index := 8832#32
  ![v7296.toNat, 8832]
def k0_mult281 (k0_t2 : Fin k0_t2_loop.trips) : BitVec 32 :=
  let c0_i32_5 : BitVec 32 := 0#32
  let c1_i32 : BitVec 32 := 1#32
  let arg27 : BitVec 32 := Scf.iv c0_i32_5 c1_i32 k0_t2
  let c16_i32_2396 : BitVec 32 := 16#32
  let v7302 : BitVec 32 := Scalar.muli arg27 c16_i32_2396
  v7302
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x8960 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x280x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S280x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x12x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x48x256 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16x768x8960 : Shape := ⟨3, ![16, 768, 8960]⟩
abbrev S16x768x280 : Shape := ⟨3, ![16, 768, 280]⟩
abbrev S8960x1536 : Shape := ⟨2, ![8960, 1536]⟩
abbrev S280x1536 : Shape := ⟨2, ![280, 1536]⟩
abbrev S16x768x1536 : Shape := ⟨3, ![16, 768, 1536]⟩
abbrev S1536 : Shape := ⟨1, ![1536]⟩
abbrev S1536x2048 : Shape := ⟨2, ![1536, 2048]⟩
abbrev S48x2048 : Shape := ⟨2, ![48, 2048]⟩
abbrev S16x768 : Shape := ⟨2, ![16, 768]⟩
abbrev S64 : Shape := ⟨1, ![64]⟩
abbrev S_ : Shape := ⟨0, ![]⟩
abbrev S16x768x12x128 : Shape := ⟨4, ![16, 768, 12, 128]⟩
abbrev S16x768x2x128 : Shape := ⟨4, ![16, 768, 2, 128]⟩
abbrev S16x768x48 : Shape := ⟨3, ![16, 768, 48]⟩
abbrev S16x768x280x1 : Shape := ⟨4, ![16, 768, 280, 1]⟩
abbrev S16x768x280x32 : Shape := ⟨4, ![16, 768, 280, 32]⟩
abbrev S280x1x1536 : Shape := ⟨3, ![280, 1, 1536]⟩
abbrev S280x32x1536 : Shape := ⟨3, ![280, 32, 1536]⟩
abbrev S16x768x1 : Shape := ⟨3, ![16, 768, 1]⟩
abbrev S1x1x1536 : Shape := ⟨3, ![1, 1, 1536]⟩
abbrev S16x768x48x32 : Shape := ⟨4, ![16, 768, 48, 32]⟩
abbrev S16x768x48x1 : Shape := ⟨4, ![16, 768, 48, 1]⟩
abbrev S16x768x48x254 : Shape := ⟨4, ![16, 768, 48, 254]⟩
abbrev S48x1x2048 : Shape := ⟨3, ![48, 1, 2048]⟩
abbrev S48x32x2048 : Shape := ⟨3, ![48, 32, 2048]⟩
abbrev S16x768x2048 : Shape := ⟨3, ![16, 768, 2048]⟩
abbrev S1x1x64 : Shape := ⟨3, ![1, 1, 64]⟩
abbrev S16x768x64 : Shape := ⟨3, ![16, 768, 64]⟩
abbrev S16x768x1x64 : Shape := ⟨4, ![16, 768, 1, 64]⟩
abbrev S16x768x1792 : Shape := ⟨3, ![16, 768, 1792]⟩
abbrev S16x768x14x128 : Shape := ⟨4, ![16, 768, 14, 128]⟩
abbrev S16x768x14x64 : Shape := ⟨4, ![16, 768, 14, 64]⟩
abbrev S16x768x256 : Shape := ⟨3, ![16, 768, 256]⟩

abbrev nBuf : Space → Nat
  | .hbm => 31
  | .vmem => 16
  | .smem => 0
  | _ => 0

abbrev bufTy : (tb : Table) → Fin (tcTables nBuf tb) → BufTy
  | .hbm, ⟨0, _⟩ => ⟨S16x768x8960, .fp8e4m3⟩
  | .hbm, ⟨1, _⟩ => ⟨S16x768x280, .i8⟩
  | .hbm, ⟨2, _⟩ => ⟨S8960x1536, .fp8e4m3⟩
  | .hbm, ⟨3, _⟩ => ⟨S280x1536, .i8⟩
  | .hbm, ⟨4, _⟩ => ⟨S16x768x1536, .bf16⟩
  | .hbm, ⟨5, _⟩ => ⟨S1536, .f32⟩
  | .hbm, ⟨6, _⟩ => ⟨S1536x2048, .fp8e4m3⟩
  | .hbm, ⟨7, _⟩ => ⟨S48x2048, .i8⟩
  | .hbm, ⟨8, _⟩ => ⟨S16x768, .i32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S16x768x1536, .bf16⟩
  | .hbm, ⟨26, _⟩ => ⟨S16x768x12x128, .bf16⟩
  | .hbm, ⟨27, _⟩ => ⟨S16x768x2x128, .bf16⟩
  | .hbm, ⟨28, _⟩ => ⟨S16x768x2x128, .bf16⟩
  | .hbm, ⟨29, _⟩ => ⟨S16x768x1536, .fp8e4m3⟩
  | .hbm, ⟨30, _⟩ => ⟨S16x768x48, .i8⟩
  | .local _ .vmem, ⟨0, _⟩ => ⟨S16x768x8960, .fp8e4m3⟩
  | .local _ .vmem, ⟨1, _⟩ => ⟨S16x768x280, .i8⟩
  | .local _ .vmem, ⟨2, _⟩ => ⟨S8960x1536, .fp8e4m3⟩
  | .local _ .vmem, ⟨3, _⟩ => ⟨S280x1536, .i8⟩
  | .local _ .vmem, ⟨4, _⟩ => ⟨S16x768x1536, .bf16⟩
  | .local _ .vmem, ⟨5, _⟩ => ⟨S1536, .f32⟩
  | .local _ .vmem, ⟨6, _⟩ => ⟨S1536x2048, .fp8e4m3⟩
  | .local _ .vmem, ⟨7, _⟩ => ⟨S48x2048, .i8⟩
  | .local _ .vmem, ⟨8, _⟩ => ⟨S16x768, .i32⟩
  | .local _ .vmem, ⟨9, _⟩ => ⟨S64, .f32⟩
  | .local _ .vmem, ⟨10, _⟩ => ⟨S16x768x1536, .bf16⟩
  | .local _ .vmem, ⟨11, _⟩ => ⟨S16x768x12x128, .bf16⟩
  | .local _ .vmem, ⟨12, _⟩ => ⟨S16x768x2x128, .bf16⟩
  | .local _ .vmem, ⟨13, _⟩ => ⟨S16x768x2x128, .bf16⟩
  | .local _ .vmem, ⟨14, _⟩ => ⟨S16x768x1536, .fp8e4m3⟩
  | .local _ .vmem, ⟨15, _⟩ => ⟨S16x768x48, .i8⟩
  | _, _ => ⟨S16x768x8960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S16x768x8960 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768x280 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S280x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x768x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x2048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x768 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x768x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x768x12x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x768x2x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x768x2x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x768x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x768x48 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Preserves.lean ====
/- The statements of the rewriting rules between the kernel as printed and its idealized form: two bf16 rows held in one
   32-bit word, read and written as two rows. -/
module

public import proofs.«01_k».proof.Defs
public import proofs.«01_k».proof.Proof.Gen.KernelIdeal
public import Idealize.ShloMosaic.Lib.Bf16Pair
public import Idealize.ShloMosaic.Lib.Bf16PairInverse

@[expose] public section

namespace Cert.Proof

open Idealize.ShloMosaic Cert.KernelIdeal
open IdealRules.bf16_pair (statement bufferStatement packStatement)

/-- Every rule the idealized kernel was printed under holds at the shapes it is used at. -/
theorem preserves : Cert.preserves_Kernel_KernelIdeal :=
  ⟨bufferStatement S4480x2x1536 S4480x1x1536, bufferStatement S768x2x2048 S768x1x2048, statement S16x1536 S8x1536,
    statement S8x2x1536 S8x1x1536, statement S16x2048 S8x2048, statement S8x2x2048 S8x1x2048,
    statement S4480x2x1536 S4480x1x1536, statement S8960x1536 S4480x1536, statement S768x2x2048 S768x1x2048,
    statement S1536x2048 S768x2048, packStatement S256x128, statement S256x2x128 S256x1x128⟩

end Cert.Proof

end
-- ==== Proof.RowStore.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- The lane number divided by 32, rounded down, as the kernel computes it with signed arithmetic. -/
def laneDiv (v15 : IVec S8x128 32) : IVec S8x128 32 :=
  have v2753 : IVec S8x128 32 := divsi v15 (broadcast S8x128 32#32)
  have v2756 : IVec S8x128 32 := extui 32 (cmpi .sgt v15 (broadcast S8x128 0#32)) natLt_1_32
  have v2759 : IVec S8x128 32 := extui 32 (cmpi .slt v15 (broadcast S8x128 0#32)) natLt_1_32
  have v2766 : IVec S8x128 32 := broadcast S8x128 (Scalar.subi (Scalar.extui (Scalar.cmpi .sgt 32#32 0#32)) (Scalar.extui (Scalar.cmpi .slt 32#32 0#32)))
  have v2767 : IVec S8x128 1 := cmpi .ne (subi v2756 v2759) v2766
  have v2771 : IVec S8x128 1 := cmpi .ne (remsi v15 (broadcast S8x128 32#32)) (broadcast S8x128 0#32)
  select (andi v2767 v2771) (subi v2753 (broadcast S8x128 1#32)) v2753

/-- The column of the scale slab a lane reads. -/
def laneCol (n : BitVec 32) (v15 : IVec S8x128 32) : IVec S8x128 32 :=
  have v2710 : IVec S8x128 32 := addi (laneDiv v15) (broadcast S8x128 n)
  have v2720 : IVec S8x128 32 := select (cmpi .slt v2710 (broadcast S8x128 0#32)) (addi v2710 (broadcast S8x128 128#32)) v2710
  shapeCast S8x128 (shapeCast S8x128x1 v2720 shapeCasts_S8x128_S8x128x1) shapeCasts_S8x128x1_S8x128

/-- One stored tile: 16 rows by 128 columns of codes, each times the scale of its row and 32-column block. -/
def rowStore (n : BitVec 32) (v15 : IVec S8x128 32) (s0 s1 : Vec Ideal S8x128 .f32) (c : Vec Ideal S16x128 .fp8e4m3) : Vec Ideal S16x128 .bf16 :=
  have v2737 : FVec Ideal S16x128 .f32 := concatenate S16x128 0 [⟨S8x128, dynamicGather 1 s0 (laneCol n v15)⟩, ⟨S8x128, dynamicGather 1 s1 (laneCol n v15)⟩] concatenates_S8x128_S8x128_S16x128_d0
  have v2743 : FVec Ideal S16x128 .f32 := extf .f32 (shapeCast S16x128 c shapeCasts_S16x128_S16x128) bitsLt_fp8e4m3_f32
  shapeCast S16x128 (truncf .bf16 (mulf v2743 v2737) bitsLt_bf16_f32) shapeCasts_S16x128_S16x128

abbrev lanes : IVec S8x128 32 := iota Kind.tc S8x128 32 [1] iota_S8x128_d1_w32

theorem laneDiv_lanes (r : Fin 8) (l : Fin 128) : laneDiv lanes (ix2 r l) = BitVec.ofNat 32 (l.val / 32) := by
  pointwise [laneDiv]
  revert l; decide +kernel

theorem laneCol_small : ∀ (v : Fin 32) (m : Fin 4),
    (Scalar.select (IntOp.cmpi CmpIPredicate.slt (IntOp.addi (BitVec.ofNat 32 m.val) (BitVec.ofNat 32 (4 * v.val))) 0#32)
        (IntOp.addi (IntOp.addi (BitVec.ofNat 32 m.val) (BitVec.ofNat 32 (4 * v.val))) 128#32)
        (IntOp.addi (BitVec.ofNat 32 m.val) (BitVec.ofNat 32 (4 * v.val)))).toNat = 4 * v.val + m.val := by
  decide +kernel

theorem laneCol_lanes (v : Fin 32) (r : Fin 8) (l : Fin 128) :
    (laneCol (BitVec.ofNat 32 (4 * v.val)) lanes (ix2 r l)).toNat = 4 * v.val + l.val / 32 := by
  pointwise [laneCol]
  rw [laneDiv_lanes]
  exact laneCol_small v ⟨l.val / 32, by omega⟩

theorem rowStore_apply (v : Fin 32) (s0 s1 : Vec Ideal S8x128 .f32) (c : Vec Ideal S16x128 .fp8e4m3) (r : Fin 16) (l : Fin 128) :
    rowStore (BitVec.ofNat 32 (4 * v.val)) lanes s0 s1 c (ix2 r l)
      = c (ix2 r l) * (if h : r.val < 8 then s0 (ix2 ⟨r.val, h⟩ ⟨4 * v.val + l.val / 32, by omega⟩)
          else s1 (ix2 ⟨r.val - 8, by omega⟩ ⟨4 * v.val + l.val / 32, by omega⟩)) := by
  pointwise [rowStore]
  congr 1
  split_ifs <;> (congr 2; apply Fin.ext; simp only [laneCol_lanes]; omega)

/-- What the row buffer holds: every code times the scale of its row and 32-column block. -/
def scaledRows (C : Vec Ideal S256x8960 .fp8e4m3) (hs : Vec Ideal S256x384 .f32) : Vec Ideal S256x8960 .bf16 :=
  fun j => C j * hs (ix2 (j 0) ⟨(j 1).val / 32, by have := (j 1).isLt; change (j 1).val < 8960 at this; omega⟩)

theorem piece_ok (C : Vec Ideal S256x8960 .fp8e4m3) (hs : Vec Ideal S256x384 .f32) (k c : Nat)
    (off o0 o1 : Fin 2 → Nat) (inb : ∀ a, off a + S16x128.size a ≤ S256x8960.size a)
    (inb0 : ∀ a, o0 a + S8x128.size a ≤ S256x384.size a) (inb1 : ∀ a, o1 a + S8x128.size a ≤ S256x384.size a)
    (hoff : off = ![16 * k, c]) (h0 : o0 = ![16 * k, 128 * (c / 4096)]) (h1 : o1 = ![16 * k + 8, 128 * (c / 4096)])
    (hc : c % 128 = 0) (P : Vec Ideal S16x128 .bf16)
    (hP : P = rowStore (BitVec.ofNat 32 (4 * (c / 128 % 32))) lanes (View.ld (Val := Elt Ideal) (e' := .f32) hs (Rect.unit (s := S256x384) o0 S8x128.size inb0))
      (View.ld (Val := Elt Ideal) (e' := .f32) hs (Rect.unit (s := S256x384) o1 S8x128.size inb1)) (View.ld (Val := Elt Ideal) (e' := .fp8e4m3) C (Rect.unit (s := S256x8960) off S16x128.size inb))) :
    ∀ x : (Rect.unit (s := S256x8960) off S16x128.size inb).shape.Idx, P x = scaledRows C hs ((Rect.unit (s := S256x8960) off S16x128.size inb).emb x) := by
  intro x
  have hx : (x : S16x128.Idx) = ix2 (x 0 : Fin 16) (x 1 : Fin 128) := by
    funext a; fin_cases a <;> rfl
  have e0 : (((Rect.unit (s := S256x8960) off S16x128.size inb).emb x) 0).val = 16 * k + (x 0 : Fin 16).val := by
    exact (Rect.idx_unit_val (s := S256x8960) off S16x128.size inb x 0).trans (congrArg (· + _) (congrFun hoff 0))
  have e1 : (((Rect.unit (s := S256x8960) off S16x128.size inb).emb x) 1).val = c + (x 1 : Fin 128).val := by
    exact (Rect.idx_unit_val (s := S256x8960) off S16x128.size inb x 1).trans (congrArg (· + _) (congrFun hoff 1))
  have hr := (x 0 : Fin 16).isLt
  have hl := (x 1 : Fin 128).isLt
  have hcl : c + 128 ≤ 8960 := by have := inb 1; rw [hoff] at this; exact this
  refine (congrFun hP x).trans ((congrArg _ hx).trans ((rowStore_apply ⟨c / 128 % 32, by omega⟩ _ _ _ _ _).trans ?_))
  unfold scaledRows
  congr 1
  · exact congrArg (fun y => C ((Rect.unit (s := S256x8960) off S16x128.size inb).emb y)) hx.symm
  · have p0 := congrFun h0 0
    have p1 := congrFun h0 1
    have q0 := congrFun h1 0
    have q1 := congrFun h1 1
    split_ifs with h
    · refine View.ld_unit_apply_of (Val := Elt Ideal) hs _ _ _ _ _ fun a => ?_
      fin_cases a
      · exact e0.trans (congrArg (· + _) p0.symm)
      · change (((Rect.unit (s := S256x8960) off S16x128.size inb).emb x) 1).val / 32 = o0 1 + (4 * (c / 128 % 32) + (x 1 : Fin 128).val / 32)
        rw [e1, p1]; simp only [Matrix.cons_val_one, Matrix.cons_val_zero, Matrix.cons_val_fin_one]; omega
    · refine View.ld_unit_apply_of (Val := Elt Ideal) hs _ _ _ _ _ fun a => ?_
      fin_cases a
      · change (((Rect.unit (s := S256x8960) off S16x128.size inb).emb x) 0).val = o1 0 + ((x 0 : Fin 16).val - 8)
        rw [e0, q0]; simp only [Matrix.cons_val_zero]; omega
      · change (((Rect.unit (s := S256x8960) off S16x128.size inb).emb x) 1).val / 32 = o1 1 + (4 * (c / 128 % 32) + (x 1 : Fin 128).val / 32)
        rw [e1, q1]; simp only [Matrix.cons_val_one, Matrix.cons_val_zero, Matrix.cons_val_fin_one]; omega
end Cert.KernelIdeal.Value
-- ==== Proof.WdStore.lean ====
module

public import proofs.«01_k».proof.Proof.RowStore
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- One stored pair tile: 16 rows of codes times one row of scales, rows `2r` and `2r+1` side by side. -/
def pairStore (sc : Vec Ideal S1x1536 .f32) (cd : Vec Ideal S16x1536 .fp8e4m3) : Vec Ideal S8x2x1536 .bf16 :=
  have v3569 : FVec Ideal S16x1536 .bf16 := truncf .bf16 (mulf (extf .f32 cd bitsLt_fp8e4m3_f32) (broadcastTo S16x1536 sc broadcasts_S1x1536_S16x1536)) bitsLt_bf16_f32
  have lo : FVec Ideal S8x1536 .bf16 := rowsOfParity 0 S8x1536 v3569 bitcasts_S16x1536_w16_S8x1536_w32
  have hi : FVec Ideal S8x1536 .bf16 := rowsOfParity 1 S8x1536 v3569 bitcasts_S16x1536_w16_S8x1536_w32
  interleaveRows S8x2x1536 (shapeCast S8x1x1536 lo shapeCasts_S8x1536_S8x1x1536) (shapeCast S8x1x1536 hi shapeCasts_S8x1536_S8x1x1536) bitcasts_S8x2x1536_w16_S8x1x1536_w32

theorem pairStore_apply (sc : Vec Ideal S1x1536 .f32) (cd : Vec Ideal S16x1536 .fp8e4m3) (r : Fin 8) (h : Fin 2) (d : Fin 1536) :
    pairStore sc cd (ix3 r h d) = cd (ix2 ⟨2 * r.val + h.val, by omega⟩ d) * sc (ix2 0 d) := by
  pointwise [pairStore]
  obtain ⟨h, hh⟩ := h
  interval_cases h <;> rfl

/-- A whole-buffer write read back through a block. -/
theorem readCov_whole {sp : Space} {S : Shape} {e : EltTy} (v : View sig .tc sp S e) (w : S.Idx → Elt Ideal e) (B : LoadRect S) :
    v.readCov (Val := Elt Ideal) [⟨Rect.whole S, w⟩] B = fun j => w (B.idx j) := by
  rw [View.readCov_eq_canon']
  funext j
  exact View.canon_apply_of_pieces w _ (fun p hp x => by
      obtain rfl := List.mem_singleton.1 hp
      exact congrArg w (funext fun a => Fin.ext (by simp [Rect.whole, Rect.emb_apply]))) _
    ⟨_, List.mem_singleton.2 rfl, by simp [Rect.set_whole]⟩

/-- What the weight scratch holds: row `2a + b` of the codes times the scale of its 32-row block. -/
def pairedRows (W : Vec Ideal S8960x1536 .fp8e4m3) (sc : Vec Ideal S280x1536 .f32) : Vec Ideal S4480x2x1536 .bf16 :=
  fun j => W (ix2 ⟨2 * (j 0).val + (j 1).val, by
      have h0 : (j 0).val < 4480 := (j 0).isLt
      have h1 : (j 1).val < 2 := (j 1).isLt
      omega⟩ (j 2)) * sc (ix2 ⟨(j 0).val / 16, by have h0 : (j 0).val < 4480 := (j 0).isLt; omega⟩ (j 2))

/-- The list's tiles hold blocks of the paired rows, and they cover rows `128k … 128k+8n-1`. -/
def FillOK (W : Vec Ideal S8960x1536 .fp8e4m3) (sc : Vec Ideal S280x1536 .f32) (k n : Nat)
    (L : List (View.Piece (Elt Ideal) S4480x2x1536 .bf16)) : Prop :=
  View.PiecesOf (pairedRows W sc) L ∧
    ∀ y : S4480x2x1536.Idx, 128 * k ≤ (y 0).val → (y 0).val < 128 * k + 8 * n → ∃ p ∈ L, y ∈ p.1.set

theorem fillOK_nil (W : Vec Ideal S8960x1536 .fp8e4m3) (sc : Vec Ideal S280x1536 .f32) (k : Nat) : FillOK W sc k 0 [] :=
  ⟨trivial, fun y _ h => absurd h (by omega)⟩

theorem fill_piece (W : Vec Ideal S8960x1536 .fp8e4m3) (sc : Vec Ideal S280x1536 .f32) (k n : Nat) (hk : k < 35) (hn : n < 16)
    (inb : ∀ a, (![128 * k + 8 * n, 0, 0] : Fin 3 → Nat) a + S8x2x1536.size a ≤ S4480x2x1536.size a)
    (s : Vec Ideal S1x1536 .f32) (cd : Vec Ideal S16x1536 .fp8e4m3)
    (hs : ∀ d : Fin 1536, s (ix2 0 d) = sc (ix2 ⟨8 * k + n / 2, by omega⟩ d))
    (hcd : ∀ (r : Fin 16) (d : Fin 1536), cd (ix2 r d) = W (ix2 ⟨256 * k + 16 * n + r.val, by omega⟩ d)) :
    ∀ x : (Rect.unit (s := S4480x2x1536) ![128 * k + 8 * n, 0, 0] S8x2x1536.size inb).shape.Idx,
      pairStore s cd x = pairedRows W sc ((Rect.unit (s := S4480x2x1536) ![128 * k + 8 * n, 0, 0] S8x2x1536.size inb).emb x) := by
  intro x
  have hx : (x : S8x2x1536.Idx) = ix3 (x 0 : Fin 8) (x 1 : Fin 2) (x 2 : Fin 1536) := by
    funext a; fin_cases a <;> rfl
  have h0 : (x 0 : Fin 8).val < 8 := (x 0 : Fin 8).isLt
  have h1 : (x 1 : Fin 2).val < 2 := (x 1 : Fin 2).isLt
  have e0 := Rect.idx_unit_val (s := S4480x2x1536) ![128 * k + 8 * n, 0, 0] S8x2x1536.size inb x 0
  have e1 := Rect.idx_unit_val (s := S4480x2x1536) ![128 * k + 8 * n, 0, 0] S8x2x1536.size inb x 1
  have e2 := Rect.idx_unit_val (s := S4480x2x1536) ![128 * k + 8 * n, 0, 0] S8x2x1536.size inb x 2
  change _ = 128 * k + 8 * n + (x 0 : Fin 8).val at e0
  change _ = 0 + (x 1 : Fin 2).val at e1
  change _ = 0 + (x 2 : Fin 1536).val at e2
  refine (congrArg (pairStore s cd) hx).trans ((pairStore_apply _ _ _ _ _).trans ?_)
  refine (congrArg₂ (· * ·) (hcd _ _) (hs _)).trans ?_
  unfold pairedRows
  refine congrArg₂ (· * ·) (congrArg W ?_) (congrArg sc ?_)
  · funext a
    fin_cases a
    · apply Fin.ext
      change 256 * k + 16 * n + (2 * (x 0 : Fin 8).val + (x 1 : Fin 2).val) = 2 * _ + _
      erw [e0, e1]; omega
    · apply Fin.ext
      exact (e2.trans (Nat.zero_add _)).symm
  · funext a
    fin_cases a
    · apply Fin.ext
      change 8 * k + n / 2 = _ / 16
      erw [e0]; omega
    · apply Fin.ext
      exact (e2.trans (Nat.zero_add _)).symm

theorem stage_apply {sp : Space} (v : View sig .tc sp S256x1536 .fp8e4m3) (X3 : BufTy.Contents (Elt Ideal) (Memref.whole main_arg2 : Memref sig .tc _ _ _).view.ty)
    (k n : Nat) (o1 o3 : Fin 2 → Nat) (inb1 hsl) (inb3 : ∀ a, o3 a + S16x1536.size a ≤ S256x1536.size a) (h1 : o1 = ![256 * k, 0]) (h3 : o3 = ![16 * n, 0])
    (r : Fin 16) (d : Fin 1536) (hb : 256 * k + 16 * n + r.val < 8960) :
    v.readCov (Val := Elt Ideal) [⟨Rect.whole S256x1536, ReadAs.same.apply (View.read (Elt Ideal)
        ((Memref.whole main_arg2 : Memref sig .tc .hbm S8960x1536 .fp8e4m3).slice (Rect.unit (s := S8960x1536) o1 S256x1536.size inb1) hsl).view X3)⟩]
      (Rect.unit (s := S256x1536) o3 S16x1536.size inb3).toLoadRect (ix2 r d)
      = (Memref.whole main_arg2 : Memref sig .tc .hbm S8960x1536 .fp8e4m3).view.read (Elt Ideal) X3 (ix2 ⟨256 * k + 16 * n + r.val, hb⟩ d) := by
  subst h1 h3
  rw [readCov_whole]
  change (Memref.whole main_arg2 : Memref sig .tc .hbm S8960x1536 .fp8e4m3).view.read (Elt Ideal) X3 ((Rect.unit (s := S8960x1536) _ S256x1536.size inb1).emb _) = _
  congr 1
  funext a
  fin_cases a
  · apply Fin.ext
    refine (Rect.idx_unit_val (s := S8960x1536) _ _ inb1 _ _).trans ?_
    change 256 * k + _ = _
    erw [Rect.idx_unit_val]
    change 256 * k + (16 * n + r.val) = 256 * k + 16 * n + r.val
    omega
  · apply Fin.ext
    refine (Rect.idx_unit_val (s := S8960x1536) _ _ inb1 _ _).trans ?_
    change 0 + _ = _
    erw [Rect.idx_unit_val]
    change 0 + (0 + d.val) = d.val
    omega
end Cert.KernelIdeal.Value
-- ==== Proof.RowTrip.lean ====
module

public import proofs.«01_k».proof.Proof.RowStore
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- The list's tiles hold blocks of the scaled rows, and they cover rows `16k … 16k+15` and columns below `128 n`. -/
def TripOK (C : Vec Ideal S256x8960 .fp8e4m3) (hs : Vec Ideal S256x384 .f32) (k n : Nat)
    (L : List (View.Piece (Elt Ideal) S256x8960 .bf16)) : Prop :=
  View.PiecesOf (scaledRows C hs) L ∧
    ∀ y : S256x8960.Idx, 16 * k ≤ (y 0).val → (y 0).val < 16 * k + 16 → (y 1).val < 128 * n → ∃ p ∈ L, y ∈ p.1.set

theorem tripOK_nil (C : Vec Ideal S256x8960 .fp8e4m3) (hs : Vec Ideal S256x384 .f32) (k : Nat) : TripOK C hs k 0 [] :=
  ⟨trivial, fun y _ _ h => absurd h (by omega)⟩

theorem tripOK_cons (C : Vec Ideal S256x8960 .fp8e4m3) (hs : Vec Ideal S256x384 .f32) (k n : Nat)
    (off o0 o1 : Fin 2 → Nat) (inb : ∀ a, off a + S16x128.size a ≤ S256x8960.size a)
    (inb0 : ∀ a, o0 a + S8x128.size a ≤ S256x384.size a) (inb1 : ∀ a, o1 a + S8x128.size a ≤ S256x384.size a)
    (P : Vec Ideal S16x128 .bf16) (L : List (View.Piece (Elt Ideal) S256x8960 .bf16))
    (hoff : off = ![16 * k, 128 * n])
    (hP : P = rowStore (BitVec.ofNat 32 (4 * (n % 32))) lanes (View.ld (Val := Elt Ideal) (e' := .f32) hs (Rect.unit (s := S256x384) o0 S8x128.size inb0))
      (View.ld (Val := Elt Ideal) (e' := .f32) hs (Rect.unit (s := S256x384) o1 S8x128.size inb1)) (View.ld (Val := Elt Ideal) (e' := .fp8e4m3) C (Rect.unit (s := S256x8960) off S16x128.size inb)))
    (h0 : o0 = ![16 * k, 128 * (n / 32)]) (h1 : o1 = ![16 * k + 8, 128 * (n / 32)])
    (hL : TripOK C hs k n L) :
    TripOK C hs k (n + 1) (⟨Rect.unit (s := S256x8960) off S16x128.size inb, P⟩ :: L) := by
  refine ⟨⟨piece_ok C hs k (128 * n) off o0 o1 inb inb0 inb1 hoff ?_ ?_ (by omega) P ?_, hL.1⟩, fun y ha hb hc => ?_⟩
  · rw [h0]; congr 2; omega
  · rw [h1]; congr 2; omega
  · rw [show 128 * n / 128 % 32 = n % 32 by omega]; exact hP
  · by_cases hy : (y 1).val < 128 * n
    · obtain ⟨p, hp, hm⟩ := hL.2 y ha hb hy
      exact ⟨p, List.mem_cons_of_mem _ hp, hm⟩
    · refine ⟨_, List.mem_cons_self, ?_⟩
      subst hoff
      show y ∈ (Rect.unit (s := S256x8960) ![16 * k, 128 * n] S16x128.size inb).set
      rw [Rect.mem_set_unit]
      intro a
      fin_cases a
      · exact ⟨ha, hb⟩
      · change 128 * n ≤ (y 1).val ∧ (y 1).val < 128 * n + 128
        omega

theorem piecesOf_append {G : Vec Ideal S256x8960 .bf16} : ∀ {L L' : List (View.Piece (Elt Ideal) S256x8960 .bf16)},
    View.PiecesOf G L → View.PiecesOf G L' → View.PiecesOf G (L ++ L')
  | [], _, _, h' => h'
  | _ :: _, _, h, h' => ⟨h.1, piecesOf_append h.2 h'⟩

theorem trip_pieces (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (k : Fin k0_t2_loop.trips)
    (X1 : BufTy.Contents (Elt Ideal) arg1.view.ty) (X23 : BufTy.Contents (Elt Ideal) arg23.view.ty) :
    TripOK (arg1.view.read (Elt Ideal) X1) (arg23.view.read (Elt Ideal) X23) k.val 70
      (tripL_k0_t2 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 lanes X1 X23 k) := by
  unfold tripL_k0_t2 trip_k0_t2
  dsimp only
  repeat
    apply tripOK_cons (k := k.val)
    case hoff => exact (ClosedOff.eq ..).trans rfl
    case hP => rfl
    case h0 => exact (ClosedOff.eq ..).trans rfl
    case h1 => exact (ClosedOff.eq ..).trans rfl
  exact tripOK_nil ..

theorem rows_pieces (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole)
    (X1 : BufTy.Contents (Elt Ideal) arg1.view.ty) (X23 : BufTy.Contents (Elt Ideal) arg23.view.ty) (n : Nat) (hn : n ≤ k0_t2_loop.trips) :
    View.PiecesOf (scaledRows (arg1.view.read (Elt Ideal) X1) (arg23.view.read (Elt Ideal) X23)) (pb_k0_t2 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 lanes X1 X23 n) ∧
      ∀ y : S256x8960.Idx, (y 0).val < 16 * n → ∃ p ∈ pb_k0_t2 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 lanes X1 X23 n, y ∈ p.1.set := by
  induction n with
  | zero => exact ⟨trivial, fun y h => absurd h (by omega)⟩
  | succ n ih =>
    have hk := trip_pieces c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 ⟨n, hn⟩ X1 X23
    have ih := ih (by omega)
    rw [pb_k0_t2_succ (k := ⟨n, hn⟩)]
    refine ⟨piecesOf_append hk.1 ih.1, fun y hy => ?_⟩
    by_cases h : (y 0).val < 16 * n
    · obtain ⟨p, hp, hm⟩ := ih.2 y h
      exact ⟨p, List.mem_append_right _ hp, hm⟩
    · obtain ⟨p, hp, hm⟩ := hk.2 y (by change 16 * n ≤ _; omega) (by change _ < 16 * n + 16; omega) (y 1).isLt
      exact ⟨p, List.mem_append_left _ hp, hm⟩

/-- After the loop the row buffer holds the scaled rows. -/
theorem rows_held (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole)
    (X1 : BufTy.Contents (Elt Ideal) arg1.view.ty) (X23 : BufTy.Contents (Elt Ideal) arg23.view.ty) :
    View.canon (pb_k0_t2 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 lanes X1 X23 k0_t2_loop.trips) = (scaledRows (arg1.view.read (Elt Ideal) X1) (arg23.view.read (Elt Ideal) X23)) := by
  funext y
  have h := rows_pieces c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 X1 X23 _ le_rfl
  exact View.canon_apply_of_pieces _ _ h.1.mem y (h.2 y (lt_of_lt_of_eq (y 0).isLt (by decide +kernel)))
end Cert.KernelIdeal.Value
-- ==== Proof.WdFill.lean ====
module

public import proofs.«01_k».proof.Proof.WdStore
public import proofs.«01_k».proof.Proof.RowTrip
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

theorem fillOK_cons {sp : Space} (v : View sig .tc sp S256x1536 .fp8e4m3) (X3 : BufTy.Contents (Elt Ideal) (Memref.whole main_arg2 : Memref sig .tc .hbm S8960x1536 .fp8e4m3).view.ty) (sc : Vec Ideal S280x1536 .f32)
    (k n : Nat) (hk : k < 35) (off : Fin 3 → Nat) (o1 o2 o3 : Fin 2 → Nat) (inb : ∀ a, off a + S8x2x1536.size a ≤ S4480x2x1536.size a)
    (inb1 hsl) (inb2 : ∀ a, o2 a + S1x1536.size a ≤ S280x1536.size a) (inb3 : ∀ a, o3 a + S16x1536.size a ≤ S256x1536.size a)
    (P : Vec Ideal S8x2x1536 .bf16) (L : List (View.Piece (Elt Ideal) S4480x2x1536 .bf16))
    (hoff : off = ![128 * k + 8 * n, 0, 0])
    (hP : P = pairStore (View.ld (Val := Elt Ideal) (e' := .f32) sc (Rect.unit (s := S280x1536) o2 S1x1536.size inb2))
      (v.readCov (Val := Elt Ideal) [⟨Rect.whole S256x1536, ReadAs.same.apply (View.read (Elt Ideal)
        ((Memref.whole main_arg2 : Memref sig .tc .hbm S8960x1536 .fp8e4m3).slice (Rect.unit (s := S8960x1536) o1 S256x1536.size inb1) hsl).view X3)⟩]
      (Rect.unit (s := S256x1536) o3 S16x1536.size inb3).toLoadRect))
    (h1 : o1 = ![256 * k, 0]) (h2 : o2 = ![8 * k + n / 2, 0]) (h3 : o3 = ![16 * n, 0]) (hn : n < 16)
    (hL : FillOK ((Memref.whole main_arg2 : Memref sig .tc .hbm S8960x1536 .fp8e4m3).view.read (Elt Ideal) X3) sc k n L) :
    FillOK ((Memref.whole main_arg2 : Memref sig .tc .hbm S8960x1536 .fp8e4m3).view.read (Elt Ideal) X3) sc k (n + 1) (⟨Rect.unit (s := S4480x2x1536) off S8x2x1536.size inb, P⟩ :: L) := by
  subst hoff hP
  refine ⟨⟨fill_piece _ sc k n hk hn inb _ _ (fun d => ?_) (fun r d => stage_apply v X3 k n o1 o3 inb1 hsl inb3 h1 h3 r d (by omega)), hL.1⟩, fun y ha hb => ?_⟩
  · refine View.ld_unit_apply_of (Val := Elt Ideal) sc _ _ _ _ _ fun a => ?_
    subst h2
    fin_cases a
    · rfl
    · exact (Nat.zero_add _).symm
  · by_cases hy : (y 0).val < 128 * k + 8 * n
    · obtain ⟨p, hp, hm⟩ := hL.2 y ha hy
      exact ⟨p, List.mem_cons_of_mem _ hp, hm⟩
    · refine ⟨_, List.mem_cons_self, ?_⟩
      show y ∈ (Rect.unit (s := S4480x2x1536) ![128 * k + 8 * n, 0, 0] S8x2x1536.size inb).set
      rw [Rect.mem_set_unit]
      intro a
      fin_cases a
      · change 128 * k + 8 * n ≤ (y 0).val ∧ (y 0).val < 128 * k + 8 * n + 8
        omega
      · exact ⟨Nat.zero_le _, (y 1).isLt.trans_eq (Nat.zero_add _).symm⟩
      · exact ⟨Nat.zero_le _, (y 2).isLt.trans_eq (Nat.zero_add _).symm⟩

theorem fill_trip (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (h1 : k0_cond1 i = 1#1) (k : Fin k0_t1_loop.trips)
    (X26 : BufTy.Contents (Elt Ideal) arg26.view.ty) (X3 : BufTy.Contents (Elt Ideal) (Memref.whole main_arg2 : Memref sig .tc .hbm S8960x1536 .fp8e4m3).view.ty) :
    FillOK ((Memref.whole main_arg2 : Memref sig .tc .hbm S8960x1536 .fp8e4m3).view.read (Elt Ideal) X3) (arg26.view.read (Elt Ideal) X26) k.val 16 (tripL_k0_t1 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 h1 X26 X3 k) := by
  have hk : k.val < 35 := Nat.lt_of_lt_of_le k.isLt k0_t1_abs.2.1
  unfold tripL_k0_t1 trip_k0_t1
  dsimp only
  repeat
    apply fillOK_cons (v := arg19.view) (k := k.val) (hk := hk)
    case hoff => exact (ClosedOff.eq ..).trans rfl
    case hP => rfl
    case h1 => exact (ClosedOff.eq ..).trans rfl
    case h2 => exact (ClosedOff.eq ..).trans rfl
    case h3 => rfl
    case hn => decide
  exact fillOK_nil ..

theorem piecesOf_append_wd {G : Vec Ideal S4480x2x1536 .bf16} : ∀ {L L' : List (View.Piece (Elt Ideal) S4480x2x1536 .bf16)},
    View.PiecesOf G L → View.PiecesOf G L' → View.PiecesOf G (L ++ L')
  | [], _, _, h' => h'
  | _ :: _, _, h, h' => ⟨h.1, piecesOf_append_wd h.2 h'⟩

theorem fill_pieces (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (h1 : k0_cond1 i = 1#1)
    (X26 : BufTy.Contents (Elt Ideal) arg26.view.ty) (X3 : BufTy.Contents (Elt Ideal) (Memref.whole main_arg2 : Memref sig .tc .hbm S8960x1536 .fp8e4m3).view.ty) (n : Nat) (hn : n ≤ k0_t1_loop.trips) :
    View.PiecesOf (pairedRows ((Memref.whole main_arg2 : Memref sig .tc .hbm S8960x1536 .fp8e4m3).view.read (Elt Ideal) X3) (arg26.view.read (Elt Ideal) X26)) (pb_k0_t1 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 h1 X26 X3 n) ∧
      ∀ y : S4480x2x1536.Idx, (y 0).val < 128 * n → ∃ p ∈ pb_k0_t1 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 h1 X26 X3 n, y ∈ p.1.set := by
  induction n with
  | zero => exact ⟨trivial, fun y h => absurd h (by omega)⟩
  | succ n ih =>
    have hk := fill_trip c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 h1 ⟨n, hn⟩ X26 X3
    have ih := ih (by omega)
    rw [pb_k0_t1_succ (k := ⟨n, hn⟩)]
    refine ⟨piecesOf_append_wd hk.1 ih.1, fun y hy => ?_⟩
    by_cases h : (y 0).val < 128 * n
    · obtain ⟨p, hp, hm⟩ := ih.2 y h
      exact ⟨p, List.mem_append_right _ hp, hm⟩
    · obtain ⟨p, hp, hm⟩ := hk.2 y (by change 128 * n ≤ _; omega) (by change _ < 128 * n + 8 * 16; omega)
      exact ⟨p, List.mem_append_left _ hp, hm⟩

/-- After the loop the weight scratch holds the paired rows. -/
theorem fill_held (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (h1 : k0_cond1 i = 1#1)
    (X26 : BufTy.Contents (Elt Ideal) arg26.view.ty) (X3 : BufTy.Contents (Elt Ideal) (Memref.whole main_arg2 : Memref sig .tc .hbm S8960x1536 .fp8e4m3).view.ty) :
    View.canon (pb_k0_t1 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 h1 X26 X3 k0_t1_loop.trips) = pairedRows ((Memref.whole main_arg2 : Memref sig .tc .hbm S8960x1536 .fp8e4m3).view.read (Elt Ideal) X3) (arg26.view.read (Elt Ideal) X26) := by
  funext y
  have h := fill_pieces c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 h1 X26 X3 _ le_rfl
  exact View.canon_apply_of_pieces _ _ h.1.mem y (h.2 y (lt_of_lt_of_eq (y 0).isLt (by decide +kernel)))
end Cert.KernelIdeal.Value
-- ==== Proof.Point.lean ====
module

public import proofs.«01_k».proof.Proof.WdFill
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- A block read that takes the whole buffer. -/
theorem readCov_full {sp : Space} {S : Shape} {e : EltTy} (v : View sig .tc sp S e) (L : List (View.Piece (Elt Ideal) S e)) {off : Fin S.rank → Nat}
    (h : off = fun _ => 0) (inb : ∀ a, off a + S.size a ≤ S.size a) :
    v.readCov (Val := Elt Ideal) L (Rect.unit off S.size inb).toLoadRect = View.canon L := by
  rw [View.readCov_eq_canon']
  exact View.ld_unit_zero h inb (View.canon L)

theorem readAt_full {sp : Space} {S : Shape} {e : EltTy} (m : Memref sig .tc sp S e) (hm : m.IsWhole) (X : S.Idx → Elt Ideal e) {off : Fin S.rank → Nat}
    (h : off = fun _ => 0) (inb : ∀ a, off a + S.size a ≤ S.size a) :
    View.readAt (Elt Ideal) m.view (Rect.unit off S.size inb).toLoadRect (hm.unread X) = X := by
  rw [View.readAt_eq_ld, hm.read_unread]
  exact View.ld_unit_zero h inb X

theorem hz2 : (![0, 0] : Fin 2 → Nat) = fun _ => 0 := funext fun a => by fin_cases a <;> rfl
theorem hz3 : (![0, 0, 0] : Fin 3 → Nat) = fun _ => 0 := funext fun a => by fin_cases a <;> rfl

/-- The weight scratch, from the weight codes and their scale bytes. -/
def wdOf (W : Vec Ideal S8960x1536 .fp8e4m3) (b : Vec Ideal S280x1536 .i8) : Vec Ideal S4480x2x1536 .bf16 :=
  pairedRows W (k0_pay30 b)

/-- One point's first result, from the codes, their scale bytes, the weight scratch and the residual. -/
def roOf (C : Vec Ideal S256x8960 .fp8e4m3) (b : Vec Ideal S1x280x256 .i8) (W2 : Vec Ideal S4480x2x1536 .bf16) (R : Vec Ideal S256x1536 .bf16) :
    Vec Ideal S256x1536 .bf16 :=
  k0_pay486 (scaledRows C (k0_pay485 b)) W2 R

theorem xb_read (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole)  (x0 : Vec Ideal S256x8960 .fp8e4m3) (x1 : Vec Ideal S1x280x256 .i8) (inb1 inb2 inb3) :
    arg22.view.readCov (Val := Elt Ideal) (pb_k0_t2 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 (iota Kind.tc S8x128 32 [1] iota_S8x128_d1_w32) (harg1.unread x0)
        (arg23.view.writes (Elt Ideal) arg23.view.junk
          [⟨Rect.unit (s := S256x384) ![0, 0] S256x384.size inb1, k0_pay485 (View.readAt (Elt Ideal) arg2.view (Rect.unit (s := S1x280x256) ![0, 0, 0] S1x280x256.size inb2).toLoadRect (harg2.unread x1))⟩])
        (Scf.trips (0#32) (Scalar.addi 0#32 16#32) 1#32))
      (Rect.unit (s := S256x8960) ![0, 0] S256x8960.size inb3).toLoadRect = scaledRows x0 (k0_pay485 x1) := by
  rw [readCov_full _ _ hz2]
  refine (rows_held c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 _ _).trans ?_
  rw [harg1.read_unread, View.read_writes_junk_eq_canon, View.canon_unit_zero hz2, readAt_full _ _ _ hz3]

theorem wd_canon (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole)  (hc0 : cond0_0 i) (x2 : Vec Ideal S280x1536 .i8) (fh0 : HbBuf0 (F := Ideal) c hbM0_0) (inb1 inb2) :
    View.canon (pb_k0_t1 (F := Ideal) Variants.none c none i arg1 harg1 arg2 harg2 (Memref.whole main_arg2) (Memref.isWhole_whole _) arg4 harg4 arg5 harg5 arg6 harg6 (Memref.whole main_arg6) (Memref.isWhole_whole _) arg8 harg8 arg9 harg9 arg10 harg10 arg11 harg11 arg12 harg12 arg13 harg13 arg14 harg14 arg15 harg15 arg16 harg16 arg17 harg17 arg18 harg18 arg19 harg19 arg20 harg20 cc0_scratch4 arg22 harg22 arg23 harg23 arg24 harg24 arg25 harg25 arg26 harg26 hc0
        (arg26.view.writes (Elt Ideal) arg26.view.junk
          [⟨Rect.unit (s := S280x1536) ![0, 0] S280x1536.size inb1, k0_pay30 (View.readAt (Elt Ideal) arg4.view (Rect.unit (s := S280x1536) ![0, 0] S280x1536.size inb2).toLoadRect (harg4.unread x2))⟩])
        fh0 (Scf.trips (0#32) (Scalar.addi 0#32 35#32) 1#32)) = wdOf ((Memref.whole main_arg2 : Memref sig .tc .hbm S8960x1536 .fp8e4m3).view.read (Elt Ideal) fh0) x2 := by
  refine (fill_held c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 _ _).trans ?_
  unfold wdOf
  rw [View.read_writes_junk_eq_canon, View.canon_unit_zero hz2, readAt_full _ _ _ hz2]

/-- The first result at a point after the first: from the carried weight scratch. -/
theorem ro_B (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (hc0 : ¬cond0_0 i)
    (x0 : Vec Ideal S256x8960 .fp8e4m3) (x1 : Vec Ideal S1x280x256 .i8) (x2 : Vec Ideal S280x1536 .i8) (x3 : Vec Ideal S256x1536 .bf16) (x4 : Vec Ideal S1x1536 .f32) (x5 : Vec Ideal S48x2048 .i8) (x6 : Vec Ideal S1x1x256 .i32) (x7 : Vec Ideal S1x128 .f32) (xs0 : Vec Ideal S4480x2x1536 .bf16) (xs1 : Vec Ideal S768x2x2048 .bf16) (fh0 : HbBuf0 (F := Ideal) c hbM0_0) (fh1 : HbBuf0 (F := Ideal) c hbM0_1) :
    out0_B_8 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 xs0 xs1 fh0 fh1 = roOf x0 x1 xs0 x3 := by
  unfold out0_B_8
  rw [View.read_writes_eq_canon _ _ _ (cover0_B_8 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 xs0 xs1 fh0 fh1)]
  unfold kernelRun0_B
  dsimp only
  sl_unfold_words
  refine (View.canon_unit_zero hz2 _ _).trans ?_
  unfold roOf
  exact congr (congr (congrArg _ (xb_read c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 x0 x1 _ _ _)) (readAt_full _ _ _ hz3 _)) (readAt_full _ _ _ hz2 _)

/-- The first result at the first point: from the weight scratch it fills. -/
theorem ro_A (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (hc0 : cond0_0 i)
    (x0 : Vec Ideal S256x8960 .fp8e4m3) (x1 : Vec Ideal S1x280x256 .i8) (x2 : Vec Ideal S280x1536 .i8) (x3 : Vec Ideal S256x1536 .bf16) (x4 : Vec Ideal S1x1536 .f32) (x5 : Vec Ideal S48x2048 .i8) (x6 : Vec Ideal S1x1x256 .i32) (x7 : Vec Ideal S1x128 .f32) (fh0 : HbBuf0 (F := Ideal) c hbM0_0) (fh1 : HbBuf0 (F := Ideal) c hbM0_1) :
    out0_A_8 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 fh0 fh1 = roOf x0 x1 (wdOf ((Memref.whole main_arg2 : Memref sig .tc .hbm S8960x1536 .fp8e4m3).view.read (Elt Ideal) fh0) x2) x3 := by
  unfold out0_A_8
  rw [View.read_writes_eq_canon _ _ _ (cover0_A_8 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 fh0 fh1)]
  unfold kernelRun0_A
  dsimp only
  sl_unfold_words
  refine (View.canon_unit_zero hz2 _ _).trans ?_
  unfold roOf
  exact congr (congr (congrArg _ (xb_read c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 x0 x1 _ _ _)) ((readCov_full _ _ hz3 _).trans (wd_canon c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x2 fh0 _ _))) (readAt_full _ _ _ hz2 _)

/-- The weight scratch the first point leaves. -/
theorem wd_A (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (hc0 : cond0_0 i)
    (x0 : Vec Ideal S256x8960 .fp8e4m3) (x1 : Vec Ideal S1x280x256 .i8) (x2 : Vec Ideal S280x1536 .i8) (x3 : Vec Ideal S256x1536 .bf16) (x4 : Vec Ideal S1x1536 .f32) (x5 : Vec Ideal S48x2048 .i8) (x6 : Vec Ideal S1x1x256 .i32) (x7 : Vec Ideal S1x128 .f32) (fh0 : HbBuf0 (F := Ideal) c hbM0_0) (fh1 : HbBuf0 (F := Ideal) c hbM0_1) :
    sout0_A_0 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 fh0 fh1 = wdOf ((Memref.whole main_arg2 : Memref sig .tc .hbm S8960x1536 .fp8e4m3).view.read (Elt Ideal) fh0) x2 := by
  unfold sout0_A_0
  rw [View.read_writes_junk_eq_canon]
  unfold kernelRun0_A
  dsimp only
  sl_unfold_words
  exact wd_canon c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x2 fh0 _ _
end Cert.KernelIdeal.Value
-- ==== Proof.Residual.lean ====
module

public import proofs.«01_k».proof.Proof.Point
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- The number a scale byte stands for, as the kernel decodes it: the byte is the exponent field of a single-precision word. -/
def dec (b : BitVec 8) : EReal := Ideal.ofBits FTy.f32 (IntOp.shli ArithUnit.vector (BitVec.setWidth 32 b) 23#32)

/-- The residual result, of the arguments: the residual plus the product of the decoded codes. -/
def RES (x0 : Vec Ideal S16x768x8960 .fp8e4m3) (x1 : Vec Ideal S16x768x280 .i8) (x2 : Vec Ideal S8960x1536 .fp8e4m3) (x3 : Vec Ideal S280x1536 .i8)
    (x4 : Vec Ideal S16x768x1536 .bf16) : Vec Ideal S16x768x1536 .bf16 := fun j =>
  (x4 j + ∑ x : Fin 8960, x0 (ix3 (j 0) (j 1) x) * dec (x1 (ix3 (j 0) (j 1) (⟨x.val / 32, by omega⟩ : Fin 280)))
    * (x2 (ix2 x (j 2)) * dec (x3 (ix2 (⟨x.val / 32, by omega⟩ : Fin 280) (j 2)))) : EReal)

theorem scaledRows_at (C : Vec Ideal S256x8960 .fp8e4m3) (b : Vec Ideal S1x280x256 .i8) (p : Fin 256) (x : Fin 8960) :
    (scaledRows C (k0_pay485 b) (ix2 p x) : EReal) = C (ix2 p x) * dec (b (ix3 (0 : Fin 1) (⟨x.val / 32, by omega⟩ : Fin 280) p)) := by
  show (C (ix2 p x) : EReal) * k0_pay485 b (ix2 p (⟨x.val / 32, by omega⟩ : Fin 384)) = _
  have h : (k0_pay485 b (ix2 p (⟨x.val / 32, by omega⟩ : Fin 384)) : EReal) = dec (b (ix3 (0 : Fin 1) (⟨x.val / 32, by omega⟩ : Fin 280) p)) := by
    pointwise [k0_pay485]
    rw [dif_pos (by omega)]
    rfl
  rw [h]

theorem wdOf_at (W : Vec Ideal S8960x1536 .fp8e4m3) (sc : Vec Ideal S280x1536 .i8) (k : Fin 4480) (r : Fin 2) (d : Fin 1536) :
    (wdOf W sc (ix3 k r d) : EReal) = W (ix2 (⟨2 * k.val + r.val, by omega⟩ : Fin 8960) d) * dec (sc (ix2 (⟨k.val / 16, by omega⟩ : Fin 280) d)) := by
  show (W (ix2 (⟨2 * k.val + r.val, by omega⟩ : Fin 8960) d) : EReal) * k0_pay30 sc (ix2 (⟨k.val / 16, by omega⟩ : Fin 280) d) = _
  have h : (k0_pay30 sc (ix2 (⟨k.val / 16, by omega⟩ : Fin 280) d) : EReal) = dec (sc (ix2 (⟨k.val / 16, by omega⟩ : Fin 280) d)) := by
    pointwise [k0_pay30]
    rfl
  rw [h]

/-- One entry of a point's block. -/
theorem roOf_at (C : Vec Ideal S256x8960 .fp8e4m3) (b : Vec Ideal S1x280x256 .i8) (W : Vec Ideal S8960x1536 .fp8e4m3) (sc : Vec Ideal S280x1536 .i8)
    (R : Vec Ideal S256x1536 .bf16) (p : Fin 256) (d : Fin 1536) :
    (roOf C b (wdOf W sc) R (ix2 p d) : EReal) = R (ix2 p d) + ∑ x : Fin 8960, C (ix2 p x) * dec (b (ix3 (0 : Fin 1) (⟨x.val / 32, by omega⟩ : Fin 280) p))
      * (W (ix2 x d) * dec (sc (ix2 (⟨x.val / 32, by omega⟩ : Fin 280) d))) := by
  unfold roOf
  generalize hX : scaledRows C (k0_pay485 b) = X
  generalize hW : wdOf W sc = W2
  pointwise [k0_pay486]
  congr 1
  refine Finset.sum_congr rfl fun x _ => ?_
  subst hX hW
  have e : (if x.val % 2 = 0 then wdOf W sc (ix3 (⟨x.val / 2, by omega⟩ : Fin 4480) (0 : Fin 2) d) else wdOf W sc (ix3 (⟨x.val / 2, by omega⟩ : Fin 4480) (1 : Fin 2) d) : EReal)
      = W (ix2 x d) * dec (sc (ix2 (⟨x.val / 32, by omega⟩ : Fin 280) d)) := by
    have hs : x.val / 2 / 16 = x.val / 32 := by omega
    split
    · rw [wdOf_at]
      congr 4
      · show 2 * (x.val / 2) + 0 = x.val; omega
      · apply Fin.ext; exact hs
    · rw [wdOf_at]
      congr 4
      · show 2 * (x.val / 2) + 1 = x.val; omega
      · apply Fin.ext; exact hs
  exact congrArg₂ (fun a b : EReal => a * b) (scaledRows_at C b p x) e
end Cert.KernelIdeal.Value
-- ==== Proof.Result.lean ====
module

public import proofs.«01_k».proof.Proof.Point
public import proofs.«01_k».proof.Proof.Gen.KernelIdeal.Frame
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

/-- The weight codes as the region finds them. -/
def wdCodes (c : Dev nD) : Vec Ideal S8960x1536 .fp8e4m3 :=
  (Memref.whole main_arg2 : Memref sig .tc .hbm S8960x1536 .fp8e4m3).view.read (Elt Ideal) (V m c main_arg2)

/-- Every point finds (and leaves) the same weight scratch. -/
theorem wd_at (c : Dev nD) : ∀ (n : ℕ) (hn : n < cfg0.N),
    (outsAt0 m c n hn).2.2.2.2.2.2.1 = wdOf (wdCodes m c) (iblk m c 2 ⟨0, Nat.lt_of_le_of_lt (Nat.zero_le n) hn⟩)
  | 0, hn => by
    rw [outsAt0_A m c ⟨0, hn⟩ (Nat.zero_mod _)]
    exact wd_A ..
  | n + 1, hn => by
    have hN : n + 1 < 48 := hn
    have h0 : ¬ (n + 1) % 48 = 0 := by omega
    rw [outsAt0_B m c ⟨n + 1, hn⟩ h0]
    exact wd_at c n (Nat.lt_of_succ_lt hn)

set_option maxHeartbeats 800000 in
/-- The first result's block at every point. -/
theorem ro_at (c : Dev nD) (t : Fin cfg0.N) :
    (outsAt0 m c t.val t.isLt).1
      = roOf (iblk m c 0 t) (iblk m c 1 t) (wdOf (wdCodes m c) (iblk m c 2 ⟨0, Nat.lt_of_le_of_lt (Nat.zero_le _) t.isLt⟩)) (iblk m c 3 t) := by
  by_cases h0 : t.val % 48 = 0
  · have ht : t = ⟨0, Nat.lt_of_le_of_lt (Nat.zero_le _) t.isLt⟩ := by
      apply Fin.ext
      have : t.val < 48 := t.isLt
      show t.val = 0
      omega
    rw [← ht]
    refine (congrArg Prod.fst (outsAt0_A m c t h0)).trans ?_
    dsimp only
    refine (ro_A ..).trans ?_
    unfold wdCodes
    rfl
  · refine (congrArg Prod.fst (outsAt0_B m c t h0)).trans ?_
    dsimp only
    refine (ro_B ..).trans ?_
    exact congrArg (fun W => roOf (iblk m c 0 t) (iblk m c 1 t) W (iblk m c 3 t)) (wd_at m c _ _)
end Cert.KernelIdeal.Value
-- ==== Proof.KernelResidual.lean ====
module

public import proofs.«01_k».proof.Proof.Residual
public import proofs.«01_k».proof.Proof.Result
public import Idealize.ShloMosaic.Lib.Claim
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

/-- The windows' block indices at every grid point. -/
theorem idx : ∀ t : Fin cfg0.N, win0_0.index t = ![t.val, 0] ∧ win0_1.index t = ![t.val / 3, 0, t.val % 3] ∧ win0_2.index t = ![0, 0]
    ∧ win0_3.index t = ![t.val, 0] ∧ win0_8.index t = ![t.val, 0] ∧ t.val < 48 := (by decide +kernel : ∀ t : Fin grid0.N, _)

theorem cast_h (X : Vec Ideal S16x768x8960 .fp8e4m3) (b : Fin 16) (s : Fin 768) (x : Fin 8960) (r : Fin 12288) (h : 768 * b.val + s.val = r.val) :
    shapeCast S12288x8960 X shapeCasts_S16x768x8960_S12288x8960 (ix2 r x) = X (ix3 b s x) := by
  refine shapeCast_apply X _ _ _ ?_
  refine (Shape.rowMajor_val_three _).trans (Eq.trans ?_ (Shape.rowMajor_val_two _).symm)
  show (b.val * 768 + s.val) * 8960 + x.val = r.val * 8960 + x.val
  rw [← h, Nat.mul_comm 768]
theorem cast_r (X : Vec Ideal S16x768x1536 .bf16) (b : Fin 16) (s : Fin 768) (x : Fin 1536) (r : Fin 12288) (h : 768 * b.val + s.val = r.val) :
    shapeCast S12288x1536 X shapeCasts_S16x768x1536_S12288x1536 (ix2 r x) = X (ix3 b s x) := by
  refine shapeCast_apply X _ _ _ ?_
  refine (Shape.rowMajor_val_three _).trans (Eq.trans ?_ (Shape.rowMajor_val_two _).symm)
  show (b.val * 768 + s.val) * 1536 + x.val = r.val * 1536 + x.val
  rw [← h, Nat.mul_comm 768]

/-- Splitting the merged axis again. -/
theorem cast_back (G : Vec Ideal S16x768x1536 .bf16) :
    shapeCast S16x768x1536 (fun j : S12288x1536.Idx => G (ix3 (⟨(j 0).val / 768, by have := (j 0).isLt; have e : S12288x1536.size 0 = 12288 := rfl; omega⟩ : Fin 16)
      (⟨(j 0).val % 768, Nat.mod_lt _ (by decide)⟩ : Fin 768) (j 1))) shapeCasts_S12288x1536_S16x768x1536 = G := by
  funext j
  have hj : j = ix3 (j 0 : Fin 16) (j 1 : Fin 768) (j 2 : Fin 1536) := by
    funext a; fin_cases a <;> rfl
  have h0 : (j 0).val < 16 := (j 0).isLt
  have h1 : (j 1).val < 768 := (j 1).isLt
  have hk : (768 * (j 0).val + (j 1).val) < 12288 := by omega
  refine (shapeCast_apply _ _ j (ix2 (⟨768 * (j 0).val + (j 1).val, hk⟩ : Fin 12288) (j 2 : Fin 1536)) ?_).trans ?_
  · refine (Shape.rowMajor_val_two _).trans (Eq.trans ?_ (Shape.rowMajor_val_three _).symm)
    show (768 * (j 0).val + (j 1).val) * 1536 + (j 2).val = ((j 0).val * 768 + (j 1).val) * 1536 + (j 2).val
    rw [Nat.mul_comm 768]
  · refine congrArg G (Eq.trans ?_ hj.symm)
    have a0 : (⟨(768 * (j 0).val + (j 1).val) / 768, by omega⟩ : Fin 16) = j 0 := Fin.ext (by show (768 * (j 0).val + (j 1).val) / 768 = (j 0).val; omega)
    have a1 : (⟨(768 * (j 0).val + (j 1).val) % 768, Nat.mod_lt _ (by decide)⟩ : Fin 768) = j 1 := Fin.ext (by show (768 * (j 0).val + (j 1).val) % 768 = (j 1).val; omega)
    exact congr (congr (congrArg ix3 a0) a1) rfl

/-- What the host lines before the call leave in the windows' arrays. -/
theorem V_v14 (c : Dev nD) : (V m c main_v14 : Vec Ideal S12288x8960 .fp8e4m3)
    = shapeCast S12288x8960 (m ((c : Thread nD τ).loc main_arg0) : Vec Ideal S16x768x8960 .fp8e4m3) shapeCasts_S16x768x8960_S12288x8960 := by
  entry_read
  rfl
theorem V_v15 (c : Dev nD) : (V m c main_v15 : Vec Ideal S16x280x768 .i8)
    = transpose S16x280x768 [0, 2, 1] (m ((c : Thread nD τ).loc main_arg1) : Vec Ideal S16x768x280 .i8) transposes_S16x768x280_S16x280x768_0_2_1 := by
  rfl
theorem V_v16 (c : Dev nD) : (V m c main_v16 : Vec Ideal S12288x1536 .bf16)
    = shapeCast S12288x1536 (m ((c : Thread nD τ).loc main_arg4) : Vec Ideal S16x768x1536 .bf16) shapeCasts_S16x768x1536_S12288x1536 := by
  entry_read
  rfl

/-- One entry of the first window's block: the codes. -/
theorem blk0_at (c : Dev nD) (t : Fin cfg0.N) (p : Fin 256) (x : Fin 8960) (b : Fin 16) (s : Fin 768) (h : 768 * b.val + s.val = 256 * t.val + p.val) :
    (iblk m c 0 t : Vec Ideal S256x8960 .fp8e4m3) (ix2 p x) = (m ((c : Thread nD τ).loc main_arg0) : Vec Ideal S16x768x8960 .fp8e4m3) (ix3 b s x) := by
  have ei : ((cfg0.win 0).blk t).view.emb (ix2 p x) = (ix2 (⟨256 * t.val + p.val, by have := t.isLt; have h48 : cfg0.N = 48 := rfl; omega⟩ : Fin 12288) x) := by blk_ext [idx t]
  have e : (iblk m c 0 t : Vec Ideal _ _) (ix2 p x) = V m c main_v14 (((cfg0.win 0).blk t).view.emb (ix2 p x)) := rfl
  refine e.trans ?_
  rw [ei, V_v14]
  exact cast_h _ b s x _ h

theorem blk1_at (c : Dev nD) (t : Fin cfg0.N) (k : Fin 280) (p : Fin 256) (b : Fin 16) (s : Fin 768) (h : 768 * b.val + s.val = 256 * t.val + p.val) :
    (iblk m c 1 t : Vec Ideal S1x280x256 .i8) (ix3 (0 : Fin 1) k p) = (m ((c : Thread nD τ).loc main_arg1) : Vec Ideal S16x768x280 .i8) (ix3 b s k) := by
  have ei : ((cfg0.win 1).blk t).view.emb (ix3 (0 : Fin 1) k p) = (ix3 b k s) := by blk_ext [idx t]
  have e : (iblk m c 1 t : Vec Ideal _ _) (ix3 (0 : Fin 1) k p) = V m c main_v15 (((cfg0.win 1).blk t).view.emb (ix3 (0 : Fin 1) k p)) := rfl
  refine e.trans ?_
  rw [ei, V_v15]
  pointwise

theorem blk2_eq (c : Dev nD) (t : Fin cfg0.N) :
    (iblk m c 2 t : Vec Ideal S280x1536 .i8) = m ((c : Thread nD τ).loc main_arg3) := by
  blk_ext! [iblk, V, idx t]

theorem blk3_at (c : Dev nD) (t : Fin cfg0.N) (p : Fin 256) (x : Fin 1536) (b : Fin 16) (s : Fin 768) (h : 768 * b.val + s.val = 256 * t.val + p.val) :
    (iblk m c 3 t : Vec Ideal S256x1536 .bf16) (ix2 p x) = (m ((c : Thread nD τ).loc main_arg4) : Vec Ideal S16x768x1536 .bf16) (ix3 b s x) := by
  have ei : ((cfg0.win 3).blk t).view.emb (ix2 p x) = (ix2 (⟨256 * t.val + p.val, by have := t.isLt; have h48 : cfg0.N = 48 := rfl; omega⟩ : Fin 12288) x) := by blk_ext [idx t]
  have e : (iblk m c 3 t : Vec Ideal _ _) (ix2 p x) = V m c main_v16 (((cfg0.win 3).blk t).view.emb (ix2 p x)) := rfl
  refine e.trans ?_
  rw [ei, V_v16]
  exact cast_r _ b s x _ h

theorem codes_eq (c : Dev nD) : wdCodes m c = m ((c : Thread nD τ).loc main_arg2) := by
  unfold wdCodes
  rw [V_main_arg2]
  rfl

/-- One entry of the block a point writes. -/
theorem ro_point (c : Dev nD) (t : Fin cfg0.N) (p : Fin 256) (d : Fin 1536) (b : Fin 16) (s : Fin 768) (h : 768 * b.val + s.val = 256 * t.val + p.val) :
    ((outsAt0 m c t.val t.isLt).1 (ix2 p d) : EReal)
      = RES (m ((c : Thread nD τ).loc main_arg0)) (m ((c : Thread nD τ).loc main_arg1)) (m ((c : Thread nD τ).loc main_arg2))
          (m ((c : Thread nD τ).loc main_arg3)) (m ((c : Thread nD τ).loc main_arg4)) (ix3 b s d) := by
  rw [ro_at, blk2_eq, codes_eq]
  refine (roOf_at _ _ _ _ _ p d).trans ?_
  refine congrArg₂ (fun a z : EReal => a + z) (blk3_at m c t p d b s h) (Finset.sum_congr rfl fun x _ => ?_)
  rw [blk0_at m c t p x b s h, blk1_at m c t _ p b s h]
  rfl

/-- The array the call leaves: the residual result, its two leading axes merged. -/
theorem final8 (c : Dev nD) : (dats m 0 c).arrAt 8 cfg0.N = (fun j : S12288x1536.Idx =>
      RES (m ((c : Thread nD τ).loc main_arg0)) (m ((c : Thread nD τ).loc main_arg1)) (m ((c : Thread nD τ).loc main_arg2))
          (m ((c : Thread nD τ).loc main_arg3)) (m ((c : Thread nD τ).loc main_arg4))
          (ix3 (⟨(j 0).val / 768, by have := (j 0).isLt; have e : S12288x1536.size 0 = 12288 := rfl; omega⟩ : Fin 16) (⟨(j 0).val % 768, Nat.mod_lt _ (by decide)⟩ : Fin 768) (j 1))) := by
  refine (dats m 0 c).arrAt_eq_of_covers 8 _ (by decide +kernel) fun t hf y => ?_
  blk_simp
  rw [after0_8]
  have hN : t.val < 48 := t.isLt
  have hy : y = (ix2 (y 0 : Fin 256) (y 1 : Fin 1536) : S256x1536.Idx) := by
    funext a; fin_cases a <;> rfl
  have h0 : win0_8.index t 0 = t.val := by rw [(idx t).2.2.2.2.1]; rfl
  have hp : (y 0).val < 256 := (y 0).isLt
  refine (congrArg (outsAt0 m c t.val _).1 hy).trans ?_
  refine (ro_point m c t (y 0) (y 1) (⟨(t.val * 256 + (y 0).val) / 768, by omega⟩ : Fin 16) (⟨(t.val * 256 + (y 0).val) % 768, Nat.mod_lt _ (by decide)⟩ : Fin 768)
    (by show 768 * ((t.val * 256 + (y 0).val) / 768) + (t.val * 256 + (y 0).val) % 768 = 256 * t.val + (y 0).val; omega)).trans ?_
  blk_ext [idx t]

/-- The program's first result. -/
theorem tail19 (c : Dev nD) : Pipeline.afterTail₀ cfgs (dats m) 0 (V0 m) [hostOps1] c main_v19
    = RES (m ((c : Thread nD τ).loc main_arg0)) (m ((c : Thread nD τ).loc main_arg1)) (m ((c : Thread nD τ).loc main_arg2))
          (m ((c : Thread nD τ).loc main_arg3)) (m ((c : Thread nD τ).loc main_arg4)) := by
  have hw : Pipeline.withArrays spec0 c (V0 m c) (fun w => (dats m 0 c).arrAt w cfg0.N) (Proc.devRef .tc main_v18_0) = (dats m 0 c).arrAt 8 cfg0.N :=
    Pipeline.withArrays_arr spec0 (by decide) c (V0 m c) (fun w => (dats m 0 c).arrAt w cfg0.N) 8
  have hr : Pipeline.afterTail₀ cfgs (dats m) 0 (V0 m) [hostOps1] c main_v19
      = shapeCast S16x768x1536 (Pipeline.withArrays spec0 c (V0 m c) (fun w => (dats m 0 c).arrAt w cfg0.N) (Proc.devRef .tc main_v18_0) : Vec Ideal S12288x1536 .bf16)
          shapeCasts_S12288x1536_S16x768x1536 := by
    rfl
  rw [hr, hw, final8]
  exact cast_back _
end Cert.KernelIdeal.Value
-- ==== Proof.Reference.lean ====
module

public import proofs.«01_k».proof.Proof.Gen.ReferenceIdeal.Frame
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ReferenceIdeal.Value
open Cert.ReferenceIdeal Cert.ReferenceIdeal.Gen

variable (m : (ℓ : Loc nD τ sig) → Buf (Elt Ideal) ℓ)

/-- Every window of the one grid point is its whole array. -/
theorem idx : ∀ t : Fin cfg0.N, win0_0.index t = ![0, 0, 0] ∧ win0_1.index t = ![0, 0, 0] ∧ win0_2.index t = ![0, 0] ∧ win0_3.index t = ![0, 0]
    ∧ win0_4.index t = ![0, 0, 0] ∧ win0_5.index t = ![0] := (by decide +kernel : ∀ t : Fin grid0.N, _)

theorem blk0 (c : Dev nD) (t : Fin cfg0.N) : (iblk m c 0 t : Vec Ideal S16x768x8960 .fp8e4m3) = m ((c : Thread nD τ).loc main_arg0) := by
  blk_ext! [iblk, V, idx t]
theorem blk1 (c : Dev nD) (t : Fin cfg0.N) : (iblk m c 1 t : Vec Ideal S16x768x280 .i8) = m ((c : Thread nD τ).loc main_arg1) := by
  blk_ext! [iblk, V, idx t]
theorem blk2 (c : Dev nD) (t : Fin cfg0.N) : (iblk m c 2 t : Vec Ideal S8960x1536 .fp8e4m3) = m ((c : Thread nD τ).loc main_arg2) := by
  blk_ext! [iblk, V, idx t]
theorem blk3 (c : Dev nD) (t : Fin cfg0.N) : (iblk m c 3 t : Vec Ideal S280x1536 .i8) = m ((c : Thread nD τ).loc main_arg3) := by
  blk_ext! [iblk, V, idx t]
theorem blk4 (c : Dev nD) (t : Fin cfg0.N) : (iblk m c 4 t : Vec Ideal S16x768x1536 .bf16) = m ((c : Thread nD τ).loc main_arg4) := by
  blk_ext! [iblk, V, idx t]

theorem blk5 (c : Dev nD) (t : Fin cfg0.N) : (iblk m c 5 t : Vec Ideal S1536 .f32) = m ((c : Thread nD τ).loc main_arg5) := by
  blk_ext! [iblk, V, idx t]

/-- The reference's first result, over its arguments. -/
theorem final10 (c : Dev nD) : (dats m 0 c).arrAt 10 cfg0.N
    = k0_pay5 (m ((c : Thread nD τ).loc main_arg0) : Vec Ideal S16x768x8960 .fp8e4m3) (m ((c : Thread nD τ).loc main_arg1)) (m ((c : Thread nD τ).loc main_arg2))
        (m ((c : Thread nD τ).loc main_arg3)) (m ((c : Thread nD τ).loc main_arg4)) := by
  refine (dats m 0 c).arrAt_eq_of_after_last 10 t0_0 (by decide +kernel) _ fun j => ?_
  blk_simp
  rw [after0_10]
  frame_out
  rw [blk0, blk1, blk2, blk3, blk4]

theorem rows_split (x0 : Vec Ideal S16x768x8960 .fp8e4m3) (x1 : Vec Ideal S16x768x280 .i8) (x2 : Vec Ideal S8960x1536 .fp8e4m3) (x3 : Vec Ideal S280x1536 .i8) (x4 : Vec Ideal S16x768x1536 .bf16) (x5 : Vec Ideal S1536 .f32) (x6 : Vec Ideal S1536x2048 .fp8e4m3) (x7 : Vec Ideal S48x2048 .i8) (x8 : Vec Ideal S16x768 .i32) (x9 : Vec Ideal S64 .f32) : k0_pay19 x0 x1 x2 x3 x4 x5 x6 x7 x8 x9 = k0_pay6 x0 x1 x2 x3 x4 := by
  unfold k0_pay19
  simp (disch := decide) only [View.ld_unit_lit']
theorem means_split (x0 : Vec Ideal S16x768x8960 .fp8e4m3) (x1 : Vec Ideal S16x768x280 .i8) (x2 : Vec Ideal S8960x1536 .fp8e4m3) (x3 : Vec Ideal S280x1536 .i8) (x4 : Vec Ideal S16x768x1536 .bf16) (x5 : Vec Ideal S1536 .f32) (x6 : Vec Ideal S1536x2048 .fp8e4m3) (x7 : Vec Ideal S48x2048 .i8) (x8 : Vec Ideal S16x768 .i32) (x9 : Vec Ideal S64 .f32) : k0_pay20 x0 x1 x2 x3 x4 x5 x6 x7 x8 x9 = k0_pay7 x0 x1 x2 x3 x4 := by
  unfold k0_pay20
  simp (disch := decide) only [View.ld_unit_lit']
theorem codes_split (x0 : Vec Ideal S16x768x8960 .fp8e4m3) (x1 : Vec Ideal S16x768x280 .i8) (x2 : Vec Ideal S8960x1536 .fp8e4m3) (x3 : Vec Ideal S280x1536 .i8) (x4 : Vec Ideal S16x768x1536 .bf16) (x5 : Vec Ideal S1536 .f32) (x6 : Vec Ideal S1536x2048 .fp8e4m3) (x7 : Vec Ideal S48x2048 .i8) (x8 : Vec Ideal S16x768 .i32) (x9 : Vec Ideal S64 .f32) : k0_pay21 x0 x1 x2 x3 x4 x5 x6 x7 x8 x9 = k0_pay10 (k0_pay6 x0 x1 x2 x3 x4) (k0_pay7 x0 x1 x2 x3 x4) x5 := by
  unfold k0_pay21
  rw [rows_split, means_split]
  simp (disch := decide) only [View.ld_unit_lit']
theorem bytes_split (x0 : Vec Ideal S16x768x8960 .fp8e4m3) (x1 : Vec Ideal S16x768x280 .i8) (x2 : Vec Ideal S8960x1536 .fp8e4m3) (x3 : Vec Ideal S280x1536 .i8) (x4 : Vec Ideal S16x768x1536 .bf16) (x5 : Vec Ideal S1536 .f32) (x6 : Vec Ideal S1536x2048 .fp8e4m3) (x7 : Vec Ideal S48x2048 .i8) (x8 : Vec Ideal S16x768 .i32) (x9 : Vec Ideal S64 .f32) : k0_pay22 x0 x1 x2 x3 x4 x5 x6 x7 x8 x9 = k0_pay11 (k0_pay6 x0 x1 x2 x3 x4) (k0_pay7 x0 x1 x2 x3 x4) x5 := by
  unfold k0_pay22
  rw [rows_split, means_split]
  simp (disch := decide) only [View.ld_unit_lit']

/-- The reference's codes, over its arguments. -/
theorem final14 (c : Dev nD) : (dats m 0 c).arrAt 14 cfg0.N
    = k0_pay10 (k0_pay6 (m ((c : Thread nD τ).loc main_arg0) : Vec Ideal S16x768x8960 .fp8e4m3) (m ((c : Thread nD τ).loc main_arg1)) (m ((c : Thread nD τ).loc main_arg2))
        (m ((c : Thread nD τ).loc main_arg3)) (m ((c : Thread nD τ).loc main_arg4))) (k0_pay7 (m ((c : Thread nD τ).loc main_arg0) : Vec Ideal S16x768x8960 .fp8e4m3) (m ((c : Thread nD τ).loc main_arg1)) (m ((c : Thread nD τ).loc main_arg2))
        (m ((c : Thread nD τ).loc main_arg3)) (m ((c : Thread nD τ).loc main_arg4)))
        (m ((c : Thread nD τ).loc main_arg5) : Vec Ideal S1536 .f32) := by
  refine (dats m 0 c).arrAt_eq_of_after_last 14 t0_0 (by decide +kernel) _ fun j => ?_
  blk_simp
  rw [after0_14]
  frame_out
  rw [blk0, blk1, blk2, blk3, blk4, blk5]
  rw [codes_split]

/-- The reference's scale bytes, over its arguments. -/
theorem final15 (c : Dev nD) : (dats m 0 c).arrAt 15 cfg0.N
    = k0_pay12 (k0_pay11 (k0_pay6 (m ((c : Thread nD τ).loc main_arg0) : Vec Ideal S16x768x8960 .fp8e4m3) (m ((c : Thread nD τ).loc main_arg1)) (m ((c : Thread nD τ).loc main_arg2))
        (m ((c : Thread nD τ).loc main_arg3)) (m ((c : Thread nD τ).loc main_arg4))) (k0_pay7 (m ((c : Thread nD τ).loc main_arg0) : Vec Ideal S16x768x8960 .fp8e4m3) (m ((c : Thread nD τ).loc main_arg1)) (m ((c : Thread nD τ).loc main_arg2))
        (m ((c : Thread nD τ).loc main_arg3)) (m ((c : Thread nD τ).loc main_arg4)))
        (m ((c : Thread nD τ).loc main_arg5) : Vec Ideal S1536 .f32)) := by
  refine (dats m 0 c).arrAt_eq_of_after_last 15 t0_0 (by decide +kernel) _ fun j => ?_
  blk_simp
  rw [after0_15]
  frame_out
  rw [blk0, blk1, blk2, blk3, blk4, blk5]
  rw [bytes_split]
end Cert.ReferenceIdeal.Value
-- ==== Proof.Quant.lean ====
module

public import proofs.«01_k».proof.Proof.Point
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- One step of the search for a biased exponent: the bit is kept when the power of two it makes is not above the number. -/
def tryBit (y : FVec Ideal S256x128 .f32) (s : BitVec 32) (b : IVec S256x128 32) : IVec S256x128 32 :=
  select (cmpf .oge y (bitcastToFloat .f32 (shli (addi b (broadcast S256x128 s)) (broadcast S256x128 23#32)))) (addi b (broadcast S256x128 s)) b

/-- The biased exponents of a chunk's numbers, zero's being 126. -/
def biased (y : FVec Ideal S256x128 .f32) : IVec S256x128 32 :=
  select (cmpi .eq (tryBit y 1#32 (tryBit y 2#32 (tryBit y 4#32 (tryBit y 8#32 (tryBit y 16#32 (tryBit y 32#32 (tryBit y 64#32 (tryBit y 128#32 (broadcast S256x128 0#32)))))))))
    (broadcast S256x128 0#32)) (broadcast S256x128 126#32)
    (tryBit y 1#32 (tryBit y 2#32 (tryBit y 4#32 (tryBit y 8#32 (tryBit y 16#32 (tryBit y 32#32 (tryBit y 64#32 (tryBit y 128#32 (broadcast S256x128 0#32)))))))))

/-- One doubling of the maximum's window. -/
def wider (s : BitVec 32) (a : FVec Ideal S256x128 .f32) : FVec Ideal S256x128 .f32 :=
  maximumf a (dynamicRotate 1 s none a rotates_S256x128_d1)

/-- The largest size among the 32 numbers from each lane on, over 448. -/
def sizes (xv : FVec Ideal S256x128 .f32) : FVec Ideal S256x128 .f32 :=
  mulf (wider 112#32 (wider 120#32 (wider 124#32 (wider 126#32 (wider 127#32 (absf xv)))))) (broadcast S256x128 (Scalar.ofBits .f32 0x3B124925#32))

abbrev lanes2 : IVec S256x128 32 := iota Kind.tc S256x128 32 [1] iota_S256x128_d1_w32

/-- The codes of one chunk of 128 columns. -/
def codeOf (xv : FVec Ideal S256x128 .f32) (LN : IVec S256x128 32) : FVec Ideal S256x128 .fp8e4m3 :=
  k0_pay501 xv (biased (sizes xv)) (k0_pay498 LN) (k0_pay499 LN)

/-- The codes of one chunk, scaled back. -/
def backOf (xv : FVec Ideal S256x128 .f32) (LN : IVec S256x128 32) : FVec Ideal S256x128 .bf16 :=
  k0_pay502 xv (biased (sizes xv)) (k0_pay498 LN) (k0_pay499 LN)

/-- The columns `128 v .. 128 v + 127`. -/
def chunk (X : FVec Ideal S256x1536 .f32) (v : Fin 12) : FVec Ideal S256x128 .f32 :=
  fun y => X (ix2 (y 0) (⟨128 * v.val + (y 1).val, by have h : (y 1).val < 128 := (y 1).isLt; omega⟩ : Fin 1536))

theorem chunk_slice (X : FVec Ideal S256x1536 .f32) (v : Fin 12) (h) : extractStridedSlice S256x128 ![0, 128 * v.val] X h = chunk X v := by
  funext y
  refine congrArg X ?_
  funext a
  apply Fin.ext
  fin_cases a
  · show 0 + (y 0).val = (y 0).val; omega
  · rfl

theorem code_11 (X : FVec Ideal S256x1536 .f32) (LN : IVec S256x128 32) :
    k0_pay675 (k0_pay666 X) (k0_pay672 (k0_pay667 X) (k0_pay670 (k0_pay667 X) (k0_pay668 X) (k0_pay669 X) 23#32) (k0_pay671 (k0_pay667 X) (k0_pay668 X) (k0_pay669 X) 23#32) 23#32) (k0_pay673 LN) = codeOf (chunk X 11) LN := by
  rw [← chunk_slice _ 11 slices_S256x1536_o0_1408_S256x128]
  rfl

theorem code_10 (X : FVec Ideal S256x1536 .f32) (LN : IVec S256x128 32) :
    k0_pay658 LN (k0_pay650 X) (k0_pay654 (k0_pay652 (k0_pay651 X)) (k0_pay653 (k0_pay651 X)) 8#32) (32#32) (k0_pay655 LN) (k0_pay656 LN) = codeOf (chunk X 10) LN := by
  rw [← chunk_slice _ 10 slices_S256x1536_o0_1280_S256x128]
  rfl

theorem code_9 (X : FVec Ideal S256x1536 .f32) (LN : IVec S256x128 32) :
    k0_pay644 (k0_pay631 X) (k0_pay639 (k0_pay632 X) (k0_pay636 (k0_pay632 X) (k0_pay633 X) (k0_pay634 X) k0_pay635) (k0_pay637 (k0_pay632 X) (k0_pay633 X) (k0_pay634 X) k0_pay635) k0_pay638) (k0_pay640 LN) (k0_pay641 LN) (k0_pay642 LN) = codeOf (chunk X 9) LN := by
  rw [← chunk_slice _ 9 slices_S256x1536_o0_1152_S256x128]
  rfl

theorem code_8 (X : FVec Ideal S256x1536 .f32) (LN : IVec S256x128 32) :
    k0_pay624 LN (k0_pay615 X) (k0_pay620 (k0_pay617 (k0_pay616 X)) (k0_pay618 (k0_pay616 X)) (k0_pay619 (k0_pay616 X))) (32#32) (k0_pay621 LN) (k0_pay622 LN) 0#32 = codeOf (chunk X 8) LN := by
  rw [← chunk_slice _ 8 slices_S256x1536_o0_1024_S256x128]
  rfl

theorem code_7 (X : FVec Ideal S256x1536 .f32) (LN : IVec S256x128 32) :
    k0_pay610 (k0_pay601 X) (k0_pay608 LN (k0_pay602 X) (k0_pay605 (k0_pay602 X) (k0_pay603 X) (k0_pay604 X) 23#32) (k0_pay606 (k0_pay602 X) (k0_pay603 X) (k0_pay604 X) 23#32) 23#32) k0_pay609 = codeOf (chunk X 7) LN := by
  rw [← chunk_slice _ 7 slices_S256x1536_o0_896_S256x128]
  rfl

theorem code_6 (X : FVec Ideal S256x1536 .f32) (LN : IVec S256x128 32) :
    k0_pay593 LN (k0_pay585 X) (k0_pay589 (k0_pay586 X) (k0_pay588 (k0_pay586 X) k0_pay587 128#32) 4#32) (32#32) (k0_pay590 LN) (k0_pay591 LN) 1#32 = codeOf (chunk X 6) LN := by
  rw [← chunk_slice _ 6 slices_S256x1536_o0_768_S256x128]
  rfl

theorem code_5 (X : FVec Ideal S256x1536 .f32) (LN : IVec S256x128 32) :
    k0_pay581 (k0_pay580 LN (k0_pay570 X) (k0_pay575 (k0_pay571 X) (k0_pay572 X) (k0_pay573 X) k0_pay574) (k0_pay576 (k0_pay571 X) (k0_pay572 X) (k0_pay573 X) k0_pay574) k0_pay577) = codeOf (chunk X 5) LN := by
  rw [← chunk_slice _ 5 slices_S256x1536_o0_640_S256x128]
  rfl

theorem code_4 (X : FVec Ideal S256x1536 .f32) (LN : IVec S256x128 32) :
    k0_pay564 (k0_pay552 X) (k0_pay558 (k0_pay553 X) (k0_pay556 (k0_pay553 X) k0_pay554 k0_pay555) (k0_pay557 (k0_pay553 X) k0_pay554 k0_pay555)) (k0_pay559 LN) (k0_pay560 LN) (k0_pay561 LN) k0_pay562 = codeOf (chunk X 4) LN := by
  rw [← chunk_slice _ 4 slices_S256x1536_o0_512_S256x128]
  rfl

theorem code_3 (X : FVec Ideal S256x1536 .f32) (LN : IVec S256x128 32) :
    k0_pay547 (k0_pay546 LN (k0_pay537 X) (k0_pay542 (k0_pay539 (k0_pay538 X)) (k0_pay540 (k0_pay538 X)) (k0_pay541 (k0_pay538 X)) 23#32) (k0_pay543 (k0_pay539 (k0_pay538 X)) (k0_pay540 (k0_pay538 X)) (k0_pay541 (k0_pay538 X)) 23#32) 126#32) = codeOf (chunk X 3) LN := by
  rw [← chunk_slice _ 3 slices_S256x1536_o0_384_S256x128]
  rfl

theorem code_2 (X : FVec Ideal S256x1536 .f32) (LN : IVec S256x128 32) :
    k0_pay531 (k0_pay524 X) (k0_pay528 (k0_pay525 X) (k0_pay527 (k0_pay525 X) (k0_pay526 X) 64#32) 2#32) (k0_pay529 LN) = codeOf (chunk X 2) LN := by
  rw [← chunk_slice _ 2 slices_S256x1536_o0_256_S256x128]
  rfl

theorem code_1 (X : FVec Ideal S256x1536 .f32) (LN : IVec S256x128 32) :
    k0_pay516 LN (k0_pay507 X) (k0_pay513 (k0_pay509 (k0_pay508 X)) (k0_pay510 (k0_pay508 X)) (k0_pay511 (k0_pay508 X)) k0_pay512) (32#32) (k0_pay514 LN) 0#32 = codeOf (chunk X 1) LN := by
  rw [← chunk_slice _ 1 slices_S256x1536_o0_128_S256x128]
  rfl

theorem code_0 (v27 : FVec Ideal S256x1536 .f32) (v29 : FVec Ideal S256 .f32) (v38 : Vec Ideal S1x1536 .f32) (LN : IVec S256x128 32) :
    k0_pay501 (k0_pay491 v27 v29 v38) (k0_pay497 (k0_pay492 v27 v29 v38) (k0_pay495 (k0_pay492 v27 v29 v38) (k0_pay493 v27 v29 v38) (k0_pay494 v27 v29 v38)) (k0_pay496 (k0_pay492 v27 v29 v38) (k0_pay493 v27 v29 v38) (k0_pay494 v27 v29 v38))) (k0_pay498 LN) (k0_pay499 LN) = codeOf (chunk (k0_pay489 v27 v29 v38) 0) LN := by
  rw [← chunk_slice _ 0 slices_S256x1536_o0_0_S256x128]
  rfl

end Cert.KernelIdeal.Value
-- ==== Proof.Tiles.lean ====
module

public import proofs.«01_k».proof.Proof.Point
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- An array of 1536 columns, put together of twelve blocks of 128. -/
def cols {e : EltTy} (G : Fin 12 → S256x128.Idx → Elt Ideal e) : S256x1536.Idx → Elt Ideal e := fun j =>
  G (⟨(j 1).val / 128, by have h : (j 1).val < 1536 := (j 1).isLt; omega⟩ : Fin 12) (ix2 (j 0 : Fin 256) (⟨(j 1).val % 128, Nat.mod_lt _ (by decide)⟩ : Fin 128))

/-- Stores of the first `n` blocks of columns. -/
def Cols {e : EltTy} (G : Fin 12 → S256x128.Idx → Elt Ideal e) (n : ℕ) (L : List (View.Piece (Elt Ideal) S256x1536 e)) : Prop :=
  (∀ p ∈ L, ∀ x : p.1.shape.Idx, p.2 x = cols G (p.1.emb x)) ∧ ∀ y : S256x1536.Idx, (y 1).val < 128 * n → ∃ p ∈ L, y ∈ p.1.set

theorem cols_nil {e : EltTy} (G : Fin 12 → S256x128.Idx → Elt Ideal e) : Cols G 0 [] :=
  ⟨fun p hp => absurd hp (by simp), fun y h => absurd h (by omega)⟩

theorem cols_cons {e : EltTy} {G : Fin 12 → S256x128.Idx → Elt Ideal e} (n : Fin 12) {off : Fin 2 → Nat} {inb : ∀ a, off a + S256x128.size a ≤ S256x1536.size a}
    {P : S256x128.Idx → Elt Ideal e} {L : List (View.Piece (Elt Ideal) S256x1536 e)} (hoff : off = ![0, 128 * n.val]) (hP : P = G n) (hL : Cols G n.val L) :
    Cols G (n.val + 1) (⟨Rect.unit (s := S256x1536) off S256x128.size inb, P⟩ :: L) := by
  subst hoff hP
  refine ⟨fun p hp => ?_, fun y hy => ?_⟩
  · rcases List.mem_cons.mp hp with rfl | hp
    · intro x
      have e0 := Rect.idx_unit_val (s := S256x1536) ![0, 128 * n.val] S256x128.size inb x 0
      have e1 := Rect.idx_unit_val (s := S256x1536) ![0, 128 * n.val] S256x128.size inb x 1
      change _ = 0 + (x 0 : Fin 256).val at e0
      change _ = 128 * n.val + (x 1 : Fin 128).val at e1
      have hl : (x 1 : Fin 128).val < 128 := (x 1 : Fin 128).isLt
      have hx : (x : S256x128.Idx) = ix2 (x 0 : Fin 256) (x 1 : Fin 128) := by
        funext a; fin_cases a <;> rfl
      refine (congrArg (G n) hx).trans ?_
      unfold cols
      refine congr (congrArg G (Fin.ext ?_)) (congr (congrArg ix2 (Fin.ext ?_)) (Fin.ext ?_))
      · exact (show n.val = (128 * n.val + (x 1 : Fin 128).val) / 128 by omega).trans (congrArg (· / 128) e1.symm)
      · exact (Nat.zero_add _).symm.trans e0.symm
      · exact (show (x 1 : Fin 128).val = (128 * n.val + (x 1 : Fin 128).val) % 128 by omega).trans (congrArg (· % 128) e1.symm)
    · exact hL.1 p hp
  · by_cases hn : (y 1).val < 128 * n.val
    · obtain ⟨p, hp, hm⟩ := hL.2 y hn
      exact ⟨p, List.mem_cons_of_mem _ hp, hm⟩
    · refine ⟨_, List.mem_cons_self, ?_⟩
      show y ∈ (Rect.unit (s := S256x1536) ![0, 128 * n.val] S256x128.size inb).set
      rw [Rect.mem_set_unit]
      intro a
      fin_cases a
      · exact ⟨Nat.zero_le _, lt_of_lt_of_eq (y 0).isLt (by rfl)⟩
      · change 128 * n.val ≤ (y 1).val ∧ (y 1).val < 128 * n.val + 128
        omega

theorem cols_canon {e : EltTy} {G : Fin 12 → S256x128.Idx → Elt Ideal e} {L : List (View.Piece (Elt Ideal) S256x1536 e)} (h : Cols G 12 L) :
    View.canon L = cols G := by
  funext y
  exact View.canon_apply_of_pieces _ _ h.1 y (h.2 y (lt_of_lt_of_eq (y 1).isLt (by rfl)))

/-- An array of twelve heads, put together head by head. -/
def heads (G : Fin 12 → S256x128.Idx → Elt Ideal .bf16) : S1x12x256x128.Idx → Elt Ideal .bf16 := fun j => G (j 1) (ix2 (j 2 : Fin 256) (j 3 : Fin 128))

/-- Stores of the first `n` heads. -/
def Heads (G : Fin 12 → S256x128.Idx → Elt Ideal .bf16) (n : ℕ) (L : List (View.Piece (Elt Ideal) S1x12x256x128 .bf16)) : Prop :=
  (∀ p ∈ L, ∀ x : p.1.shape.Idx, p.2 x = heads G (p.1.emb x)) ∧ ∀ y : S1x12x256x128.Idx, (y 1).val < n → ∃ p ∈ L, y ∈ p.1.set

theorem heads_nil (G : Fin 12 → S256x128.Idx → Elt Ideal .bf16) : Heads G 0 [] :=
  ⟨fun p hp => absurd hp (by simp), fun y h => absurd h (by omega)⟩

theorem heads_cons {G : Fin 12 → S256x128.Idx → Elt Ideal .bf16} (n : Fin 12) {off : Fin 4 → Nat} {inb : ∀ a, off a + S1x1x256x128.size a ≤ S1x12x256x128.size a}
    {P : S1x1x256x128.Idx → Elt Ideal .bf16} {L : List (View.Piece (Elt Ideal) S1x12x256x128 .bf16)} (hoff : off = ![0, n.val, 0, 0])
    (hP : ∀ (p : Fin 256) (l : Fin 128), P (ix4 (0 : Fin 1) (0 : Fin 1) p l) = G n (ix2 p l)) (hL : Heads G n.val L) :
    Heads G (n.val + 1) (⟨Rect.unit (s := S1x12x256x128) off S1x1x256x128.size inb, P⟩ :: L) := by
  subst hoff
  refine ⟨fun p hp => ?_, fun y hy => ?_⟩
  · rcases List.mem_cons.mp hp with rfl | hp
    · intro x
      have e1 := Rect.idx_unit_val (s := S1x12x256x128) ![0, n.val, 0, 0] S1x1x256x128.size inb x 1
      have e2 := Rect.idx_unit_val (s := S1x12x256x128) ![0, n.val, 0, 0] S1x1x256x128.size inb x 2
      have e3 := Rect.idx_unit_val (s := S1x12x256x128) ![0, n.val, 0, 0] S1x1x256x128.size inb x 3
      change _ = n.val + (x 1 : Fin 1).val at e1
      change _ = 0 + (x 2 : Fin 256).val at e2
      change _ = 0 + (x 3 : Fin 128).val at e3
      have h1 : (x 1 : Fin 1).val = 0 := Nat.lt_one_iff.mp (x 1 : Fin 1).isLt
      have hx : (x : S1x1x256x128.Idx) = ix4 (0 : Fin 1) (0 : Fin 1) (x 2 : Fin 256) (x 3 : Fin 128) := by
        funext a; fin_cases a
        · exact Fin.ext (Nat.lt_one_iff.mp (x 0 : Fin 1).isLt)
        · exact Fin.ext h1
        · rfl
        · rfl
      refine (congrArg P hx).trans ((hP _ _).trans ?_)
      unfold heads
      refine congr (congrArg G (Fin.ext ?_)) (congr (congrArg ix2 (Fin.ext ?_)) (Fin.ext ?_))
      · exact (show n.val = n.val + (x 1 : Fin 1).val by omega).trans e1.symm
      · exact (Nat.zero_add _).symm.trans e2.symm
      · exact (Nat.zero_add _).symm.trans e3.symm
    · exact hL.1 p hp
  · by_cases hn : (y 1).val < n.val
    · obtain ⟨p, hp, hm⟩ := hL.2 y hn
      exact ⟨p, List.mem_cons_of_mem _ hp, hm⟩
    · refine ⟨_, List.mem_cons_self, ?_⟩
      show y ∈ (Rect.unit (s := S1x12x256x128) ![0, n.val, 0, 0] S1x1x256x128.size inb).set
      rw [Rect.mem_set_unit]
      intro a
      fin_cases a
      · exact ⟨Nat.zero_le _, lt_of_lt_of_eq (y 0).isLt (by rfl)⟩
      · change n.val ≤ (y 1).val ∧ (y 1).val < n.val + 1
        omega
      · exact ⟨Nat.zero_le _, lt_of_lt_of_eq (y 2).isLt (by rfl)⟩
      · exact ⟨Nat.zero_le _, lt_of_lt_of_eq (y 3).isLt (by rfl)⟩

theorem heads_canon {G : Fin 12 → S256x128.Idx → Elt Ideal .bf16} {L : List (View.Piece (Elt Ideal) S1x12x256x128 .bf16)} (h : Heads G 12 L) :
    View.canon L = heads G := by
  funext y
  exact View.canon_apply_of_pieces _ _ h.1 y (h.2 y (lt_of_lt_of_eq (y 1).isLt (by rfl)))

/-- Head `v` of the 2048 columns. -/
def slab (Q : Vec Ideal S256x2048 .f32) (v : Fin 16) : Vec Ideal S256x128 .f32 :=
  fun y => Q (ix2 (y 0 : Fin 256) (⟨128 * v.val + (y 1).val, by have h : (y 1).val < 128 := (y 1).isLt; omega⟩ : Fin 2048))

theorem slab_read {sp : Space} (a : View sig .tc sp S256x2048 .f32) (Q : Vec Ideal S256x2048 .f32) (v : Fin 16) {off : Fin 2 → Nat}
    (inb0 : ∀ a, (![0, 0] : Fin 2 → Nat) a + S256x2048.size a ≤ S256x2048.size a) (inb : ∀ a, off a + S256x128.size a ≤ S256x2048.size a) (h : off = ![0, 128 * v.val]) :
    a.readCov (Val := Elt Ideal) [⟨Rect.unit (s := S256x2048) ![0, 0] S256x2048.size inb0, Q⟩] (Rect.unit (s := S256x2048) off S256x128.size inb).toLoadRect = slab Q v := by
  rw [View.readCov_eq_canon', View.canon_unit_zero hz2]
  subst h
  funext y
  refine View.ld_unit_apply_of (Val := Elt Ideal) Q _ _ _ _ _ fun a => ?_
  fin_cases a
  · exact (Nat.zero_add _).symm
  · rfl

end Cert.KernelIdeal.Value
-- ==== Proof.Codes.lean ====
module

public import proofs.«01_k».proof.Proof.Quant
public import proofs.«01_k».proof.Proof.Tiles
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- The normed rows, from the codes, their scale bytes, the weight scratch, the residual and the norm's weights. -/
def xOf (C : Vec Ideal S256x8960 .fp8e4m3) (b : Vec Ideal S1x280x256 .i8) (W2 : Vec Ideal S4480x2x1536 .bf16) (R : Vec Ideal S256x1536 .bf16)
    (nw : Vec Ideal S1x1536 .f32) : FVec Ideal S256x1536 .f32 :=
  k0_pay489 (k0_pay487 (scaledRows C (k0_pay485 b)) W2 R) (k0_pay488 (scaledRows C (k0_pay485 b)) W2 R) nw

/-- A lane's number over 4, rounded down. -/
def quot4 (LN : IVec S256x128 32) : IVec S256x128 32 :=
  select (andi (cmpi .ne (subi (extui 32 (cmpi .sgt LN (broadcast S256x128 0#32)) (by decide)) (extui 32 (cmpi .slt LN (broadcast S256x128 0#32)) (by decide))) (broadcast S256x128 1#32))
      (cmpi .ne (remsi LN (broadcast S256x128 4#32)) (broadcast S256x128 0#32)))
    (subi (divsi LN (broadcast S256x128 4#32)) (broadcast S256x128 1#32)) (divsi LN (broadcast S256x128 4#32))

/-- 32 times a lane's remainder by 4: the first lane of a group. -/
def first4 (LN : IVec S256x128 32) : IVec S256x128 32 :=
  muli (select (andi (xori (cmpi .slt (remsi LN (broadcast S256x128 4#32)) (broadcast S256x128 0#32)) (broadcastTo S256x128 (broadcast S256x128 0#1) (by decide)))
      (cmpi .ne (remsi LN (broadcast S256x128 4#32)) (broadcast S256x128 0#32)))
    (addi (remsi LN (broadcast S256x128 4#32)) (broadcast S256x128 4#32)) (remsi LN (broadcast S256x128 4#32))) (broadcast S256x128 32#32)

/-- Chunk `n`'s four exponents, put at lanes `4 n .. 4 n + 3`. -/
def put (LN : IVec S256x128 32) (n : BitVec 32) (b old : IVec S256x128 32) : IVec S256x128 32 :=
  select (cmpi .eq (quot4 LN) (broadcast S256x128 n))
    (dynamicGather 1 b (shapeCast S256x128 (shapeCast S256x128x1 (select (cmpi .slt (first4 LN) (broadcast S256x128 0#32)) (addi (first4 LN) (broadcast S256x128 128#32)) (first4 LN))
      shapeCasts_S256x128_S256x128x1) shapeCasts_S256x128x1_S256x128)) old

/-- The exponents of chunk `v`. -/
def expo (X : FVec Ideal S256x1536 .f32) (v : Fin 12) : IVec S256x128 32 := biased (sizes (chunk X v))

/-- The 48 exponents of each row, in lanes 0 to 47. -/
def gathered (X : FVec Ideal S256x1536 .f32) (LN : IVec S256x128 32) : IVec S256x128 32 :=
  put LN 11#32 (expo X 11) (put LN 10#32 (expo X 10) (put LN 9#32 (expo X 9) (put LN 8#32 (expo X 8) (put LN 7#32 (expo X 7) (put LN 6#32 (expo X 6)
    (put LN 5#32 (expo X 5) (put LN 4#32 (expo X 4) (put LN 3#32 (expo X 3) (put LN 2#32 (expo X 2) (put LN 1#32 (expo X 1) (put LN 0#32 (expo X 0) (broadcast S256x128 0#32))))))))))))

/-- The scale bytes. -/
def bytesOf (X : FVec Ideal S256x1536 .f32) (LN : IVec S256x128 32) : Vec Ideal S1x48x256 .i8 :=
  k0_pay681 (extractStridedSlice S48x256 ![0, 0] (transpose S128x256 [1, 0] (addi (gathered X LN) (broadcast S256x128 1#32)) transposes_S256x128_p1_0_S128x256) slices_S128x256_o0_0_S48x256)

/-- The codes at a point after the first: from the carried weight scratch. -/
theorem xc_B (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (hc0 : ¬cond0_0 i)
    (x0 : Vec Ideal S256x8960 .fp8e4m3) (x1 : Vec Ideal S1x280x256 .i8) (x2 : Vec Ideal S280x1536 .i8) (x3 : Vec Ideal S256x1536 .bf16) (x4 : Vec Ideal S1x1536 .f32) (x5 : Vec Ideal S48x2048 .i8) (x6 : Vec Ideal S1x1x256 .i32) (x7 : Vec Ideal S1x128 .f32) (xs0 : Vec Ideal S4480x2x1536 .bf16) (xs1 : Vec Ideal S768x2x2048 .bf16) (fh0 : HbBuf0 (F := Ideal) c hbM0_0) (fh1 : HbBuf0 (F := Ideal) c hbM0_1) :
    out0_B_12 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 xs0 xs1 fh0 fh1 = cols (fun v => codeOf (chunk (xOf x0 x1 xs0 x3 x4) v) lanes2) := by
  unfold out0_B_12
  rw [View.read_writes_eq_canon _ _ _ (cover0_B_12 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 xs0 xs1 fh0 fh1)]
  unfold kernelRun0_B
  dsimp only
  sl_unfold_words
  rw [xb_read c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 x0 x1 _ _ _, readAt_full _ _ _ hz3, readAt_full _ _ x3 hz2, readAt_full _ _ x4 hz2]
  unfold xOf
  refine cols_canon ?_
  refine cols_cons 11 rfl (code_11 _ _) ?_
  refine cols_cons 10 rfl (code_10 _ _) ?_
  refine cols_cons 9 rfl (code_9 _ _) ?_
  refine cols_cons 8 rfl (code_8 _ _) ?_
  refine cols_cons 7 rfl (code_7 _ _) ?_
  refine cols_cons 6 rfl (code_6 _ _) ?_
  refine cols_cons 5 rfl (code_5 _ _) ?_
  refine cols_cons 4 rfl (code_4 _ _) ?_
  refine cols_cons 3 rfl (code_3 _ _) ?_
  refine cols_cons 2 rfl (code_2 _ _) ?_
  refine cols_cons 1 rfl (code_1 _ _) ?_
  refine cols_cons 0 rfl (code_0 _ _ _ _) ?_
  exact cols_nil _

/-- The codes at the first point: from the weight scratch it fills. -/
theorem xc_A (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (hc0 : cond0_0 i)
    (x0 : Vec Ideal S256x8960 .fp8e4m3) (x1 : Vec Ideal S1x280x256 .i8) (x2 : Vec Ideal S280x1536 .i8) (x3 : Vec Ideal S256x1536 .bf16) (x4 : Vec Ideal S1x1536 .f32) (x5 : Vec Ideal S48x2048 .i8) (x6 : Vec Ideal S1x1x256 .i32) (x7 : Vec Ideal S1x128 .f32) (fh0 : HbBuf0 (F := Ideal) c hbM0_0) (fh1 : HbBuf0 (F := Ideal) c hbM0_1) :
    out0_A_12 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 fh0 fh1 = cols (fun v => codeOf (chunk (xOf x0 x1 (wdOf ((Memref.whole main_arg2 : Memref sig .tc .hbm S8960x1536 .fp8e4m3).view.read (Elt Ideal) fh0) x2) x3 x4) v) lanes2) := by
  unfold out0_A_12
  rw [View.read_writes_eq_canon _ _ _ (cover0_A_12 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 fh0 fh1)]
  unfold kernelRun0_A
  dsimp only
  sl_unfold_words
  rw [xb_read c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 x0 x1 _ _ _, readCov_full arg17.view _ hz3, wd_canon c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x2 fh0 _ _, readAt_full _ _ x3 hz2, readAt_full _ _ x4 hz2]
  unfold xOf
  refine cols_canon ?_
  refine cols_cons 11 rfl (code_11 _ _) ?_
  refine cols_cons 10 rfl (code_10 _ _) ?_
  refine cols_cons 9 rfl (code_9 _ _) ?_
  refine cols_cons 8 rfl (code_8 _ _) ?_
  refine cols_cons 7 rfl (code_7 _ _) ?_
  refine cols_cons 6 rfl (code_6 _ _) ?_
  refine cols_cons 5 rfl (code_5 _ _) ?_
  refine cols_cons 4 rfl (code_4 _ _) ?_
  refine cols_cons 3 rfl (code_3 _ _) ?_
  refine cols_cons 2 rfl (code_2 _ _) ?_
  refine cols_cons 1 rfl (code_1 _ _) ?_
  refine cols_cons 0 rfl (code_0 _ _ _ _) ?_
  exact cols_nil _

end Cert.KernelIdeal.Value
-- ==== Proof.Decode.lean ====
module

public import proofs.«01_k».proof.Proof.Residual
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- The reference's reading of a scale byte: the power of two whose exponent is the byte less 127. -/
def decR (b : BitVec 8) : EReal :=
  (FloatOps.exp2 (F := Ideal) (φ := .f32) (FloatOps.subf (F := Ideal) (φ := .f32) (FloatOps.sitofp (F := Ideal) FTy.f32 (BitVec.setWidth 32 b)) (Ideal.ofBits FTy.f32 1123942400#32)) : EReal)

/-- A positive normal single-precision word, read. -/
theorem ofBits_normal (w : BitVec 32) (e f : ℕ) (hs : w.extractLsb' 31 1 = 0#1) (he : (w.extractLsb' 23 8).toNat = e)
    (hf : (w.extractLsb' 0 23).toNat = f) (h1 : 1 ≤ e) (h2 : e ≤ 254) :
    Ideal.ofBits FTy.f32 w = ((((2 ^ 23 + f : ℕ) : ℝ) * (2 : ℝ) ^ ((e : ℤ) - 150) : ℝ) : EReal) := by
  show Ideal.ieee 8 23 w = _
  unfold Ideal.ieee
  simp only [show (8 + 23 : ℕ) = 31 from rfl, hs, he, hf]
  rw [if_neg (by omega), if_neg (by omega)]
  have : ((e : ℤ) - (2 ^ (8 - 1) - 1) - ((23 : ℕ) : ℤ)) = (e : ℤ) - 150 := by norm_num; ring
  rw [this]
  simp

theorem c127 : Ideal.ofBits FTy.f32 1123942400#32 = ((127 : ℝ) : EReal) := by
  rw [ofBits_normal _ 133 8257536 (by decide) (by decide) (by decide) (by decide) (by decide)]
  norm_num

theorem toInt_byte (b : BitVec 8) : (BitVec.setWidth 32 b).toInt = (b.toNat : ℤ) := by
  revert b; decide

theorem dec_bits : ∀ b : BitVec 8, (IntOp.shli ArithUnit.vector (BitVec.setWidth 32 b) 23#32).extractLsb' 31 1 = 0#1
    ∧ ((IntOp.shli ArithUnit.vector (BitVec.setWidth 32 b) 23#32).extractLsb' 23 8).toNat = b.toNat
    ∧ ((IntOp.shli ArithUnit.vector (BitVec.setWidth 32 b) 23#32).extractLsb' 0 23).toNat = 0 := by decide

/-- The reference's reading is a power of two, whatever the byte. -/
theorem decR_eq (b : BitVec 8) : decR b = (((2 : ℝ) ^ ((b.toNat : ℤ) - 127) : ℝ) : EReal) := by
  unfold decR
  rw [c127]
  show Ideal.exp2 ((((BitVec.setWidth 32 b).toInt : ℝ) : EReal) - ((127 : ℝ) : EReal)) = _
  rw [toInt_byte, ← EReal.coe_sub, Ideal.exp2_coe]
  refine congrArg Real.toEReal ?_
  rw [← Real.rpow_intCast]
  push_cast
  rfl

/-- Between 1 and 254 the two readings agree. -/
theorem dec_eq (b : BitVec 8) (h1 : 1 ≤ b.toNat) (h2 : b.toNat ≤ 254) : dec b = decR b := by
  rw [decR_eq]
  unfold dec
  obtain ⟨d1, d2, d3⟩ := dec_bits b
  refine (ofBits_normal _ b.toNat 0 d1 d2 d3 h1 h2).trans (congrArg Real.toEReal ?_)
  rw [show ((b.toNat : ℤ) - 127) = 23 + ((b.toNat : ℤ) - 150) by ring, zpow_add₀ (by norm_num)]
  norm_num
end Cert.KernelIdeal.Value
-- ==== Proof.Agree.lean ====
module

public import proofs.«01_k».proof.Proof.Decode
public import proofs.«01_k».proof.Proof.Gen.ReferenceIdeal.Skeleton
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- Where the scale bytes decode, the reference's first result is the kernel's. -/
theorem pay5_eq (x0 : Vec Ideal S16x768x8960 .fp8e4m3) (x1 : Vec Ideal S16x768x280 .i8) (x2 : Vec Ideal S8960x1536 .fp8e4m3) (x3 : Vec Ideal S280x1536 .i8)
    (x4 : Vec Ideal S16x768x1536 .bf16) (h1 : ∀ i, 1 ≤ (x1 i : BitVec 8).toNat ∧ (x1 i : BitVec 8).toNat ≤ 254)
    (h3 : ∀ i, 1 ≤ (x3 i : BitVec 8).toNat ∧ (x3 i : BitVec 8).toNat ≤ 254) :
    Cert.ReferenceIdeal.Gen.k0_pay5 x0 x1 x2 x3 x4 = RES x0 x1 x2 x3 x4 := by
  funext j
  have hj : j = ix3 (j 0 : Fin 16) (j 1 : Fin 768) (j 2 : Fin 1536) := by
    funext a; fin_cases a <;> rfl
  rw [hj]
  generalize (j 0 : Fin 16) = b
  generalize (j 1 : Fin 768) = s
  generalize (j 2 : Fin 1536) = d
  pointwise [Cert.ReferenceIdeal.Gen.k0_pay5]
  refine congrArg₂ (fun a z : EReal => a + z) rfl (Finset.sum_congr rfl fun x _ => ?_)
  have e1 := dec_eq (x1 (ix3 b s (⟨x.val / 32, by omega⟩ : Fin 280))) (h1 _).1 (h1 _).2
  have e3 := dec_eq (x3 (ix2 (⟨x.val / 32, by omega⟩ : Fin 280) d)) (h3 _).1 (h3 _).2
  exact (congrArg₂ (fun a z : EReal => x0 (ix3 b s x) * a * (x2 (ix2 x d) * z)) e1 e3).symm
end Cert.KernelIdeal.Value
-- ==== Proof.RefQuant.lean ====
module

public import proofs.«01_k».proof.Proof.Codes
public import proofs.«01_k».proof.Proof.Agree
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

open Cert.ReferenceIdeal (S16x768x48x32 S16x768x48x1 S16x768x48x254 S16x768x48)

/-- The largest size of a group of 32, over 448. -/
def refY (X : FVec Ideal S16x768x48x32 .f32) : FVec Ideal S16x768x48x1 .f32 :=
  mulf (shapeCast S16x768x48x1 (multiReduction .maximumf [3] S16x768x48 (absf X) 0xFF800000#32 Cert.ReferenceIdeal.Gen.reduces_S16x768x48x32_S16x768x48 (.inl rfl) rfl)
    Cert.ReferenceIdeal.Gen.shapeCasts_S16x768x48_S16x768x48x1) (broadcast S16x768x48x1 (Scalar.ofBits .f32 0x3B124925#32))

/-- For each of the 254 powers of two, whether it is not above the number. -/
def refBelow (y : FVec Ideal S16x768x48x1 .f32) : IVec S16x768x48x254 32 :=
  extui 32 (cmpf .ole (exp2 (sitofp .f32 (subi (iota .tc S16x768x48x254 32 [3] Cert.ReferenceIdeal.Gen.iota_S16x768x48x254_d3_w32) (broadcast S16x768x48x254 126#32))))
    (broadcastTo S16x768x48x254 y Cert.ReferenceIdeal.Gen.broadcasts_S16x768x48x1_S16x768x48x254)) Cert.ReferenceIdeal.Gen.natLt_1_32

def refCount (w : IVec S16x768x48x254 32) : IVec S16x768x48 32 :=
  multiReductionI .add [3] S16x768x48 w 0#32 Cert.ReferenceIdeal.Gen.reduces_S16x768x48x254_S16x768x48 rfl

def refE (y : FVec Ideal S16x768x48x1 .f32) (n : IVec S16x768x48 32) : IVec S16x768x48x1 32 :=
  select (cmpf .olt y (broadcast S16x768x48x1 (Scalar.ofBits .f32 0x00800000#32))) (broadcast S16x768x48x1 0#32)
    (subi (shapeCast S16x768x48x1 n Cert.ReferenceIdeal.Gen.shapeCasts_S16x768x48_S16x768x48x1) (broadcast S16x768x48x1 126#32))

theorem pay9_split (v32) (v37) (v43) : Cert.ReferenceIdeal.Gen.k0_pay9 (F := Ideal) v32 v37 v43
    = refE (refY (Cert.ReferenceIdeal.Gen.k0_pay8 v32 v37 v43)) (refCount (refBelow (refY (Cert.ReferenceIdeal.Gen.k0_pay8 v32 v37 v43)))) := rfl

theorem refMax_at (A : FVec Ideal S16x768x48x32 .f32) (h : S16x768x48x32.Reduces [3] S16x768x48) (hφ : FKind.Formats .f32)
    (hacc : (0xFF800000#32 : BitVec 32) = FKind.maximumf.neutral .f32 hφ) (p : Fin 16) (q : Fin 768) (g : Fin 48) :
    multiReduction .maximumf [3] S16x768x48 A 0xFF800000#32 h hφ hacc (ix3 p q g)
      = (Finset.fold max (Ideal.ofBits FTy.f32 0xFF800000#32) (fun x => A (ix4 p q g x)) (Finset.univ : Finset (Fin 32)) : EReal) := by
  rw [Ideal.multiReduction_maximumf_single]
  refine congrArg (fun f : Fin 32 → EReal => Finset.fold max (Ideal.ofBits FTy.f32 0xFF800000#32) f Finset.univ) (funext fun x => congrArg A ?_)
  funext a
  fin_cases a <;> rfl

theorem refCast_at (M : FVec Ideal S16x768x48 .f32) (p : Fin 16) (q : Fin 768) (g : Fin 48) :
    mulf (shapeCast S16x768x48x1 M Cert.ReferenceIdeal.Gen.shapeCasts_S16x768x48_S16x768x48x1) (broadcast S16x768x48x1 (Scalar.ofBits .f32 0x3B124925#32)) (ix4 p q g 0)
      = (M (ix3 p q g) * Ideal.ofBits FTy.f32 991054117#32 : EReal) := by
  pointwise []

theorem refY_at (X : FVec Ideal S16x768x48x32 .f32) (p : Fin 16) (q : Fin 768) (g : Fin 48) :
    refY X (ix4 p q g 0) = (Finset.fold max (Ideal.ofBits FTy.f32 0xFF800000#32) (fun x => max (X (ix4 p q g x)) (-X (ix4 p q g x))) (Finset.univ : Finset (Fin 32)) * Ideal.ofBits FTy.f32 991054117#32 : EReal) :=
  (refCast_at _ p q g).trans (congrArg (fun z : EReal => z * Ideal.ofBits FTy.f32 991054117#32) (refMax_at (absf X) _ _ _ p q g))

theorem refCount_at (w : IVec S16x768x48x254 32) (p : Fin 16) (q : Fin 768) (g : Fin 48) :
    refCount w (ix3 p q g) = Finset.fold IntOp.addi (0#32) (fun x : Fin 254 => w (ix4 p q g x)) Finset.univ := by
  pointwise [refCount]

theorem refBelow_at (y : FVec Ideal S16x768x48x1 .f32) (p : Fin 16) (q : Fin 768) (g : Fin 48) (x : Fin 254) :
    refBelow y (ix4 p q g x) = BitVec.setWidth 32 (BitVec.ofBool (decide ((FloatOps.exp2 (F := Ideal) (φ := .f32) (FloatOps.sitofp FTy.f32 (IntOp.subi (BitVec.ofNat 32 x.val) 126#32)) : EReal) ≤ y (ix4 p q g 0)))) := by
  pointwise [refBelow]

theorem refE_at (y : FVec Ideal S16x768x48x1 .f32) (n : IVec S16x768x48 32) (p : Fin 16) (q : Fin 768) (g : Fin 48) :
    refE y n (ix4 p q g 0) = if (y (ix4 p q g 0) : EReal) < Ideal.ofBits FTy.f32 8388608#32 then 0#32 else IntOp.subi (n (ix3 p q g)) 126#32 := by
  pointwise [refE]

end Cert.KernelIdeal.Value
-- ==== Proof.Bytes.lean ====
module

public import proofs.«01_k».proof.Proof.Codes
public import proofs.«01_k».proof.Proof.Tiles
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- The scale bytes at a point after the first: from the carried weight scratch. -/
theorem xs_B (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (hc0 : ¬cond0_0 i)
    (x0 : Vec Ideal S256x8960 .fp8e4m3) (x1 : Vec Ideal S1x280x256 .i8) (x2 : Vec Ideal S280x1536 .i8) (x3 : Vec Ideal S256x1536 .bf16) (x4 : Vec Ideal S1x1536 .f32) (x5 : Vec Ideal S48x2048 .i8) (x6 : Vec Ideal S1x1x256 .i32) (x7 : Vec Ideal S1x128 .f32) (xs0 : Vec Ideal S4480x2x1536 .bf16) (xs1 : Vec Ideal S768x2x2048 .bf16) (fh0 : HbBuf0 (F := Ideal) c hbM0_0) (fh1 : HbBuf0 (F := Ideal) c hbM0_1) :
    out0_B_13 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 xs0 xs1 fh0 fh1 = bytesOf (xOf x0 x1 xs0 x3 x4) lanes2 := by
  unfold out0_B_13
  rw [View.read_writes_eq_canon _ _ _ (cover0_B_13 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 xs0 xs1 fh0 fh1)]
  unfold kernelRun0_B
  dsimp only
  sl_unfold_words
  rw [xb_read c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 x0 x1 _ _ _, readAt_full _ _ _ hz3, readAt_full _ _ x3 hz2, readAt_full _ _ x4 hz2]
  refine (View.canon_unit_zero hz3 _ _).trans ?_
  unfold bytesOf gathered expo
  rw [← chunk_slice _ 0 slices_S256x1536_o0_0_S256x128, ← chunk_slice _ 1 slices_S256x1536_o0_128_S256x128, ← chunk_slice _ 2 slices_S256x1536_o0_256_S256x128, ← chunk_slice _ 3 slices_S256x1536_o0_384_S256x128, ← chunk_slice _ 4 slices_S256x1536_o0_512_S256x128, ← chunk_slice _ 5 slices_S256x1536_o0_640_S256x128, ← chunk_slice _ 6 slices_S256x1536_o0_768_S256x128, ← chunk_slice _ 7 slices_S256x1536_o0_896_S256x128, ← chunk_slice _ 8 slices_S256x1536_o0_1024_S256x128, ← chunk_slice _ 9 slices_S256x1536_o0_1152_S256x128, ← chunk_slice _ 10 slices_S256x1536_o0_1280_S256x128, ← chunk_slice _ 11 slices_S256x1536_o0_1408_S256x128]
  rfl

/-- The scale bytes at the first point: from the weight scratch it fills. -/
theorem xs_A (c : Dev nD) (i : grid0.Coords) (arg1 : Memref sig .tc .vmem S256x8960 .fp8e4m3) (harg1 : arg1.IsWhole) (arg2 : Memref sig .tc .vmem S1x280x256 .i8) (harg2 : arg2.IsWhole) (arg4 : Memref sig .tc .vmem S280x1536 .i8) (harg4 : arg4.IsWhole) (arg5 : Memref sig .tc .vmem S256x1536 .bf16) (harg5 : arg5.IsWhole) (arg6 : Memref sig .tc .vmem S1x1536 .f32) (harg6 : arg6.IsWhole) (arg8 : Memref sig .tc .vmem S48x2048 .i8) (harg8 : arg8.IsWhole) (arg9 : Memref sig .tc .vmem S1x1x256 .i32) (harg9 : arg9.IsWhole) (arg10 : Memref sig .tc .vmem S1x128 .f32) (harg10 : arg10.IsWhole) (arg11 : Memref sig .tc .vmem S256x1536 .bf16) (harg11 : arg11.IsWhole) (arg12 : Memref sig .tc .vmem S1x12x256x128 .bf16) (harg12 : arg12.IsWhole) (arg13 : Memref sig .tc .vmem S256x2x128 .bf16) (harg13 : arg13.IsWhole) (arg14 : Memref sig .tc .vmem S256x2x128 .bf16) (harg14 : arg14.IsWhole) (arg15 : Memref sig .tc .vmem S256x1536 .fp8e4m3) (harg15 : arg15.IsWhole) (arg16 : Memref sig .tc .vmem S1x48x256 .i8) (harg16 : arg16.IsWhole) (arg17 : Memref sig .tc .vmem S4480x2x1536 .bf16) (harg17 : arg17.IsWhole) (arg18 : Memref sig .tc .vmem S768x2x2048 .bf16) (harg18 : arg18.IsWhole) (arg19 : Memref sig .tc .vmem S256x1536 .fp8e4m3) (harg19 : arg19.IsWhole) (arg20 : Memref sig .tc .vmem S256x2048 .fp8e4m3) (harg20 : arg20.IsWhole) (arg22 : Memref sig .tc .vmem S256x8960 .bf16) (harg22 : arg22.IsWhole) (arg23 : Memref sig .tc .vmem S256x384 .f32) (harg23 : arg23.IsWhole) (arg24 : Memref sig .tc .vmem S256x1536 .bf16) (harg24 : arg24.IsWhole) (arg25 : Memref sig .tc .vmem S256x2048 .f32) (harg25 : arg25.IsWhole) (arg26 : Memref sig .tc .vmem S280x1536 .f32) (harg26 : arg26.IsWhole) (hc0 : cond0_0 i)
    (x0 : Vec Ideal S256x8960 .fp8e4m3) (x1 : Vec Ideal S1x280x256 .i8) (x2 : Vec Ideal S280x1536 .i8) (x3 : Vec Ideal S256x1536 .bf16) (x4 : Vec Ideal S1x1536 .f32) (x5 : Vec Ideal S48x2048 .i8) (x6 : Vec Ideal S1x1x256 .i32) (x7 : Vec Ideal S1x128 .f32) (fh0 : HbBuf0 (F := Ideal) c hbM0_0) (fh1 : HbBuf0 (F := Ideal) c hbM0_1) :
    out0_A_13 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 fh0 fh1 = bytesOf (xOf x0 x1 (wdOf ((Memref.whole main_arg2 : Memref sig .tc .hbm S8960x1536 .fp8e4m3).view.read (Elt Ideal) fh0) x2) x3 x4) lanes2 := by
  unfold out0_A_13
  rw [View.read_writes_eq_canon _ _ _ (cover0_A_13 c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x0 x1 x2 x3 x4 x5 x6 x7 fh0 fh1)]
  unfold kernelRun0_A
  dsimp only
  sl_unfold_words
  rw [xb_read c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 x0 x1 _ _ _, readCov_full arg17.view _ hz3, wd_canon c i arg1 harg1 arg2 harg2 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 arg24 harg24 arg25 harg25 arg26 harg26 hc0 x2 fh0 _ _, readAt_full _ _ x3 hz2, readAt_full _ _ x4 hz2]
  refine (View.canon_unit_zero hz3 _ _).trans ?_
  unfold bytesOf gathered expo
  rw [← chunk_slice _ 0 slices_S256x1536_o0_0_S256x128, ← chunk_slice _ 1 slices_S256x1536_o0_128_S256x128, ← chunk_slice _ 2 slices_S256x1536_o0_256_S256x128, ← chunk_slice _ 3 slices_S256x1536_o0_384_S256x128, ← chunk_slice _ 4 slices_S256x1536_o0_512_S256x128, ← chunk_slice _ 5 slices_S256x1536_o0_640_S256x128, ← chunk_slice _ 6 slices_S256x1536_o0_768_S256x128, ← chunk_slice _ 7 slices_S256x1536_o0_896_S256x128, ← chunk_slice _ 8 slices_S256x1536_o0_1024_S256x128, ← chunk_slice _ 9 slices_S256x1536_o0_1152_S256x128, ← chunk_slice _ 10 slices_S256x1536_o0_1280_S256x128, ← chunk_slice _ 11 slices_S256x1536_o0_1408_S256x128]
  rfl

end Cert.KernelIdeal.Value
-- ==== Proof.Exponent.lean ====
module

public import proofs.«01_k».proof.Proof.Decode
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- The number whose word has exponent field `n` and no fraction. -/
def pw (n : BitVec 32) : EReal := Ideal.ofBits FTy.f32 (IntOp.shli ArithUnit.vector n 23#32)

theorem pw_eq (n : ℕ) (h1 : 1 ≤ n) (h2 : n ≤ 254) : pw (BitVec.ofNat 32 n) = (((2 : ℝ) ^ ((n : ℤ) - 127) : ℝ) : EReal) := by
  have e : BitVec.ofNat 32 n = BitVec.setWidth 32 (BitVec.ofNat 8 n) := by
    apply BitVec.eq_of_toNat_eq
    simp only [BitVec.toNat_ofNat, BitVec.toNat_setWidth]
    omega
  have hn : (BitVec.ofNat 8 n).toNat = n := by
    simp only [BitVec.toNat_ofNat]; omega
  have h := dec_eq (BitVec.ofNat 8 n) (by omega) (by omega)
  rw [decR_eq, hn] at h
  unfold pw
  rw [e]
  exact h

theorem ofBits_top (w : BitVec 32) (hs : w.extractLsb' 31 1 = 0#1) (he : (w.extractLsb' 23 8).toNat = 255) (hf : (w.extractLsb' 0 23).toNat = 0) :
    Ideal.ofBits FTy.f32 w = ⊤ := by
  show Ideal.ieee 8 23 w = _
  unfold Ideal.ieee
  simp only [show (8 + 23 : ℕ) = 31 from rfl, hs, he, hf]
  simp

theorem pw_255 : pw (BitVec.ofNat 32 255) = ⊤ := ofBits_top _ (by decide) (by decide) (by decide)

/-- One step of the search, on one number. -/
def step (y : EReal) (s b : BitVec 32) : BitVec 32 := if pw (IntOp.addi b s) ≤ y then IntOp.addi b s else b

/-- The search, on one number. -/
def search (y : EReal) : BitVec 32 := step y 1#32 (step y 2#32 (step y 4#32 (step y 8#32 (step y 16#32 (step y 32#32 (step y 64#32 (step y 128#32 0#32)))))))

/-- The kernel's biased exponent of a number. -/
def bexp (y : EReal) : BitVec 32 := if search y = 0#32 then 126#32 else search y

/-- How many of the powers of two from `2 ^ (-126)` to `2 ^ 127` are not above the number. -/
def level (y : EReal) : ℕ := Nat.findGreatest (fun n => (((2 : ℝ) ^ ((n : ℤ) - 127) : ℝ) : EReal) ≤ y) 254

theorem level_le (y : EReal) : level y ≤ 254 := Nat.findGreatest_le _

theorem pow_mono {a b : ℕ} (h : a ≤ b) : (((2 : ℝ) ^ ((a : ℤ) - 127) : ℝ) : EReal) ≤ (((2 : ℝ) ^ ((b : ℤ) - 127) : ℝ) : EReal) := by
  rw [EReal.coe_le_coe_iff]
  exact zpow_le_zpow_right₀ (by norm_num) (by omega)

theorem level_iff (y : EReal) (n : ℕ) (h1 : 1 ≤ n) (h2 : n ≤ 254) : (((2 : ℝ) ^ ((n : ℤ) - 127) : ℝ) : EReal) ≤ y ↔ n ≤ level y := by
  constructor
  · exact fun h => Nat.le_findGreatest h2 h
  · intro h
    have h0 : level y ≠ 0 := by omega
    have hs : (((2 : ℝ) ^ (((level y : ℕ) : ℤ) - 127) : ℝ) : EReal) ≤ y := Nat.findGreatest_of_ne_zero (P := fun n => (((2 : ℝ) ^ ((n : ℤ) - 127) : ℝ) : EReal) ≤ y) rfl h0
    exact (pow_mono h).trans hs

/-- The search's step on words alone, against a level. -/
def stepN (N : BitVec 8) (s b : BitVec 8) : BitVec 8 := if b + s ≤ N then b + s else b

theorem searchN : ∀ N : BitVec 8, stepN N 1#8 (stepN N 2#8 (stepN N 4#8 (stepN N 8#8 (stepN N 16#8 (stepN N 32#8 (stepN N 64#8 (stepN N 128#8 0#8))))))) = N := by decide

theorem step_eq (y : EReal) (hy : y < ⊤) (s b : BitVec 8) (h0 : 1 ≤ b.toNat + s.toNat) (h : b.toNat + s.toNat ≤ 255) :
    step y (BitVec.setWidth 32 s) (BitVec.setWidth 32 b) = BitVec.setWidth 32 (stepN (BitVec.ofNat 8 (level y)) s b) := by
  have hl := level_le y
  have e : IntOp.addi (BitVec.setWidth 32 b) (BitVec.setWidth 32 s) = BitVec.ofNat 32 (b.toNat + s.toNat) := by
    apply BitVec.eq_of_toNat_eq
    show (BitVec.setWidth 32 b + BitVec.setWidth 32 s).toNat = _
    simp only [BitVec.toNat_ofNat, BitVec.toNat_setWidth, BitVec.toNat_add]
    omega
  have e' : BitVec.setWidth 32 (b + s) = BitVec.ofNat 32 (b.toNat + s.toNat) := by
    apply BitVec.eq_of_toNat_eq
    simp only [BitVec.toNat_ofNat, BitVec.toNat_setWidth, BitVec.toNat_add]
    omega
  have hle : (b + s ≤ BitVec.ofNat 8 (level y)) ↔ b.toNat + s.toNat ≤ level y := by
    rw [BitVec.le_def]
    simp only [BitVec.toNat_ofNat, BitVec.toNat_add]
    omega
  unfold step stepN
  rw [e]
  have hiff : pw (BitVec.ofNat 32 (b.toNat + s.toNat)) ≤ y ↔ b.toNat + s.toNat ≤ level y := by
    rcases Nat.lt_or_ge 254 (b.toNat + s.toNat) with h' | h'
    · have : b.toNat + s.toNat = 255 := by omega
      rw [this, pw_255]
      constructor
      · intro h; exact absurd (hy.trans_le h) (lt_irrefl _)
      · intro h; omega
    · rw [pw_eq _ h0 h', level_iff _ _ h0 h']
  by_cases hc : b.toNat + s.toNat ≤ level y
  · rw [if_pos (hiff.mpr hc), if_pos (hle.mpr hc), e']
  · rw [if_neg (fun h => hc (hiff.mp h)), if_neg (fun h => hc (hle.mp h))]

theorem stepN_le (N s b : BitVec 8) (m : ℕ) (h : b.toNat + s.toNat ≤ m) (h2 : m ≤ 255) : (stepN N s b).toNat ≤ m := by
  unfold stepN
  split
  · simp only [BitVec.toNat_add]; omega
  · omega

/-- Below infinity the search finds the level. -/
theorem search_eq (y : EReal) (hy : y < ⊤) : search y = BitVec.ofNat 32 (level y) := by
  have hl := level_le y
  have hN := searchN (BitVec.ofNat 8 (level y))
  have S := step_eq y hy
  generalize hN' : BitVec.ofNat 8 (level y) = N at hN S
  have B := stepN_le N
  have b1 := B 128#8 0#8 128 (by decide) (by decide)
  have s1 := S 128#8 0#8 (by decide) (by decide)
  generalize stepN N 128#8 0#8 = v1 at hN b1 s1
  have b2 := B 64#8 v1 192 (Nat.add_le_add_right b1 64) (by decide)
  have s2 := S 64#8 v1 (Nat.le_add_left_of_le (by decide)) (by change _ + 64 ≤ _; omega)
  generalize stepN N 64#8 v1 = v2 at hN b2 s2
  have b3 := B 32#8 v2 224 (Nat.add_le_add_right b2 32) (by decide)
  have s3 := S 32#8 v2 (Nat.le_add_left_of_le (by decide)) (by change _ + 32 ≤ _; omega)
  generalize stepN N 32#8 v2 = v3 at hN b3 s3
  have b4 := B 16#8 v3 240 (Nat.add_le_add_right b3 16) (by decide)
  have s4 := S 16#8 v3 (Nat.le_add_left_of_le (by decide)) (by change _ + 16 ≤ _; omega)
  generalize stepN N 16#8 v3 = v4 at hN b4 s4
  have b5 := B 8#8 v4 248 (Nat.add_le_add_right b4 8) (by decide)
  have s5 := S 8#8 v4 (Nat.le_add_left_of_le (by decide)) (by change _ + 8 ≤ _; omega)
  generalize stepN N 8#8 v4 = v5 at hN b5 s5
  have b6 := B 4#8 v5 252 (Nat.add_le_add_right b5 4) (by decide)
  have s6 := S 4#8 v5 (Nat.le_add_left_of_le (by decide)) (by change _ + 4 ≤ _; omega)
  generalize stepN N 4#8 v5 = v6 at hN b6 s6
  have b7 := B 2#8 v6 254 (Nat.add_le_add_right b6 2) (by decide)
  have s7 := S 2#8 v6 (Nat.le_add_left_of_le (by decide)) (by change _ + 2 ≤ _; omega)
  generalize stepN N 2#8 v6 = v7 at hN b7 s7
  have s8 := S 1#8 v7 (Nat.le_add_left_of_le (by decide)) (by change _ + 1 ≤ _; omega)
  have hn : BitVec.setWidth 32 N = BitVec.ofNat 32 (level y) := by
    rw [← hN']
    apply BitVec.eq_of_toNat_eq
    simp only [BitVec.toNat_ofNat, BitVec.toNat_setWidth]
    omega
  rw [← hn, ← hN, ← s8, ← s7, ← s6, ← s5, ← s4, ← s3, ← s2, ← s1]
  rfl

theorem pow_126 : Ideal.ofBits FTy.f32 8388608#32 = (((2 : ℝ) ^ ((1 : ℤ) - 127) : ℝ) : EReal) := pw_eq 1 (by decide) (by decide)

/-- The reference's exponent of a number. -/
def rexp (y : EReal) : BitVec 32 :=
  if y < Ideal.ofBits FTy.f32 8388608#32 then 0#32 else IntOp.subi (Finset.fold IntOp.addi (0#32) (fun x : Fin 254 =>
    BitVec.setWidth 32 (BitVec.ofBool (decide ((FloatOps.exp2 (F := Ideal) (φ := .f32) (FloatOps.sitofp FTy.f32 (IntOp.subi (BitVec.ofNat 32 x.val) 126#32)) : EReal) ≤ y)))) Finset.univ) 126#32

theorem toInt_sub : ∀ x : Fin 254, (IntOp.subi (BitVec.ofNat 32 x.val) 126#32).toInt = (x.val : ℤ) - 126 := by decide

theorem exp2_int (z : ℤ) : Ideal.exp2 (((z : ℝ) : EReal)) = (((2 : ℝ) ^ z : ℝ) : EReal) := by
  rw [Ideal.exp2_coe]
  refine congrArg Real.toEReal ?_
  rw [← Real.rpow_intCast]
  rfl

theorem count_level (L : ℕ) (hL : L ≤ 254) : Finset.fold IntOp.addi (0#32) (fun x : Fin 254 => BitVec.setWidth 32 (BitVec.ofBool (decide (x.val + 1 ≤ L)))) Finset.univ = BitVec.ofNat 32 L := by
  have h : ∀ S : Finset (Fin 254), Finset.fold IntOp.addi (0#32) (fun x : Fin 254 => BitVec.setWidth 32 (BitVec.ofBool (decide (x.val + 1 ≤ L)))) S
      = BitVec.ofNat 32 (S.filter fun x => x.val + 1 ≤ L).card := by
    intro S
    induction S using Finset.cons_induction with
    | empty => rfl
    | cons a S ha ih =>
      rw [Finset.fold_cons, ih, Finset.filter_cons]
      by_cases hc : a.val + 1 ≤ L
      · rw [if_pos hc, Finset.card_cons, decide_eq_true hc]
        apply BitVec.eq_of_toNat_eq
        show (BitVec.setWidth 32 (BitVec.ofBool true) + _).toNat = _
        simp only [BitVec.toNat_add, BitVec.toNat_ofNat]
        simp
        omega
      · rw [if_neg hc, decide_eq_false hc]
        apply BitVec.eq_of_toNat_eq
        show (BitVec.setWidth 32 (BitVec.ofBool false) + _).toNat = _
        simp
  rw [h]
  congr 1
  have : (Finset.univ.filter fun x : Fin 254 => x.val + 1 ≤ L).card = (Finset.range L).card := by
    refine Finset.card_bij (fun x _ => x.val) (fun x hx => ?_) (fun x _ y _ h => Fin.ext h) (fun n hn => ?_)
    · simp only [Finset.mem_filter] at hx
      exact Finset.mem_range.mpr (by omega)
    · have := Finset.mem_range.mp hn
      exact ⟨⟨n, by omega⟩, by simp only [Finset.mem_filter]; exact ⟨Finset.mem_univ _, by show n + 1 ≤ L; omega⟩, rfl⟩
  rw [this, Finset.card_range]

/-- The reference's exponent, by the level. -/
theorem rexp_eq (y : EReal) : rexp y = if level y = 0 then 0#32 else IntOp.subi (BitVec.ofNat 32 (level y)) 126#32 := by
  unfold rexp
  have h0 : y < Ideal.ofBits FTy.f32 8388608#32 ↔ level y = 0 := by
    rw [pow_126]
    have := level_iff y 1 (by decide) (by decide)
    rw [← not_le]
    constructor
    · intro h; by_contra hc; exact h (this.mpr (by omega))
    · intro h hc; have := this.mp hc; omega
  by_cases h : level y = 0
  · rw [if_pos (h0.mpr h), if_pos h]
  · rw [if_neg (fun hc => h (h0.mp hc)), if_neg h]
    refine congrArg (fun z => IntOp.subi z 126#32) ?_
    rw [← count_level (level y) (level_le y)]
    refine congrArg (fun f => Finset.fold IntOp.addi (0#32) f Finset.univ) (funext fun x => ?_)
    refine congrArg (fun b => BitVec.setWidth 32 (BitVec.ofBool b)) ?_
    refine decide_eq_decide.mpr ?_
    have hx : (FloatOps.exp2 (F := Ideal) (φ := .f32) (FloatOps.sitofp FTy.f32 (IntOp.subi (BitVec.ofNat 32 x.val) 126#32)) : EReal)
        = (((2 : ℝ) ^ (((x.val + 1 : ℕ) : ℤ) - 127) : ℝ) : EReal) := by
      show Ideal.exp2 (((IntOp.subi (BitVec.ofNat 32 x.val) 126#32).toInt : ℝ) : EReal) = _
      rw [exp2_int, toInt_sub]
      refine congrArg Real.toEReal (congrArg _ ?_)
      push_cast; ring
    rw [hx]
    exact level_iff y _ (by omega) (by omega)

/-- Below `2 ^ 126` the level is at most 252. -/
theorem level_252 (y : EReal) (hy : y < (((2 : ℝ) ^ (126 : ℤ) : ℝ) : EReal)) : level y ≤ 252 := by
  by_contra hc
  have := (level_iff y 253 (by decide) (by decide)).mpr (by omega)
  exact absurd (hy.trans_le this) (lt_irrefl _)

/-- The kernel's biased exponent, below `2 ^ 126`: between 1 and 252, and 126 more than the reference's exponent. -/
theorem bexp_eq (y : EReal) (hy : y < (((2 : ℝ) ^ (126 : ℤ) : ℝ) : EReal)) :
    ∃ n : Fin 253, 1 ≤ n.val ∧ bexp y = BitVec.ofNat 32 n.val ∧ rexp y = IntOp.subi (BitVec.ofNat 32 n.val) 126#32 := by
  have hl := level_252 y hy
  have hs := search_eq y (hy.trans (EReal.coe_lt_top _))
  by_cases h : level y = 0
  · refine ⟨126, by decide, ?_, ?_⟩
    · unfold bexp; rw [hs, h]; rfl
    · rw [rexp_eq, if_pos h]; rfl
  · refine ⟨⟨level y, by omega⟩, by show 1 ≤ level y; omega, ?_, ?_⟩
    · unfold bexp
      rw [hs, if_neg]
      intro hc
      have := congrArg BitVec.toNat hc
      simp only [BitVec.toNat_ofNat] at this
      omega
    · rw [rexp_eq, if_neg h]

theorem inv_word : ∀ n : Fin 253, IntOp.subi 253#32 (BitVec.ofNat 32 n.val) = BitVec.ofNat 32 (253 - n.val) := by decide
theorem neg_int : ∀ n : Fin 253, (IntOp.subi (BitVec.ofNat 32 n.val) 126#32).toInt = (n.val : ℤ) - 126 := by decide
theorem one_word : ∀ n : Fin 253, IntOp.addi (BitVec.ofNat 32 n.val) 1#32 = BitVec.ofNat 32 (n.val + 1) := by decide
theorem byte_word : ∀ n : Fin 253, IntOp.addi (IntOp.subi (BitVec.ofNat 32 n.val) 126#32) 127#32 = IntOp.addi (BitVec.ofNat 32 n.val) 1#32 := by decide
theorem byte_int : ∀ n : Fin 253, (IntOp.addi (BitVec.ofNat 32 n.val) 1#32).toInt = (n.val : ℤ) + 1 := by decide

/-- The two scale bytes' words are the same. -/
theorem scale_eq (y : EReal) (hy : y < (((2 : ℝ) ^ (126 : ℤ) : ℝ) : EReal)) : IntOp.addi (rexp y) 127#32 = IntOp.addi (bexp y) 1#32 := by
  obtain ⟨n, -, e1, e2⟩ := bexp_eq y hy
  rw [e1, e2, byte_word]

/-- The two inverse scales are the same power of two. -/
theorem inv_eq (y : EReal) (hy : y < (((2 : ℝ) ^ (126 : ℤ) : ℝ) : EReal)) :
    (FloatOps.exp2 (F := Ideal) (φ := .f32) ((0 : EReal) - (FloatOps.sitofp (F := Ideal) FTy.f32 (rexp y) : EReal)) : EReal) = pw (IntOp.subi 253#32 (bexp y)) := by
  obtain ⟨n, h1, e1, e2⟩ := bexp_eq y hy
  rw [e1, e2, inv_word, pw_eq _ (by omega) (by omega)]
  show Ideal.exp2 ((0 : EReal) - (((IntOp.subi (BitVec.ofNat 32 n.val) 126#32).toInt : ℝ) : EReal)) = _
  rw [neg_int, ← EReal.coe_zero, ← EReal.coe_sub, show ((0 : ℝ) - (((n.val : ℤ) - 126 : ℤ) : ℝ)) = (((126 : ℤ) - n.val : ℤ) : ℝ) by push_cast; ring, exp2_int]
  refine congrArg Real.toEReal (congrArg _ ?_)
  have := n.isLt
  omega

/-- The two scales are the same power of two. -/
theorem fwd_eq (y : EReal) (hy : y < (((2 : ℝ) ^ (126 : ℤ) : ℝ) : EReal)) :
    (FloatOps.exp2 (F := Ideal) (φ := .f32) ((FloatOps.sitofp (F := Ideal) FTy.f32 (IntOp.addi (rexp y) 127#32) : EReal) - Ideal.ofBits FTy.f32 1123942400#32) : EReal)
      = pw (IntOp.addi (bexp y) 1#32) := by
  rw [scale_eq y hy]
  obtain ⟨n, h1, e1, -⟩ := bexp_eq y hy
  rw [e1, c127]
  show Ideal.exp2 ((((IntOp.addi (BitVec.ofNat 32 n.val) 1#32).toInt : ℝ) : EReal) - ((127 : ℝ) : EReal)) = _
  rw [byte_int, one_word, pw_eq _ (by omega) (by omega), ← EReal.coe_sub, show (((n.val : ℤ) + 1 : ℤ) : ℝ) - 127 = (((n.val : ℤ) + 1 - 127 : ℤ) : ℝ) by push_cast; ring, exp2_int]
  refine congrArg Real.toEReal (congrArg _ ?_)
  push_cast; ring

end Cert.KernelIdeal.Value
-- ==== Proof.Norm.lean ====
module

public import proofs.«01_k».proof.Proof.Exponent
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- The normed row: each number times the inverse root of the mean square, times its weight. -/
def normed (r w : Fin 1536 → EReal) (d : Fin 1536) : EReal :=
  r d * Ideal.rsqrt (Ideal.div (∑ x, r x * r x) (Ideal.ofBits FTy.f32 1153433600#32) + Ideal.ofBits FTy.f32 897988541#32) * w d

/-- The largest of 32 sizes. -/
def top32 (f : Fin 32 → EReal) : EReal := Finset.fold max (Ideal.ofBits FTy.f32 4286578688#32) (fun x => max (f x) (-f x)) (Finset.univ : Finset (Fin 32))

/-- A group's largest size over 448. -/
def scl (x : Fin 1536 → EReal) (g : Fin 48) : EReal :=
  top32 (fun k => x (⟨g.val * 32 + k.val, by omega⟩ : Fin 1536)) * Ideal.ofBits FTy.f32 991054117#32

theorem ofBits_bot (w : BitVec 32) (hs : w.extractLsb' 31 1 = 1#1) (he : (w.extractLsb' 23 8).toNat = 255) (hf : (w.extractLsb' 0 23).toNat = 0) :
    Ideal.ofBits FTy.f32 w = ⊥ := by
  show Ideal.ieee 8 23 w = _
  unfold Ideal.ieee
  simp only [show (8 + 23 : ℕ) = 31 from rfl, hs, he, hf]
  simp

theorem bot_word : Ideal.ofBits FTy.f32 4286578688#32 = ⊥ := ofBits_bot _ (by decide) (by decide) (by decide)

theorem fold_max_le {n : ℕ} (f : Fin n → EReal) (z : EReal) : Finset.fold max ⊥ f Finset.univ ≤ z ↔ ∀ k, f k ≤ z := by
  rw [Finset.fold_max_le]
  exact ⟨fun h k => h.2 k (Finset.mem_univ _), fun h => ⟨bot_le, fun k _ => h k⟩⟩

theorem top32_le (f : Fin 32 → EReal) (z : EReal) : top32 f ≤ z ↔ ∀ k, max (f k) (-f k) ≤ z := by
  unfold top32
  rw [bot_word]
  exact fold_max_le _ z

theorem c1536 : Ideal.ofBits FTy.f32 1153433600#32 = ((1536 : ℝ) : EReal) := by
  rw [ofBits_normal _ 137 4194304 (by decide) (by decide) (by decide) (by decide) (by decide)]
  norm_num

theorem eps_word : Ideal.ofBits FTy.f32 897988541#32 = (((8388608 + 407485 : ℕ) : ℝ) * (2 : ℝ) ^ (-43 : ℤ) : ℝ) := by
  rw [ofBits_normal _ 107 407485 (by decide) (by decide) (by decide) (by decide) (by decide)]
  norm_num

theorem c448 : Ideal.ofBits FTy.f32 991054117#32 = ((((8388608 + 1198373 : ℕ) : ℝ) * (2 : ℝ) ^ (-32 : ℤ) : ℝ) : EReal) := by
  rw [ofBits_normal _ 118 1198373 (by decide) (by decide) (by decide) (by decide) (by decide)]
  norm_num

theorem mul_self_nonneg' (a : EReal) : 0 ≤ a * a := by
  rcases le_total 0 a with h | h
  · exact EReal.mul_nonneg h h
  · rw [← neg_mul_neg]
    exact EReal.mul_nonneg (EReal.neg_nonneg.mpr h) (EReal.neg_nonneg.mpr h)

/-- A number's size times the inverse root of the mean square is at most 40. -/
theorem root_bound (r : Fin 1536 → EReal) (d : Fin 1536) :
    ∃ t : ℝ, |t| ≤ 40 ∧ r d * Ideal.rsqrt (Ideal.div (∑ x, r x * r x) (Ideal.ofBits FTy.f32 1153433600#32) + Ideal.ofBits FTy.f32 897988541#32) = (t : EReal) := by
  have hs : r d * r d ≤ ∑ x, r x * r x := Finset.single_le_sum (f := fun x => r x * r x) (fun x _ => mul_self_nonneg' _) (Finset.mem_univ d)
  generalize (∑ x, r x * r x) = S at hs
  have hS0 : 0 ≤ S := (mul_self_nonneg' _).trans hs
  rw [c1536, eps_word]
  have hdiv : Ideal.div S ((1536 : ℝ) : EReal) = S * (((1536 : ℝ)⁻¹ : ℝ) : EReal) := by
    unfold Ideal.div
    rw [if_neg (by norm_num)]
    rfl
  rw [hdiv]
  generalize r d = a at hs
  induction S using EReal.rec with
  | bot => exact absurd hS0 (by simp)
  | top =>
    refine ⟨0, by norm_num, ?_⟩
    rw [EReal.top_mul_coe_of_pos (by norm_num), EReal.top_add_coe]
    simp
  | coe s =>
    induction a using EReal.rec with
    | bot => exact absurd hs (by simp)
    | top => exact absurd hs (by simp)
    | coe a =>
      have hs' : a * a ≤ s := by
        rw [← EReal.coe_mul, EReal.coe_le_coe_iff] at hs; exact hs
      rw [← EReal.coe_mul, ← EReal.coe_add]
      have hq : 0 < s * (1536 : ℝ)⁻¹ + ((8388608 + 407485 : ℕ) : ℝ) * (2 : ℝ) ^ (-43 : ℤ) := by
        have : 0 ≤ s := (mul_self_nonneg a).trans hs'
        positivity
      have hqa : a * a ≤ 1600 * (s * (1536 : ℝ)⁻¹ + ((8388608 + 407485 : ℕ) : ℝ) * (2 : ℝ) ^ (-43 : ℤ)) := by
        have h0 : 0 ≤ s := (mul_self_nonneg a).trans hs'
        have h1 : (0 : ℝ) ≤ ((8388608 + 407485 : ℕ) : ℝ) * (2 : ℝ) ^ (-43 : ℤ) := by positivity
        have h2 : s ≤ 1600 * (s * (1536 : ℝ)⁻¹) := by
          have : 1600 * (s * (1536 : ℝ)⁻¹) = s + s * (64 / 1536) := by ring
          rw [this]; nlinarith
        linarith
      generalize s * (1536 : ℝ)⁻¹ + ((8388608 + 407485 : ℕ) : ℝ) * (2 : ℝ) ^ (-43 : ℤ) = q at hq hqa
      rw [Ideal.rsqrt_coe, if_neg (not_lt.mpr hq.le), if_neg hq.ne', ← EReal.coe_mul]
      refine ⟨a * (Real.sqrt q)⁻¹, ?_, rfl⟩
      have hr : 0 < Real.sqrt q := Real.sqrt_pos.mpr hq
      rw [abs_mul, abs_of_pos (inv_pos.mpr hr), ← div_eq_mul_inv, div_le_iff₀ hr]
      refine abs_le_of_sq_le_sq ?_ (by positivity)
      rw [mul_pow, Real.sq_sqrt hq.le]
      nlinarith

/-- With weights no larger than single precision's largest number, every group's number is below `2 ^ 126`. -/
theorem scl_lt (r w : Fin 1536 → EReal) (hw : ∀ d, ∃ u : ℝ, |u| ≤ 2 ^ 128 ∧ w d = (u : EReal)) (g : Fin 48) :
    scl (normed r w) g < (((2 : ℝ) ^ (126 : ℤ) : ℝ) : EReal) := by
  have h : top32 (fun k => normed r w (⟨g.val * 32 + k.val, by omega⟩ : Fin 1536)) ≤ ((40 * 2 ^ 128 : ℝ) : EReal) := by
    rw [top32_le]
    intro k
    generalize (⟨g.val * 32 + k.val, _⟩ : Fin 1536) = d
    obtain ⟨t, ht, et⟩ := root_bound r d
    obtain ⟨u, hu, eu⟩ := hw d
    unfold normed
    rw [et, eu, ← EReal.coe_mul, ← EReal.coe_neg]
    have hb : |t * u| ≤ 40 * 2 ^ 128 := by
      rw [abs_mul]; exact mul_le_mul ht hu (abs_nonneg _) (by norm_num)
    exact max_le (EReal.coe_le_coe_iff.mpr ((le_abs_self _).trans hb)) (EReal.coe_le_coe_iff.mpr ((neg_le_abs _).trans hb))
  unfold scl
  rw [c448]
  refine (mul_le_mul_of_nonneg_right h (EReal.coe_nonneg.mpr (by positivity))).trans_lt ?_
  rw [← EReal.coe_mul, EReal.coe_lt_coe_iff]
  norm_num

end Cert.KernelIdeal.Value
-- ==== Proof.Requant.lean ====
module

public import proofs.«01_k».proof.Proof.Bytes
public import proofs.«01_k».proof.Proof.Norm
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

theorem sel_eq {α : Type} (a n : BitVec 32) (x y : α) : Scalar.select (IntOp.cmpi .eq a n) x y = if a = n then x else y := by
  by_cases h : a = n
  · rw [if_pos h, h]
    unfold Scalar.select IntOp.cmpi
    simp
  · rw [if_neg h]
    unfold Scalar.select IntOp.cmpi
    have hb : (a == n) = false := by simpa using h
    simp [hb]

/-- Where a lane's window of `m` lanes begins and which numbers it holds: below `z` together. -/
theorem wider_le (A : FVec Ideal S256x128 .f32) (s : BitVec 32) (p : Fin 256) (l : Fin 128) (z : EReal) (hs : s.toNat < 128) :
    (wider s A (ix2 p l) : EReal) ≤ z ↔ (A (ix2 p l) : EReal) ≤ z ∧ (A (ix2 p (⟨(l.val + (128 - s.toNat)) % 128, Nat.mod_lt _ (by decide)⟩ : Fin 128)) : EReal) ≤ z := by
  have h : (wider s A (ix2 p l) : EReal) = max (A (ix2 p l)) (A (ix2 p (⟨(l.val + (128 - s.toNat)) % 128, Nat.mod_lt _ (by decide)⟩ : Fin 128))) := by
    unfold wider
    refine congrArg₂ (fun a b : EReal => max a b) rfl ?_
    refine (Pointwise.dynamicRotate_apply (s := S256x128) 1 s none A rotates_S256x128_d1 (ix2 p l)).trans (congrArg A ?_)
    funext b
    fin_cases b
    · rfl
    · refine Fin.ext ?_
      show (l.val + 128 - (s.toNat + 0) % 128) % 128 = (l.val + (128 - s.toNat)) % 128
      omega
  rw [h, max_le_iff]

/-- Doubling a window. -/
theorem wider_step (A : FVec Ideal S256x128 .f32) (B : Fin 256 → Fin 128 → EReal) (s : BitVec 32) (m : ℕ) (hs : s.toNat < 128) (hm : 128 - s.toNat = m) (z : EReal)
    (h : ∀ p l, (A (ix2 p l) : EReal) ≤ z ↔ ∀ k < m, B p (⟨(l.val + k) % 128, Nat.mod_lt _ (by decide)⟩ : Fin 128) ≤ z) (p : Fin 256) (l : Fin 128) :
    (wider s A (ix2 p l) : EReal) ≤ z ↔ ∀ k < m + m, B p (⟨(l.val + k) % 128, Nat.mod_lt _ (by decide)⟩ : Fin 128) ≤ z := by
  rw [wider_le A s p l z hs, h, h]
  constructor
  · rintro ⟨h1, h2⟩ k hk
    by_cases hc : k < m
    · exact h1 k hc
    · have := h2 (k - m) (by omega)
      refine le_of_eq_of_le (congrArg (B p) (Fin.ext ?_)) this
      show (l.val + k) % 128 = ((l.val + (128 - s.toNat)) % 128 + (k - m)) % 128
      omega
  · intro h'
    refine ⟨fun k hk => h' k (by omega), fun k hk => ?_⟩
    refine le_of_eq_of_le (congrArg (B p) (Fin.ext ?_)) (h' (m + k) (by omega))
    show ((l.val + (128 - s.toNat)) % 128 + k) % 128 = (l.val + (m + k)) % 128
    omega

theorem sizes_at (xv : FVec Ideal S256x128 .f32) (p : Fin 256) (q : Fin 4) :
    (sizes xv (ix2 p (⟨32 * q.val, by omega⟩ : Fin 128)) : EReal)
      = top32 (fun k => xv (ix2 p (⟨32 * q.val + k.val, by omega⟩ : Fin 128))) * Ideal.ofBits FTy.f32 991054117#32 := by
  refine congrArg (fun z : EReal => z * Ideal.ofBits FTy.f32 991054117#32) ?_
  refine eq_of_forall_ge_iff fun z => ?_
  rw [top32_le]
  let B : Fin 256 → Fin 128 → EReal := fun p l => max (xv (ix2 p l)) (-xv (ix2 p l))
  have h0 : ∀ p l, (absf xv (ix2 p l) : EReal) ≤ z ↔ ∀ k < 1, B p (⟨(l.val + k) % 128, Nat.mod_lt _ (by decide)⟩ : Fin 128) ≤ z := by
    intro p l
    have e : B p (⟨(l.val + 0) % 128, Nat.mod_lt _ (by decide)⟩ : Fin 128) = absf xv (ix2 p l) :=
      congrArg (B p) (Fin.ext (by show (l.val + 0) % 128 = l.val; omega))
    constructor
    · intro h k hk
      obtain rfl : k = 0 := by omega
      exact e.le.trans h
    · intro h; exact e.ge.trans (h 0 (by decide))
  have h1 := wider_step _ B 127#32 1 (by decide) (by decide) z h0
  have h2 := wider_step _ B 126#32 2 (by decide) (by decide) z h1
  have h4 := wider_step _ B 124#32 4 (by decide) (by decide) z h2
  have h8 := wider_step _ B 120#32 8 (by decide) (by decide) z h4
  have h16 := wider_step _ B 112#32 16 (by decide) (by decide) z h8
  refine (h16 p _).trans ⟨fun h k => ?_, fun h k hk => ?_⟩
  · refine le_of_eq_of_le (congrArg (B p) (Fin.ext ?_)) (h k.val k.isLt)
    show 32 * q.val + k.val = (32 * q.val + k.val) % 128
    omega
  · refine le_of_eq_of_le (congrArg (B p) (Fin.ext ?_)) (h ⟨k, hk⟩)
    show (32 * q.val + k) % 128 = 32 * q.val + k
    omega

theorem tryBit_at (y : FVec Ideal S256x128 .f32) (s : BitVec 32) (b : IVec S256x128 32) (p : Fin 256) (l : Fin 128) :
    tryBit y s b (ix2 p l) = step (y (ix2 p l)) s (b (ix2 p l)) := by
  pointwise [tryBit, step, pw]

theorem biased_at (y : FVec Ideal S256x128 .f32) (p : Fin 256) (l : Fin 128) : biased y (ix2 p l) = bexp (y (ix2 p l)) := by
  pointwise [biased, tryBit_at, bexp, search]
  try rw [sel_eq]

theorem gather_at (b : IVec S256x128 32) (p : Fin 256) (l : Fin 128) :
    k0_pay500 b (k0_pay498 lanes2) (k0_pay499 lanes2) (ix2 p l) = b (ix2 p (⟨32 * (l.val / 32), by omega⟩ : Fin 128)) := by
  pointwise [k0_pay500, k0_pay498, k0_pay499]
  refine congrArg b (congrArg (ix2 p) (Fin.ext ?_))
  dsimp only
  clear b p
  revert l
  decide

/-- Between -448 and 448. -/
def clip (z : EReal) : EReal := min (Ideal.ofBits FTy.f32 1138753536#32) (max (Ideal.ofBits FTy.f32 3286237184#32) z)

theorem chunk_scl (X : FVec Ideal S256x1536 .f32) (v : Fin 12) (p : Fin 256) (q : Fin 4) :
    (sizes (chunk X v) (ix2 p (⟨32 * q.val, by omega⟩ : Fin 128)) : EReal) = scl (fun d => X (ix2 p d)) (⟨4 * v.val + q.val, by omega⟩ : Fin 48) := by
  rw [sizes_at]
  unfold scl
  refine congrArg (fun f => top32 f * Ideal.ofBits FTy.f32 991054117#32) (funext fun k => ?_)
  refine congrArg X (congrArg (ix2 p) (Fin.ext ?_))
  show 128 * v.val + (32 * q.val + k.val) = (4 * v.val + q.val) * 32 + k.val
  omega

theorem pay501_at (xv : FVec Ideal S256x128 .f32) (b : IVec S256x128 32) (p : Fin 256) (l : Fin 128) :
    (k0_pay501 xv b (k0_pay498 lanes2) (k0_pay499 lanes2) (ix2 p l) : EReal) = clip (xv (ix2 p l) * pw (IntOp.subi 253#32 (b (ix2 p (⟨32 * (l.val / 32), by omega⟩ : Fin 128))))) := by
  have h := gather_at b p l
  generalize hG : k0_pay500 b (k0_pay498 lanes2) (k0_pay499 lanes2) = G at h
  rw [← h]
  pointwise [k0_pay501, hG, clip, pw]

/-- One code. -/
theorem code_at (X : FVec Ideal S256x1536 .f32) (p : Fin 256) (d : Fin 1536) :
    (cols (e := .fp8e4m3) (fun v => codeOf (chunk X v) lanes2) (ix2 p d) : EReal)
      = clip (X (ix2 p d) * pw (IntOp.subi 253#32 (bexp (scl (fun d => X (ix2 p d)) (⟨d.val / 32, by omega⟩ : Fin 48))))) := by
  have h1 := pay501_at (chunk X (⟨d.val / 128, by omega⟩ : Fin 12)) (biased (sizes (chunk X (⟨d.val / 128, by omega⟩ : Fin 12)))) p (⟨d.val % 128, Nat.mod_lt _ (by decide)⟩ : Fin 128)
  refine h1.trans (congrArg clip (congrArg₂ (fun a b : EReal => a * b) (congrArg X (congrArg (ix2 p) (Fin.ext ?_))) (congrArg (fun z => pw (IntOp.subi 253#32 z)) ?_)))
  · show 128 * (d.val / 128) + d.val % 128 = d.val; omega
  · rw [biased_at]
    have h2 := chunk_scl X (⟨d.val / 128, by omega⟩ : Fin 12) p (⟨d.val % 128 / 32, by omega⟩ : Fin 4)
    refine congrArg bexp (h2.trans (congrArg (scl _) (Fin.ext ?_)))
    show 4 * (d.val / 128) + d.val % 128 / 32 = d.val / 32
    omega

theorem quot4_at (p : Fin 256) (l : Fin 128) : quot4 lanes2 (ix2 p l) = BitVec.ofNat 32 (l.val / 4) := by
  pointwise [quot4]
  clear p
  revert l
  decide

theorem put_at (n : BitVec 32) (b old : IVec S256x128 32) (p : Fin 256) (l : Fin 128) :
    put lanes2 n b old (ix2 p l) = if BitVec.ofNat 32 (l.val / 4) = n then b (ix2 p (⟨32 * (l.val % 4), by omega⟩ : Fin 128)) else old (ix2 p l) := by
  have h := quot4_at p l
  generalize hQ : quot4 lanes2 = Q at h
  rw [← h]
  pointwise [put, hQ, first4]
  rw [sel_eq]
  refine congrArg (fun z => if Q (ix2 p l) = n then z else old (ix2 p l)) ?_
  refine congrArg b (congrArg (ix2 p) (Fin.ext ?_))
  dsimp only
  clear h hQ b old Q p
  revert l
  decide

theorem gathered_at (X : FVec Ideal S256x1536 .f32) (p : Fin 256) (g : Fin 48) :
    gathered X lanes2 (ix2 p (⟨g.val, by omega⟩ : Fin 128)) = bexp (scl (fun d => X (ix2 p d)) g) := by
  have h : ∀ (v : Fin 12) (E : Fin 12 → BitVec 32), (if BitVec.ofNat 32 v.val = 11#32 then E 11 else if BitVec.ofNat 32 v.val = 10#32 then E 10 else
      if BitVec.ofNat 32 v.val = 9#32 then E 9 else if BitVec.ofNat 32 v.val = 8#32 then E 8 else if BitVec.ofNat 32 v.val = 7#32 then E 7 else
      if BitVec.ofNat 32 v.val = 6#32 then E 6 else if BitVec.ofNat 32 v.val = 5#32 then E 5 else if BitVec.ofNat 32 v.val = 4#32 then E 4 else
      if BitVec.ofNat 32 v.val = 3#32 then E 3 else if BitVec.ofNat 32 v.val = 2#32 then E 2 else if BitVec.ofNat 32 v.val = 1#32 then E 1 else
      if BitVec.ofNat 32 v.val = 0#32 then E 0 else 0#32) = E v := by
    intro v E
    fin_cases v <;> rfl
  unfold gathered
  simp only [put_at]
  refine (h (⟨g.val / 4, by omega⟩ : Fin 12) (fun v => expo X v (ix2 p (⟨32 * (g.val % 4), by omega⟩ : Fin 128)))).trans ?_
  unfold expo
  rw [biased_at]
  have h2 := chunk_scl X (⟨g.val / 4, by omega⟩ : Fin 12) p (⟨g.val % 4, by omega⟩ : Fin 4)
  refine congrArg bexp (h2.trans (congrArg (scl _) (Fin.ext ?_)))
  show 4 * (g.val / 4) + g.val % 4 = g.val
  omega

/-- One scale byte. -/
theorem byte_at (X : FVec Ideal S256x1536 .f32) (p : Fin 256) (g : Fin 48) :
    bytesOf X lanes2 (ix3 (0 : Fin 1) g p) = BitVec.setWidth 8 (IntOp.addi (bexp (scl (fun d => X (ix2 p d)) g)) 1#32) := by
  have h := gathered_at X p g
  generalize hG : gathered X lanes2 = G at h
  rw [← h]
  pointwise [bytesOf, hG, k0_pay681]

/-- One normed number. -/
theorem xOf_at (C : Vec Ideal S256x8960 .fp8e4m3) (b : Vec Ideal S1x280x256 .i8) (W2 : Vec Ideal S4480x2x1536 .bf16) (R : Vec Ideal S256x1536 .bf16)
    (nw : Vec Ideal S1x1536 .f32) (p : Fin 256) (d : Fin 1536) :
    (xOf C b W2 R nw (ix2 p d) : EReal) = normed (fun x => roOf C b W2 R (ix2 p x)) (fun x => nw (ix2 (0 : Fin 1) x)) d := by
  have h7 : k0_pay487 (scaledRows C (k0_pay485 b)) W2 R = (roOf C b W2 R : S256x1536.Idx → EReal) := rfl
  unfold xOf
  generalize hr : roOf C b W2 R = r at h7
  pointwise [k0_pay489, k0_pay488, h7, normed]

end Cert.KernelIdeal.Value
-- ==== Proof.QuantPoint.lean ====
module

public import proofs.«01_k».proof.Proof.Requant
public import proofs.«01_k».proof.Proof.Result
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

/-- The point at which the weights are decoded. -/
abbrev first {n : ℕ} (h : n < cfg0.N) : Fin cfg0.N := ⟨0, Nat.lt_of_le_of_lt (Nat.zero_le _) h⟩

/-- A point's normed rows. -/
def xAt (c : Dev nD) (t : Fin cfg0.N) : FVec Ideal S256x1536 .f32 :=
  xOf (iblk m c 0 t) (iblk m c 1 t) (wdOf (wdCodes m c) (iblk m c 2 (first t.isLt))) (iblk m c 3 t) (iblk m c 4 t)

set_option maxHeartbeats 800000 in
/-- The codes' block at every point. -/
theorem xc_pt (c : Dev nD) (t : Fin cfg0.N) :
    (outsAt0 m c t.val t.isLt).2.2.2.2.1 = cols (e := .fp8e4m3) (fun v => codeOf (chunk (xAt m c t) v) lanes2) := by
  by_cases h0 : t.val % 48 = 0
  · have ht : t = first t.isLt := by
      apply Fin.ext
      have : t.val < 48 := t.isLt
      show t.val = 0
      omega
    unfold xAt
    rw [← ht]
    refine (congrArg (fun o => o.2.2.2.2.1) (outsAt0_A m c t h0)).trans ?_
    dsimp only
    refine (xc_A ..).trans ?_
    unfold wdCodes
    rfl
  · refine (congrArg (fun o => o.2.2.2.2.1) (outsAt0_B m c t h0)).trans ?_
    dsimp only
    refine (xc_B ..).trans ?_
    exact congrArg (fun W => cols (e := .fp8e4m3) (fun v => codeOf (chunk (xOf (iblk m c 0 t) (iblk m c 1 t) W (iblk m c 3 t) (iblk m c 4 t)) v) lanes2)) (wd_at m c _ _)

set_option maxHeartbeats 800000 in
/-- The scale bytes' block at every point. -/
theorem xs_pt (c : Dev nD) (t : Fin cfg0.N) :
    (outsAt0 m c t.val t.isLt).2.2.2.2.2.1 = bytesOf (xAt m c t) lanes2 := by
  by_cases h0 : t.val % 48 = 0
  · have ht : t = first t.isLt := by
      apply Fin.ext
      have : t.val < 48 := t.isLt
      show t.val = 0
      omega
    unfold xAt
    rw [← ht]
    refine (congrArg (fun o => o.2.2.2.2.2.1) (outsAt0_A m c t h0)).trans ?_
    dsimp only
    refine (xs_A ..).trans ?_
    unfold wdCodes
    rfl
  · refine (congrArg (fun o => o.2.2.2.2.2.1) (outsAt0_B m c t h0)).trans ?_
    dsimp only
    refine (xs_B ..).trans ?_
    exact congrArg (fun W => bytesOf (xOf (iblk m c 0 t) (iblk m c 1 t) W (iblk m c 3 t) (iblk m c 4 t)) lanes2) (wd_at m c _ _)

end Cert.KernelIdeal.Value
-- ==== Proof.KernelQuant.lean ====
module

public import proofs.«01_k».proof.Proof.QuantPoint
public import proofs.«01_k».proof.Proof.KernelResidual
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

/-- A normed row of the arguments. -/
def NX (x0 : Vec Ideal S16x768x8960 .fp8e4m3) (x1 : Vec Ideal S16x768x280 .i8) (x2 : Vec Ideal S8960x1536 .fp8e4m3) (x3 : Vec Ideal S280x1536 .i8)
    (x4 : Vec Ideal S16x768x1536 .bf16) (x5 : Vec Ideal S1536 .f32) (b : Fin 16) (s : Fin 768) : Fin 1536 → EReal :=
  normed (fun d => RES x0 x1 x2 x3 x4 (ix3 b s d)) (fun d => x5 (ix1 d))

/-- The codes, of the arguments. -/
def CODES (x0 : Vec Ideal S16x768x8960 .fp8e4m3) (x1 : Vec Ideal S16x768x280 .i8) (x2 : Vec Ideal S8960x1536 .fp8e4m3) (x3 : Vec Ideal S280x1536 .i8)
    (x4 : Vec Ideal S16x768x1536 .bf16) (x5 : Vec Ideal S1536 .f32) : Vec Ideal S16x768x1536 .fp8e4m3 := fun j =>
  clip (NX x0 x1 x2 x3 x4 x5 (j 0) (j 1) (j 2) * pw (IntOp.subi 253#32 (bexp (scl (NX x0 x1 x2 x3 x4 x5 (j 0) (j 1)) (⟨(j 2).val / 32, by have := (j 2).isLt; have e : S16x768x1536.size 2 = 1536 := rfl; omega⟩ : Fin 48)))))

/-- The scale bytes, of the arguments. -/
def BYTES (x0 : Vec Ideal S16x768x8960 .fp8e4m3) (x1 : Vec Ideal S16x768x280 .i8) (x2 : Vec Ideal S8960x1536 .fp8e4m3) (x3 : Vec Ideal S280x1536 .i8)
    (x4 : Vec Ideal S16x768x1536 .bf16) (x5 : Vec Ideal S1536 .f32) : Vec Ideal S16x768x48 .i8 := fun j =>
  BitVec.setWidth 8 (IntOp.addi (bexp (scl (NX x0 x1 x2 x3 x4 x5 (j 0) (j 1)) (j 2))) 1#32)

/-- The windows' block indices at every grid point. -/
theorem idx' : ∀ t : Fin cfg0.N, win0_4.index t = ![0, 0] ∧ win0_12.index t = ![t.val, 0] ∧ win0_13.index t = ![t.val / 3, 0, t.val % 3]
    ∧ t.val < 48 := (by decide +kernel : ∀ t : Fin grid0.N, _)

theorem V_v13 (c : Dev nD) : (V m c main_v13 : Vec Ideal S1x1536 .f32)
    = shapeCast S1x1536 (m ((c : Thread nD τ).loc main_arg5) : Vec Ideal S1536 .f32) shapeCasts_S1536_S1x1536 := by
  entry_read
  rfl

theorem blk4_at (c : Dev nD) (t : Fin cfg0.N) (d : Fin 1536) :
    (iblk m c 4 t : Vec Ideal S1x1536 .f32) (ix2 (0 : Fin 1) d) = (m ((c : Thread nD τ).loc main_arg5) : Vec Ideal S1536 .f32) (ix1 d) := by
  have ei : ((cfg0.win 4).blk t).view.emb (ix2 (0 : Fin 1) d) = ix2 (0 : Fin 1) d := by blk_ext [idx' t]
  have e : (iblk m c 4 t : Vec Ideal _ _) (ix2 (0 : Fin 1) d) = V m c main_v13 (((cfg0.win 4).blk t).view.emb (ix2 (0 : Fin 1) d)) := rfl
  refine e.trans ?_
  rw [ei, V_v13]
  pointwise

/-- A point's normed row is the arguments'. -/
theorem xAt_row (c : Dev nD) (t : Fin cfg0.N) (p : Fin 256) (b : Fin 16) (s : Fin 768) (h : 768 * b.val + s.val = 256 * t.val + p.val) :
    (fun d => (xAt m c t (ix2 p d) : EReal)) = NX (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s := by
  funext d
  refine (xOf_at _ _ _ _ _ p d).trans ?_
  refine congrArg₂ (fun r w => normed r w d) (funext fun x => ?_) (funext fun x => blk4_at m c t x)
  have e := ro_point m c t p x b s h
  rw [ro_at] at e
  exact e

/-- The array of codes the call leaves. -/
theorem final12 (c : Dev nD) : (dats m 0 c).arrAt 12 cfg0.N = (fun j : S12288x1536.Idx =>
      CODES (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix3 (⟨(j 0).val / 768, by have := (j 0).isLt; have e : S12288x1536.size 0 = 12288 := rfl; omega⟩ : Fin 16) (⟨(j 0).val % 768, Nat.mod_lt _ (by decide)⟩ : Fin 768) (j 1))) := by
  refine (dats m 0 c).arrAt_eq_of_covers 12 _ (by decide +kernel) fun t hf y => ?_
  blk_simp
  rw [after0_12]
  have hN : t.val < 48 := t.isLt
  have hy : y = (ix2 (y 0 : Fin 256) (y 1 : Fin 1536) : S256x1536.Idx) := by
    funext a; fin_cases a <;> rfl
  have h0 : win0_12.index t 0 = t.val := by rw [(idx' t).2.1]; rfl
  have hp : (y 0).val < 256 := (y 0).isLt
  refine (congrArg (outsAt0 m c t.val _).2.2.2.2.1 hy).trans ?_
  rw [xc_pt]
  refine (code_at _ _ _).trans ?_
  rw [xAt_row m c t (y 0) (⟨(t.val * 256 + (y 0).val) / 768, by omega⟩ : Fin 16) (⟨(t.val * 256 + (y 0).val) % 768, Nat.mod_lt _ (by decide)⟩ : Fin 768)
    (by show 768 * ((t.val * 256 + (y 0).val) / 768) + (t.val * 256 + (y 0).val) % 768 = 256 * t.val + (y 0).val; omega)]
  rw [congrFun (xAt_row m c t (y 0) (⟨(t.val * 256 + (y 0).val) / 768, by omega⟩ : Fin 16) (⟨(t.val * 256 + (y 0).val) % 768, Nat.mod_lt _ (by decide)⟩ : Fin 768)
    (by show 768 * ((t.val * 256 + (y 0).val) / 768) + (t.val * 256 + (y 0).val) % 768 = 256 * t.val + (y 0).val; omega)) (y 1)]
  refine Eq.trans (show _ = CODES (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix3 (⟨(t.val * 256 + (y 0).val) / 768, by omega⟩ : Fin 16) (⟨(t.val * 256 + (y 0).val) % 768, Nat.mod_lt _ (by decide)⟩ : Fin 768) (y 1)) from rfl) ?_
  blk_ext [idx' t]

/-- The array of scale bytes the call leaves. -/
theorem final13 (c : Dev nD) : (dats m 0 c).arrAt 13 cfg0.N = (fun j : S16x48x768.Idx =>
      BYTES (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix3 (j 0) (j 2) (j 1))) := by
  refine (dats m 0 c).arrAt_eq_of_covers 13 _ (by decide +kernel) fun t hf y => ?_
  blk_simp
  rw [after0_13]
  have hN : t.val < 48 := t.isLt
  have hy : y = (ix3 (0 : Fin 1) (y 1 : Fin 48) (y 2 : Fin 256) : S1x48x256.Idx) := by
    funext a; fin_cases a
    · exact Subsingleton.elim (α := Fin 1) _ _
    · rfl
    · rfl
  have hp : (y 2).val < 256 := (y 2).isLt
  refine (congrArg (outsAt0 m c t.val _).2.2.2.2.2.1 hy).trans ?_
  rw [xs_pt]
  refine (byte_at _ _ _).trans ?_
  rw [xAt_row m c t (y 2) (⟨t.val / 3, by omega⟩ : Fin 16) (⟨t.val % 3 * 256 + (y 2).val, by omega⟩ : Fin 768)
    (by show 768 * (t.val / 3) + (t.val % 3 * 256 + (y 2).val) = 256 * t.val + (y 2).val; omega)]
  refine Eq.trans (show _ = BYTES (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix3 (⟨t.val / 3, by omega⟩ : Fin 16) (⟨t.val % 3 * 256 + (y 2).val, by omega⟩ : Fin 768) (y 1)) from rfl) ?_
  blk_ext [idx' t]

/-- The program's result of codes. -/
theorem tail23 (c : Dev nD) : Pipeline.afterTail₀ cfgs (dats m) 0 (V0 m) [hostOps1] c main_v23
    = CODES (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hw : Pipeline.withArrays spec0 c (V0 m c) (fun w => (dats m 0 c).arrAt w cfg0.N) (Proc.devRef .tc main_v18_4) = (dats m 0 c).arrAt 12 cfg0.N :=
    Pipeline.withArrays_arr spec0 (by decide) c (V0 m c) (fun w => (dats m 0 c).arrAt w cfg0.N) 12
  have hr : Pipeline.afterTail₀ cfgs (dats m) 0 (V0 m) [hostOps1] c main_v23
      = shapeCast S16x768x1536 (Pipeline.withArrays spec0 c (V0 m c) (fun w => (dats m 0 c).arrAt w cfg0.N) (Proc.devRef .tc main_v18_4) : Vec Ideal S12288x1536 .fp8e4m3)
          shapeCasts_S12288x1536_S16x768x1536 := by
    rfl
  rw [hr, hw, final12]
  exact cast_back _

/-- The program's result of scale bytes. -/
theorem tail24 (c : Dev nD) : Pipeline.afterTail₀ cfgs (dats m) 0 (V0 m) [hostOps1] c main_v24
    = BYTES (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hw : Pipeline.withArrays spec0 c (V0 m c) (fun w => (dats m 0 c).arrAt w cfg0.N) (Proc.devRef .tc main_v18_5) = (dats m 0 c).arrAt 13 cfg0.N :=
    Pipeline.withArrays_arr spec0 (by decide) c (V0 m c) (fun w => (dats m 0 c).arrAt w cfg0.N) 13
  have hr : Pipeline.afterTail₀ cfgs (dats m) 0 (V0 m) [hostOps1] c main_v24
      = transpose S16x768x48 [0, 2, 1] (Pipeline.withArrays spec0 c (V0 m c) (fun w => (dats m 0 c).arrAt w cfg0.N) (Proc.devRef .tc main_v18_5) : Vec Ideal S16x48x768 .i8)
          transposes_S16x48x768_S16x768x48_0_2_1 := by
    rfl
  rw [hr, hw, final13]
  funext j
  have hj : j = ix3 (j 0 : Fin 16) (j 1 : Fin 768) (j 2 : Fin 48) := by
    funext a; fin_cases a <;> rfl
  generalize hB : BYTES _ _ _ _ _ _ = B
  rw [hj]
  pointwise

end Cert.KernelIdeal.Value
-- ==== Proof.QuantAgree.lean ====
module

public import proofs.«01_k».proof.Proof.RefQuant
public import proofs.«01_k».proof.Proof.KernelQuant
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

open Cert.ReferenceIdeal.Gen (k0_pay5 k0_pay6 k0_pay7 k0_pay8 k0_pay9 k0_pay10 k0_pay11 k0_pay12)

section
variable (x0 : Vec Ideal S16x768x8960 .fp8e4m3) (x1 : Vec Ideal S16x768x280 .i8) (x2 : Vec Ideal S8960x1536 .fp8e4m3) (x3 : Vec Ideal S280x1536 .i8)
    (x4 : Vec Ideal S16x768x1536 .bf16) (x5 : Vec Ideal S1536 .f32)

theorem pay7_at (p : Fin 16) (q : Fin 768) :
    (k0_pay7 (F := Ideal) x0 x1 x2 x3 x4 (ix3 p q (0 : Fin 1)) : EReal)
      = Ideal.div (∑ x : Fin 1536, (k0_pay6 x0 x1 x2 x3 x4 (ix3 p q x) : EReal) * k0_pay6 x0 x1 x2 x3 x4 (ix3 p q x)) (Ideal.ofBits FTy.f32 1153433600#32) := by
  unfold Cert.ReferenceIdeal.Gen.k0_pay7
  generalize k0_pay6 x0 x1 x2 x3 x4 = W
  pointwise []

theorem pay8_at' (v32 : FVec Ideal S16x768x1536 .f32) (v37 : FVec Ideal Cert.ReferenceIdeal.S16x768x1 .f32) (p : Fin 16) (q : Fin 768) (g : Fin 48) (k : Fin 32) :
    (k0_pay8 (F := Ideal) v32 v37 x5 (ix4 p q g k) : EReal)
      = v32 (ix3 p q (⟨g.val * 32 + k.val, by omega⟩ : Fin 1536)) * Ideal.rsqrt (v37 (ix3 p q (0 : Fin 1)) + Ideal.ofBits FTy.f32 897988541#32) * x5 (ix1 (⟨g.val * 32 + k.val, by omega⟩ : Fin 1536)) := by
  pointwise [Cert.ReferenceIdeal.Gen.k0_pay8]

theorem pay8_at (p : Fin 16) (q : Fin 768) (g : Fin 48) (k : Fin 32) :
    (k0_pay8 (F := Ideal) (k0_pay6 x0 x1 x2 x3 x4) (k0_pay7 x0 x1 x2 x3 x4) x5 (ix4 p q g k) : EReal)
      = normed (fun d => k0_pay6 x0 x1 x2 x3 x4 (ix3 p q d)) (fun d => x5 (ix1 d)) (⟨g.val * 32 + k.val, by omega⟩ : Fin 1536) := by
  rw [pay8_at', pay7_at]
  rfl

/-- The reference's exponent of a group. -/
theorem pay9_at (p : Fin 16) (q : Fin 768) (g : Fin 48) :
    k0_pay9 (F := Ideal) (k0_pay6 x0 x1 x2 x3 x4) (k0_pay7 x0 x1 x2 x3 x4) x5 (ix4 p q g (0 : Fin 1))
      = rexp (scl (normed (fun d => k0_pay6 x0 x1 x2 x3 x4 (ix3 p q d)) (fun d => x5 (ix1 d))) g) := by
  have hy : (refY (k0_pay8 (F := Ideal) (k0_pay6 x0 x1 x2 x3 x4) (k0_pay7 x0 x1 x2 x3 x4) x5) (ix4 p q g (0 : Fin 1)) : EReal)
      = scl (normed (fun d => k0_pay6 x0 x1 x2 x3 x4 (ix3 p q d)) (fun d => x5 (ix1 d))) g := by
    rw [refY_at]
    unfold scl top32
    simp only [pay8_at]
  rw [pay9_split]
  generalize refY (k0_pay8 (F := Ideal) (k0_pay6 x0 x1 x2 x3 x4) (k0_pay7 x0 x1 x2 x3 x4) x5) = y at hy
  rw [refE_at, refCount_at, ← hy]
  simp only [refBelow_at]
  rfl

theorem pay10_at (v32 : FVec Ideal S16x768x1536 .f32) (v37 : FVec Ideal Cert.ReferenceIdeal.S16x768x1 .f32) (p : Fin 16) (q : Fin 768) (d : Fin 1536) :
    (k0_pay10 (F := Ideal) v32 v37 x5 (ix3 p q d) : EReal)
      = clip (k0_pay8 v32 v37 x5 (ix4 p q (⟨d.val / 32, by omega⟩ : Fin 48) (⟨d.val % 32, Nat.mod_lt _ (by decide)⟩ : Fin 32))
          * FloatOps.exp2 (F := Ideal) (φ := .f32) ((0 : EReal) - (FloatOps.sitofp (F := Ideal) FTy.f32 (k0_pay9 v32 v37 x5 (ix4 p q (⟨d.val / 32, by omega⟩ : Fin 48) (0 : Fin 1))) : EReal))) := by
  unfold Cert.ReferenceIdeal.Gen.k0_pay10
  generalize k0_pay9 v32 v37 x5 = E
  generalize k0_pay8 v32 v37 x5 = X
  pointwise [clip]

theorem pay12_at (v32 : FVec Ideal S16x768x1536 .f32) (v37 : FVec Ideal Cert.ReferenceIdeal.S16x768x1 .f32) (p : Fin 16) (q : Fin 768) (g : Fin 48) :
    k0_pay12 (k0_pay11 (F := Ideal) v32 v37 x5) (ix3 p q g) = BitVec.setWidth 8 (IntOp.addi (k0_pay9 v32 v37 x5 (ix4 p q g (0 : Fin 1))) 127#32) := by
  unfold Cert.ReferenceIdeal.Gen.k0_pay12 Cert.ReferenceIdeal.Gen.k0_pay11
  generalize k0_pay9 v32 v37 x5 = E
  pointwise []

/-- Where the scale bytes decode and the weights are finite, the reference's codes are the kernel's. -/
theorem codes_agree (h1 : ∀ i, 1 ≤ (x1 i : BitVec 8).toNat ∧ (x1 i : BitVec 8).toNat ≤ 254)
    (h3 : ∀ i, 1 ≤ (x3 i : BitVec 8).toNat ∧ (x3 i : BitVec 8).toNat ≤ 254) (h5 : ∀ d, ∃ u : ℝ, |u| ≤ 2 ^ 128 ∧ (x5 (ix1 d) : EReal) = (u : EReal)) :
    k0_pay10 (F := Ideal) (k0_pay6 x0 x1 x2 x3 x4) (k0_pay7 x0 x1 x2 x3 x4) x5 = CODES x0 x1 x2 x3 x4 x5 := by
  have h6 : k0_pay6 (F := Ideal) x0 x1 x2 x3 x4 = (RES x0 x1 x2 x3 x4 : S16x768x1536.Idx → EReal) := pay5_eq x0 x1 x2 x3 x4 h1 h3
  funext j
  have hj : j = ix3 (j 0 : Fin 16) (j 1 : Fin 768) (j 2 : Fin 1536) := by
    funext a; fin_cases a <;> rfl
  suffices H : ∀ (b : Fin 16) (s : Fin 768) (d : Fin 1536), k0_pay10 (F := Ideal) (k0_pay6 x0 x1 x2 x3 x4) (k0_pay7 x0 x1 x2 x3 x4) x5 (ix3 b s d) = CODES x0 x1 x2 x3 x4 x5 (ix3 b s d) from
    (congrArg _ hj).trans ((H _ _ _).trans (congrArg _ hj.symm))
  intro b s d
  refine (pay10_at x5 _ _ b s d).trans ?_
  rw [pay8_at, pay9_at, inv_eq _ (scl_lt _ _ h5 _), h6]
  have hd : (⟨d.val / 32 * 32 + d.val % 32, by omega⟩ : Fin 1536) = d := Fin.ext (by show d.val / 32 * 32 + d.val % 32 = d.val; omega)
  show clip (normed _ _ (⟨d.val / 32 * 32 + d.val % 32, _⟩ : Fin 1536) * _) = _
  rw [hd]
  rfl

/-- Likewise the scale bytes. -/
theorem bytes_agree (h1 : ∀ i, 1 ≤ (x1 i : BitVec 8).toNat ∧ (x1 i : BitVec 8).toNat ≤ 254)
    (h3 : ∀ i, 1 ≤ (x3 i : BitVec 8).toNat ∧ (x3 i : BitVec 8).toNat ≤ 254) (h5 : ∀ d, ∃ u : ℝ, |u| ≤ 2 ^ 128 ∧ (x5 (ix1 d) : EReal) = (u : EReal)) :
    k0_pay12 (k0_pay11 (F := Ideal) (k0_pay6 x0 x1 x2 x3 x4) (k0_pay7 x0 x1 x2 x3 x4) x5) = BYTES x0 x1 x2 x3 x4 x5 := by
  have h6 : k0_pay6 (F := Ideal) x0 x1 x2 x3 x4 = (RES x0 x1 x2 x3 x4 : S16x768x1536.Idx → EReal) := pay5_eq x0 x1 x2 x3 x4 h1 h3
  funext j
  have hj : j = ix3 (j 0 : Fin 16) (j 1 : Fin 768) (j 2 : Fin 48) := by
    funext a; fin_cases a <;> rfl
  suffices H : ∀ (b : Fin 16) (s : Fin 768) (g : Fin 48), k0_pay12 (k0_pay11 (F := Ideal) (k0_pay6 x0 x1 x2 x3 x4) (k0_pay7 x0 x1 x2 x3 x4) x5) (ix3 b s g) = BYTES x0 x1 x2 x3 x4 x5 (ix3 b s g) from
    (congrArg _ hj).trans ((H _ _ _).trans (congrArg _ hj.symm))
  intro b s g
  refine (pay12_at x5 _ _ b s g).trans ?_
  rw [pay9_at, scale_eq _ (scl_lt _ _ h5 _), h6]
  rfl
end

end Cert.KernelIdeal.Value
-- ==== Proof.Algebraic.lean ====
module

public import proofs.«01_k».proof.Defs
public import proofs.«01_k».proof.Proof.KernelResidual
public import proofs.«01_k».proof.Proof.Reference
public import proofs.«01_k».proof.Proof.QuantAgree
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof

theorem preFacts : Cert.Pre_decodable.Facts := ⟨by decide, by decide, by decide⟩
theorem onFacts : Cert.On_covered.Facts := ⟨by decide, by decide, by decide, by decide⟩

/-- A result outside the mask owes nothing. -/
theorem off {p : Prop} (h : (0#1 : BitVec 1) = 1#1) : p := absurd h (by decide)

/-- The precondition, read: every scale byte of the down projection is between 1 and 254. -/
theorem byte_range {s : Shape} (lo hi x : IVec s 8) (i : s.Idx) (hlo : lo i = 1#8) (hhi : hi i = 254#8)
    (h : andi (cmpi .uge x lo) (cmpi .ule x hi) = fun _ => 1#1) : 1 ≤ (x i).toNat ∧ (x i).toNat ≤ 254 := by
  have hi' := congrFun h i
  simp only [andi, cmpi, hlo, hhi] at hi'
  generalize x i = b at hi'
  revert b
  decide

/-- The precondition, read: a norm weight is a real number no larger than single precision's largest. -/
theorem finite_weight {s : Shape} (big x : FVec Ideal s .f32) (i : s.Idx) (hb : (big i : EReal) = Ideal.ofBits FTy.f32 2139095039#32)
    (h : cmpf .ole (Host.absf x) big = fun _ => 1#1) : ∃ u : ℝ, |u| ≤ 2 ^ 128 ∧ (x i : EReal) = (u : EReal) := by
  have hc : BitVec.ofBool (decide (max (x i : EReal) (-(x i : EReal)) ≤ (big i : EReal))) = 1#1 := congrFun h i
  have hle : max (x i : EReal) (-(x i : EReal)) ≤ (big i : EReal) := by
    by_contra hn
    rw [decide_eq_false hn] at hc
    exact absurd hc (by decide)
  rw [hb, Cert.KernelIdeal.Value.ofBits_normal _ 254 8388607 (by decide) (by decide) (by decide) (by decide) (by decide)] at hle
  generalize (x i : EReal) = a at hle
  induction a using EReal.rec with
  | bot => exact absurd ((le_max_right _ _).trans hle) (by rw [EReal.neg_bot, top_le_iff]; exact EReal.coe_ne_top _)
  | top => exact absurd ((le_max_left _ _).trans hle) (by rw [top_le_iff]; exact EReal.coe_ne_top _)
  | coe a =>
    refine ⟨a, abs_le.mpr ?_, rfl⟩
    have h1 := EReal.coe_le_coe_iff.mp ((le_max_left _ _).trans hle)
    have h2 := EReal.coe_le_coe_iff.mp ((EReal.coe_neg a).le.trans ((le_max_right _ _).trans hle))
    norm_num at h1 h2 ⊢
    constructor <;> linarith

theorem pre_range [Cert.Pre_decodable.Facts] (a0 : FVec Ideal Cert.Pre_decodable.S16x768x8960 .fp8e4m3) (a1 : IVec Cert.Pre_decodable.S16x768x280 8) (a2) (a3 : IVec Cert.Pre_decodable.S280x1536 8) (a4)
    (a5 : FVec Ideal Cert.Pre_decodable.S1536 .f32) (a6) (a7) (a8)
    (h : (Cert.Pre_decodable.fn (F := Ideal) a0 a1 a2 a3 a4 a5 a6 a7 a8).1 = (fun _ => 1#1) ∧ (Cert.Pre_decodable.fn (F := Ideal) a0 a1 a2 a3 a4 a5 a6 a7 a8).2.1 = (fun _ => 1#1)
      ∧ (Cert.Pre_decodable.fn (F := Ideal) a0 a1 a2 a3 a4 a5 a6 a7 a8).2.2 = (fun _ => 1#1)) :
    (∀ i, 1 ≤ (a1 i).toNat ∧ (a1 i).toNat ≤ 254) ∧ (∀ i, 1 ≤ (a3 i).toNat ∧ (a3 i).toNat ≤ 254)
      ∧ (∀ i, ∃ u : ℝ, |u| ≤ 2 ^ 128 ∧ (a5 i : EReal) = (u : EReal)) :=
  ⟨fun i => byte_range _ _ a1 i rfl rfl h.1, fun i => byte_range _ _ a3 i rfl rfl h.2.1, fun i => finite_weight _ a5 i rfl h.2.2⟩

theorem value : Cert.algebraic_KernelIdeal_ReferenceIdeal_on_covered_pre_decodable (hKernelIdeal := Cert.KernelIdeal.Gen.facts)
    (hReferenceIdeal := Cert.ReferenceIdeal.Gen.facts) (hPre_decodable := preFacts) (hOn_covered := onFacts) := by
  letI := preFacts
  letI := onFacts
  intro m g m' g' hp hm
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v19,
    fun c => Pipeline.afterTail₀ Cert.KernelIdeal.cfgs (Cert.KernelIdeal.Gen.dats m) 0 (Cert.KernelIdeal.Gen.V0 m) [Cert.KernelIdeal.Gen.hostOps1] c Cert.KernelIdeal.main_v20,
    fun c => Pipeline.afterTail₀ Cert.KernelIdeal.cfgs (Cert.KernelIdeal.Gen.dats m) 0 (Cert.KernelIdeal.Gen.V0 m) [Cert.KernelIdeal.Gen.hostOps1] c Cert.KernelIdeal.main_v21,
    fun c => Pipeline.afterTail₀ Cert.KernelIdeal.cfgs (Cert.KernelIdeal.Gen.dats m) 0 (Cert.KernelIdeal.Gen.V0 m) [Cert.KernelIdeal.Gen.hostOps1] c Cert.KernelIdeal.main_v22,
    fun c => Pipeline.afterTail₀ Cert.KernelIdeal.cfgs (Cert.KernelIdeal.Gen.dats m) 0 (Cert.KernelIdeal.Gen.V0 m) [Cert.KernelIdeal.Gen.hostOps1] c Cert.KernelIdeal.main_v23,
    fun c => Pipeline.afterTail₀ Cert.KernelIdeal.cfgs (Cert.KernelIdeal.Gen.dats m) 0 (Cert.KernelIdeal.Gen.V0 m) [Cert.KernelIdeal.Gen.hostOps1] c Cert.KernelIdeal.main_v24, ?_, ?_⟩
  · refine θ_run_mono (θ_run_and (Cert.KernelIdeal.Gen.run_main m g) (Cert.KernelIdeal.Gen.unchanged m g)) ?_
    rintro r ⟨h, hu⟩ c
    exact ⟨fun i _ => congrFun ((h c).2 Cert.KernelIdeal.main_v19 (by decide)) i, fun i hi => off hi, fun i hi => off hi,
      fun i hi => off hi, fun i _ => congrFun ((h c).2 Cert.KernelIdeal.main_v23 (by decide)) i, fun i _ => congrFun ((h c).2 Cert.KernelIdeal.main_v24 (by decide)) i, hu c⟩
  · refine θ_run_mono (θ_run_and (Cert.ReferenceIdeal.Gen.run_main m' g') (Cert.ReferenceIdeal.Gen.unchanged m' g')) ?_
    rintro r ⟨h, hu⟩ c
    obtain ⟨h1, h3, h5⟩ := pre_range _ _ _ _ _ _ _ _ _ (hp c)
    obtain ⟨e0, e1, e2, e3, e4, e5, -⟩ := hm c
    refine ⟨fun i _ => congrFun (((h c).1 10).trans ?_) i, fun i hi => off hi, fun i hi => off hi,
      fun i hi => off hi, fun i _ => congrFun (((h c).1 14).trans ?_) i, fun i _ => congrFun (((h c).1 15).trans ?_) i, hu c⟩
    · refine (Cert.ReferenceIdeal.Value.final10 m' c).trans (Eq.trans ?_ (Cert.KernelIdeal.Value.tail19 m c).symm)
      rw [e0, e1, e2, e3, e4]
      exact Cert.KernelIdeal.Value.pay5_eq _ _ _ _ _ h1 h3
    · refine (Cert.ReferenceIdeal.Value.final14 m' c).trans (Eq.trans ?_ (Cert.KernelIdeal.Value.tail23 m c).symm)
      rw [e0, e1, e2, e3, e4, e5]
      exact Cert.KernelIdeal.Value.codes_agree _ _ _ _ _ _ h1 h3 fun d => h5 (ix1 d)
    · refine (Cert.ReferenceIdeal.Value.final15 m' c).trans (Eq.trans ?_ (Cert.KernelIdeal.Value.tail24 m c).symm)
      rw [e0, e1, e2, e3, e4, e5]
      exact Cert.KernelIdeal.Value.bytes_agree _ _ _ _ _ _ h1 h3 fun d => h5 (ix1 d)
end Cert.Proof
-- ==== Proof.lean ====
/- The claims of `Cert.Claim`: the frames, the rewriting rules' statements and the values of the first, fifth and sixth results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preFacts, onFacts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, value⟩

end Cert.Proof

end
